-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11))).1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11))).2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11))).2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11))).2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11))).2.2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11))).2.2.2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11))).2.2.2.2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11))).2.2.2.2.2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11))).2.2.2.2.2.2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11))).2.2.2.2.2.2.2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11))).2.2.2.2.2.2.2.2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11))).2.2.2.2.2.2.2.2.2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11))).1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11))).2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11))).2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11))).2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11))).2.2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11))).2.2.2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11))).2.2.2.2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11))).2.2.2.2.2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11))).2.2.2.2.2.2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11))).2.2.2.2.2.2.2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11))).2.2.2.2.2.2.2.2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11))).2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11))
      ∧ r.2.sem = fun _ => 0)

def preserves_Kernel_KernelIdeal : Prop :=
  IdealRules.named_const.Statement Cert.KernelIdeal.κ "gelu_k" .f32 0x3D372713#32 ((8943 / 200000 : ℝ) : EReal)
  ∧ IdealRules.named_const.Statement Cert.KernelIdeal.κ "gelu_3k" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v8_3)) (v4 : (c : Dev Cert.KernelIdeal.nD) → Buf (Elt Ideal) ((c.tc : Thread Cert.KernelIdeal.nD Cert.KernelIdeal.τ).loc Cert.KernelIdeal.main_v8_4)) (v5 : (c : Dev Cert.KernelIdeal.nD) → Buf (Elt Ideal) ((c.tc : Thread Cert.KernelIdeal.nD Cert.KernelIdeal.τ).loc Cert.KernelIdeal.main_v8_5)) (v6 : (c : Dev Cert.KernelIdeal.nD) → Buf (Elt Ideal) ((c.tc : Thread Cert.KernelIdeal.nD Cert.KernelIdeal.τ).loc Cert.KernelIdeal.main_v8_6)) (v7 : (c : Dev Cert.KernelIdeal.nD) → Buf (Elt Ideal) ((c.tc : Thread Cert.KernelIdeal.nD Cert.KernelIdeal.τ).loc Cert.KernelIdeal.main_v8_7)) (v8 : (c : Dev Cert.KernelIdeal.nD) → Buf (Elt Ideal) ((c.tc : Thread Cert.KernelIdeal.nD Cert.KernelIdeal.τ).loc Cert.KernelIdeal.main_v8_8)) (v9 : (c : Dev Cert.KernelIdeal.nD) → Buf (Elt Ideal) ((c.tc : Thread Cert.KernelIdeal.nD Cert.KernelIdeal.τ).loc Cert.KernelIdeal.main_v8_9)) (v10 : (c : Dev Cert.KernelIdeal.nD) → Buf (Elt Ideal) ((c.tc : Thread Cert.KernelIdeal.nD Cert.KernelIdeal.τ).loc Cert.KernelIdeal.main_v8_10)) (v11 : (c : Dev Cert.KernelIdeal.nD) → Buf (Elt Ideal) ((c.tc : Thread Cert.KernelIdeal.nD Cert.KernelIdeal.τ).loc Cert.KernelIdeal.main_v8_11)) (v12 : (c : Dev Cert.KernelIdeal.nD) → Buf (Elt Ideal) ((c.tc : Thread Cert.KernelIdeal.nD Cert.KernelIdeal.τ).loc Cert.KernelIdeal.main_v8_12)) (v13 : (c : Dev Cert.KernelIdeal.nD) → Buf (Elt Ideal) ((c.tc : Thread Cert.KernelIdeal.nD Cert.KernelIdeal.τ).loc Cert.KernelIdeal.main_v8_13)) (v14 : (c : Dev Cert.KernelIdeal.nD) → Buf (Elt Ideal) ((c.tc : Thread Cert.KernelIdeal.nD Cert.KernelIdeal.τ).loc Cert.KernelIdeal.main_v8_14)) (v15 : (c : Dev Cert.KernelIdeal.nD) → Buf (Elt Ideal) ((c.tc : Thread Cert.KernelIdeal.nD Cert.KernelIdeal.τ).loc Cert.KernelIdeal.main_v8_15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v8_3) = v3 c
          ∧ r.2.mem ((c.tc : Thread Cert.KernelIdeal.nD Cert.KernelIdeal.τ).loc Cert.KernelIdeal.main_v8_4) = v4 c
          ∧ r.2.mem ((c.tc : Thread Cert.KernelIdeal.nD Cert.KernelIdeal.τ).loc Cert.KernelIdeal.main_v8_5) = v5 c
          ∧ r.2.mem ((c.tc : Thread Cert.KernelIdeal.nD Cert.KernelIdeal.τ).loc Cert.KernelIdeal.main_v8_6) = v6 c
          ∧ r.2.mem ((c.tc : Thread Cert.KernelIdeal.nD Cert.KernelIdeal.τ).loc Cert.KernelIdeal.main_v8_7) = v7 c
          ∧ r.2.mem ((c.tc : Thread Cert.KernelIdeal.nD Cert.KernelIdeal.τ).loc Cert.KernelIdeal.main_v8_8) = v8 c
          ∧ r.2.mem ((c.tc : Thread Cert.KernelIdeal.nD Cert.KernelIdeal.τ).loc Cert.KernelIdeal.main_v8_9) = v9 c
          ∧ r.2.mem ((c.tc : Thread Cert.KernelIdeal.nD Cert.KernelIdeal.τ).loc Cert.KernelIdeal.main_v8_10) = v10 c
          ∧ r.2.mem ((c.tc : Thread Cert.KernelIdeal.nD Cert.KernelIdeal.τ).loc Cert.KernelIdeal.main_v8_11) = v11 c
          ∧ r.2.mem ((c.tc : Thread Cert.KernelIdeal.nD Cert.KernelIdeal.τ).loc Cert.KernelIdeal.main_v8_12) = v12 c
          ∧ r.2.mem ((c.tc : Thread Cert.KernelIdeal.nD Cert.KernelIdeal.τ).loc Cert.KernelIdeal.main_v8_13) = v13 c
          ∧ r.2.mem ((c.tc : Thread Cert.KernelIdeal.nD Cert.KernelIdeal.τ).loc Cert.KernelIdeal.main_v8_14) = v14 c
          ∧ r.2.mem ((c.tc : Thread Cert.KernelIdeal.nD Cert.KernelIdeal.τ).loc Cert.KernelIdeal.main_v8_15) = v15 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_v198) = v1 c
          ∧ r.2.mem ((c.tc : Thread Cert.ReferenceIdeal.nD Cert.ReferenceIdeal.τ).loc Cert.ReferenceIdeal.main_v199) = v2 c
          ∧ r.2.mem ((c.tc : Thread Cert.ReferenceIdeal.nD Cert.ReferenceIdeal.τ).loc Cert.ReferenceIdeal.main_v200) = v3 c
          ∧ r.2.mem ((c.tc : Thread Cert.ReferenceIdeal.nD Cert.ReferenceIdeal.τ).loc Cert.ReferenceIdeal.main_v201) = v4 c
          ∧ r.2.mem ((c.tc : Thread Cert.ReferenceIdeal.nD Cert.ReferenceIdeal.τ).loc Cert.ReferenceIdeal.main_v202) = v5 c
          ∧ r.2.mem ((c.tc : Thread Cert.ReferenceIdeal.nD Cert.ReferenceIdeal.τ).loc Cert.ReferenceIdeal.main_v203) = v6 c
          ∧ r.2.mem ((c.tc : Thread Cert.ReferenceIdeal.nD Cert.ReferenceIdeal.τ).loc Cert.ReferenceIdeal.main_v179) = v7 c
          ∧ r.2.mem ((c.tc : Thread Cert.ReferenceIdeal.nD Cert.ReferenceIdeal.τ).loc Cert.ReferenceIdeal.main_v196) = v8 c
          ∧ r.2.mem ((c.tc : Thread Cert.ReferenceIdeal.nD Cert.ReferenceIdeal.τ).loc Cert.ReferenceIdeal.main_v204) = v9 c
          ∧ r.2.mem ((c.tc : Thread Cert.ReferenceIdeal.nD Cert.ReferenceIdeal.τ).loc Cert.ReferenceIdeal.main_v205) = v10 c
          ∧ r.2.mem ((c.tc : Thread Cert.ReferenceIdeal.nD Cert.ReferenceIdeal.τ).loc Cert.ReferenceIdeal.main_v206) = v11 c
          ∧ r.2.mem ((c.tc : Thread Cert.ReferenceIdeal.nD Cert.ReferenceIdeal.τ).loc Cert.ReferenceIdeal.main_v207) = v12 c
          ∧ r.2.mem ((c.tc : Thread Cert.ReferenceIdeal.nD Cert.ReferenceIdeal.τ).loc Cert.ReferenceIdeal.main_v208) = v13 c
          ∧ r.2.mem ((c.tc : Thread Cert.ReferenceIdeal.nD Cert.ReferenceIdeal.τ).loc Cert.ReferenceIdeal.main_v209) = v14 c
          ∧ r.2.mem ((c.tc : Thread Cert.ReferenceIdeal.nD Cert.ReferenceIdeal.τ).loc Cert.ReferenceIdeal.main_v210) = v15 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)) →
    ∃ (v0 : (c : Dev Cert.Kernel7Ideal.nD) → Buf (Elt Ideal) ((c.tc : Thread Cert.Kernel7Ideal.nD Cert.Kernel7Ideal.τ).loc Cert.Kernel7Ideal.main_v16_0)) (v1 : (c : Dev Cert.Kernel7Ideal.nD) → Buf (Elt Ideal) ((c.tc : Thread Cert.Kernel7Ideal.nD Cert.Kernel7Ideal.τ).loc Cert.Kernel7Ideal.main_v16_1)) (v2 : (c : Dev Cert.Kernel7Ideal.nD) → Buf (Elt Ideal) ((c.tc : Thread Cert.Kernel7Ideal.nD Cert.Kernel7Ideal.τ).loc Cert.Kernel7Ideal.main_v16_2)) (v3 : (c : Dev Cert.Kernel7Ideal.nD) → Buf (Elt Ideal) ((c.tc : Thread Cert.Kernel7Ideal.nD Cert.Kernel7Ideal.τ).loc Cert.Kernel7Ideal.main_v16_3)) (v4 : (c : Dev Cert.Kernel7Ideal.nD) → Buf (Elt Ideal) ((c.tc : Thread Cert.Kernel7Ideal.nD Cert.Kernel7Ideal.τ).loc Cert.Kernel7Ideal.main_v16_4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v16_0) = v0 c
          ∧ r.2.mem ((c.tc : Thread Cert.Kernel7Ideal.nD Cert.Kernel7Ideal.τ).loc Cert.Kernel7Ideal.main_v16_1) = v1 c
          ∧ r.2.mem ((c.tc : Thread Cert.Kernel7Ideal.nD Cert.Kernel7Ideal.τ).loc Cert.Kernel7Ideal.main_v16_2) = v2 c
          ∧ r.2.mem ((c.tc : Thread Cert.Kernel7Ideal.nD Cert.Kernel7Ideal.τ).loc Cert.Kernel7Ideal.main_v16_3) = v3 c
          ∧ r.2.mem ((c.tc : Thread Cert.Kernel7Ideal.nD Cert.Kernel7Ideal.τ).loc Cert.Kernel7Ideal.main_v16_4) = v4 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v123) = v0 c
          ∧ r.2.mem ((c.tc : Thread Cert.Reference7Ideal.nD Cert.Reference7Ideal.τ).loc Cert.Reference7Ideal.main_v124) = v1 c
          ∧ r.2.mem ((c.tc : Thread Cert.Reference7Ideal.nD Cert.Reference7Ideal.τ).loc Cert.Reference7Ideal.main_v125) = v2 c
          ∧ r.2.mem ((c.tc : Thread Cert.Reference7Ideal.nD Cert.Reference7Ideal.τ).loc Cert.Reference7Ideal.main_v126) = v3 c
          ∧ r.2.mem ((c.tc : Thread Cert.Reference7Ideal.nD Cert.Reference7Ideal.τ).loc Cert.Reference7Ideal.main_v127) = v4 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_finite7 : Cert.Pre_finite7.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
-- ==== Pre_finite.lean ====
abbrev S16384x512 : Shape := ⟨2, ![16384, 512]⟩
abbrev S16384x1024 : Shape := ⟨2, ![16384, 1024]⟩
abbrev S512x512 : Shape := ⟨2, ![512, 512]⟩
abbrev S512 : Shape := ⟨1, ![512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩

class Facts : Prop where
  bcast_S_S16384x512 : S_.BroadcastsInDim S16384x512 (![] : Fin 0 → Fin S16384x512.rank)
  bcast_S_S16384x1024 : S_.BroadcastsInDim S16384x1024 (![] : Fin 0 → Fin S16384x1024.rank)
  bcast_S_S512x512 : S_.BroadcastsInDim S512x512 (![] : Fin 0 → Fin S512x512.rank)
  bcast_S_S512 : S_.BroadcastsInDim S512 (![] : Fin 0 → Fin S512.rank)
  bcast_S_S1024x1024 : S_.BroadcastsInDim S1024x1024 (![] : Fin 0 → Fin S1024x1024.rank)
  bcast_S_S1024 : S_.BroadcastsInDim S1024 (![] : Fin 0 → Fin S1024.rank)
  bcast_S_S1024x4096 : S_.BroadcastsInDim S1024x4096 (![] : Fin 0 → Fin S1024x4096.rank)
  bcast_S_S4096x1024 : S_.BroadcastsInDim S4096x1024 (![] : Fin 0 → Fin S4096x1024.rank)

variable [Facts]

def fn_part1 {F : FTy → Type} [FloatOps F] (main_arg6 : FVec F S512 .f32) (main_arg7 : FVec F S512 .f32) (main_arg8 : FVec F S1024x1024 .f32) (main_arg9 : FVec F S1024 .f32) (main_arg10 : FVec F S1024x4096 .f32) (main_arg11 : FVec F S4096x1024 .f32) (main_v2 : IVec S16384x512 1) (main_v5 : IVec S16384x512 1) (main_v8 : IVec S16384x1024 1) (main_v11 : IVec S16384x1024 1) (main_v14 : IVec S512x512 1) (main_v17 : IVec S512 1) : IVec S16384x512 1 × IVec S16384x512 1 × IVec S16384x1024 1 × IVec S16384x1024 1 × IVec S512x512 1 × IVec S512 1 × IVec S512 1 × IVec S512 1 × IVec S1024x1024 1 × IVec S1024 1 × IVec S1024x4096 1 × IVec S4096x1024 1 :=
  let main_v18 : FVec F S512 .f32 := Host.absf main_arg6
  let main_cst_5 : FVec F S_ .f32 := constant S_ .f32 0x7F800000#32
  let main_v19 : FVec F S512 .f32 := broadcastInDim S512 ![] bcast_S_S512 main_cst_5
  let main_v20 : IVec S512 1 := cmpf .olt main_v18 main_v19
  let main_v21 : FVec F S512 .f32 := Host.absf main_arg7
  let main_cst_6 : FVec F S_ .f32 := constant S_ .f32 0x7F800000#32
  let main_v22 : FVec F S512 .f32 := broadcastInDim S512 ![] bcast_S_S512 main_cst_6
  let main_v23 : IVec S512 1 := cmpf .olt main_v21 main_v22
  let main_v24 : FVec F S1024x1024 .f32 := Host.absf main_arg8
  let main_cst_7 : FVec F S_ .f32 := constant S_ .f32 0x7F800000#32
  let main_v25 : FVec F S1024x1024 .f32 := broadcastInDim S1024x1024 ![] bcast_S_S1024x1024 main_cst_7
  let main_v26 : IVec S1024x1024 1 := cmpf .olt main_v24 main_v25
  let main_v27 : FVec F S1024 .f32 := Host.absf main_arg9
  let main_cst_8 : FVec F S_ .f32 := constant S_ .f32 0x7F800000#32
  let main_v28 : FVec F S1024 .f32 := broadcastInDim S1024 ![] bcast_S_S1024 main_cst_8
  let main_v29 : IVec S1024 1 := cmpf .olt main_v27 main_v28
  let main_v30 : FVec F S1024x4096 .f32 := Host.absf main_arg10
  let main_cst_9 : FVec F S_ .f32 := constant S_ .f32 0x7F800000#32
  let main_v31 : FVec F S1024x4096 .f32 := broadcastInDim S1024x4096 ![] bcast_S_S1024x4096 main_cst_9
  let main_v32 : IVec S1024x4096 1 := cmpf .olt main_v30 main_v31
  let main_v33 : FVec F S4096x1024 .f32 := Host.absf main_arg11
  let main_cst_10 : FVec F S_ .f32 := constant S_ .f32 0x7F800000#32
  let main_v34 : FVec F S4096x1024 .f32 := broadcastInDim S4096x1024 ![] bcast_S_S4096x1024 main_cst_10
  let main_v35 : IVec S4096x1024 1 := cmpf .olt main_v33 main_v34
  (main_v2, main_v5, main_v8, main_v11, main_v14, main_v17, main_v20, main_v23, main_v26, main_v29, main_v32, main_v35)

def fn {F : FTy → Type} [FloatOps F] (main_arg0 : FVec F S16384x512 .f32) (main_arg1 : FVec F S16384x512 .f32) (main_arg2 : FVec F S16384x1024 .f32) (main_arg3 : FVec F S16384x1024 .f32) (main_arg4 : FVec F S512x512 .f32) (main_arg5 : FVec F S512 .f32) (main_arg6 : FVec F S512 .f32) (main_arg7 : FVec F S512 .f32) (main_arg8 : FVec F S1024x1024 .f32) (main_arg9 : FVec F S1024 .f32) (main_arg10 : FVec F S1024x4096 .f32) (main_arg11 : FVec F S4096x1024 .f32) : IVec S16384x512 1 × IVec S16384x512 1 × IVec S16384x1024 1 × IVec S16384x1024 1 × IVec S512x512 1 × IVec S512 1 × IVec S512 1 × IVec S512 1 × IVec S1024x1024 1 × IVec S1024 1 × IVec S1024x4096 1 × IVec S4096x1024 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_v3 : FVec F S16384x512 .f32 := Host.absf main_arg1
  let main_cst_0 : FVec F S_ .f32 := constant S_ .f32 0x7F800000#32
  let main_v4 : FVec F S16384x512 .f32 := broadcastInDim S16384x512 ![] bcast_S_S16384x512 main_cst_0
  let main_v5 : IVec S16384x512 1 := cmpf .olt main_v3 main_v4
  let main_v6 : FVec F S16384x1024 .f32 := Host.absf main_arg2
  let main_cst_1 : FVec F S_ .f32 := constant S_ .f32 0x7F800000#32
  let main_v7 : FVec F S16384x1024 .f32 := broadcastInDim S16384x1024 ![] bcast_S_S16384x1024 main_cst_1
  let main_v8 : IVec S16384x1024 1 := cmpf .olt main_v6 main_v7
  let main_v9 : FVec F S16384x1024 .f32 := Host.absf main_arg3
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_v12 : FVec F S512x512 .f32 := Host.absf main_arg4
  let main_cst_3 : FVec F S_ .f32 := constant S_ .f32 0x7F800000#32
  let main_v13 : FVec F S512x512 .f32 := broadcastInDim S512x512 ![] bcast_S_S512x512 main_cst_3
  let main_v14 : IVec S512x512 1 := cmpf .olt main_v12 main_v13
  let main_v15 : FVec F S512 .f32 := Host.absf main_arg5
  let main_cst_4 : FVec F S_ .f32 := constant S_ .f32 0x7F800000#32
  let main_v16 : FVec F S512 .f32 := broadcastInDim S512 ![] bcast_S_S512 main_cst_4
  let main_v17 : IVec S512 1 := cmpf .olt main_v15 main_v16
  fn_part1 (F := F) main_arg6 main_arg7 main_arg8 main_arg9 main_arg10 main_arg11 main_v2 main_v5 main_v8 main_v11 main_v14 main_v17
-- ==== Pre_finite7.lean ====
abbrev S16384x512 : Shape := ⟨2, ![16384, 512]⟩
abbrev S16384x1024 : Shape := ⟨2, ![16384, 1024]⟩
abbrev S1024x2048 : Shape := ⟨2, ![1024, 2048]⟩
abbrev S1024 : Shape := ⟨1, ![1024]⟩
abbrev S64 : Shape := ⟨1, ![64]⟩
abbrev S_ : Shape := ⟨0, ![]⟩

class Facts : Prop where
  bcast_S_S16384x512 : S_.BroadcastsInDim S16384x512 (![] : Fin 0 → Fin S16384x512.rank)
  bcast_S_S16384x1024 : S_.BroadcastsInDim S16384x1024 (![] : Fin 0 → Fin S16384x1024.rank)
  bcast_S_S1024x2048 : S_.BroadcastsInDim S1024x2048 (![] : Fin 0 → Fin S1024x2048.rank)
  bcast_S_S1024 : S_.BroadcastsInDim S1024 (![] : Fin 0 → Fin S1024.rank)
  bcast_S_S64 : S_.BroadcastsInDim S64 (![] : Fin 0 → Fin S64.rank)

variable [Facts]

def fn_part1 {F : FTy → Type} [FloatOps F] (main_arg6 : FVec F S16384x1024 .f32) (main_arg7 : FVec F S16384x1024 .f32) (main_arg8 : FVec F S1024x2048 .f32) (main_arg9 : FVec F S1024 .f32) (main_arg10 : FVec F S64 .f32) (main_arg11 : FVec F S64 .f32) (main_v2 : IVec S16384x512 1) (main_v5 : IVec S16384x512 1) (main_v8 : IVec S16384x512 1) (main_v11 : IVec S16384x512 1) (main_v14 : IVec S16384x512 1) (main_v17 : IVec S16384x512 1) : IVec S16384x512 1 × IVec S16384x512 1 × IVec S16384x512 1 × IVec S16384x512 1 × IVec S16384x512 1 × IVec S16384x512 1 × IVec S16384x1024 1 × IVec S16384x1024 1 × IVec S1024x2048 1 × IVec S1024 1 × IVec S64 1 × IVec S64 1 :=
  let main_v18 : FVec F S16384x1024 .f32 := Host.absf main_arg6
  let main_cst_5 : FVec F S_ .f32 := constant S_ .f32 0x7F800000#32
  let main_v19 : FVec F S16384x1024 .f32 := broadcastInDim S16384x1024 ![] bcast_S_S16384x1024 main_cst_5
  let main_v20 : IVec S16384x1024 1 := cmpf .olt main_v18 main_v19
  let main_v21 : FVec F S16384x1024 .f32 := Host.absf main_arg7
  let main_cst_6 : FVec F S_ .f32 := constant S_ .f32 0x7F800000#32
  let main_v22 : FVec F S16384x1024 .f32 := broadcastInDim S16384x1024 ![] bcast_S_S16384x1024 main_cst_6
  let main_v23 : IVec S16384x1024 1 := cmpf .olt main_v21 main_v22
  let main_v24 : FVec F S1024x2048 .f32 := Host.absf main_arg8
  let main_cst_7 : FVec F S_ .f32 := constant S_ .f32 0x7F800000#32
  let main_v25 : FVec F S1024x2048 .f32 := broadcastInDim S1024x2048 ![] bcast_S_S1024x2048 main_cst_7
  let main_v26 : IVec S1024x2048 1 := cmpf .olt main_v24 main_v25
  let main_v27 : FVec F S1024 .f32 := Host.absf main_arg9
  let main_cst_8 : FVec F S_ .f32 := constant S_ .f32 0x7F800000#32
  let main_v28 : FVec F S1024 .f32 := broadcastInDim S1024 ![] bcast_S_S1024 main_cst_8
  let main_v29 : IVec S1024 1 := cmpf .olt main_v27 main_v28
  let main_v30 : FVec F S64 .f32 := Host.absf main_arg10
  let main_cst_9 : FVec F S_ .f32 := constant S_ .f32 0x7F800000#32
  let main_v31 : FVec F S64 .f32 := broadcastInDim S64 ![] bcast_S_S64 main_cst_9
  let main_v32 : IVec S64 1 := cmpf .olt main_v30 main_v31
  let main_v33 : FVec F S64 .f32 := Host.absf main_arg11
  let main_cst_10 : FVec F S_ .f32 := constant S_ .f32 0x7F800000#32
  let main_v34 : FVec F S64 .f32 := broadcastInDim S64 ![] bcast_S_S64 main_cst_10
  let main_v35 : IVec S64 1 := cmpf .olt main_v33 main_v34
  (main_v2, main_v5, main_v8, main_v11, main_v14, main_v17, main_v20, main_v23, main_v26, main_v29, main_v32, main_v35)

def fn {F : FTy → Type} [FloatOps F] (main_arg0 : FVec F S16384x512 .f32) (main_arg1 : FVec F S16384x512 .f32) (main_arg2 : FVec F S16384x512 .f32) (main_arg3 : FVec F S16384x512 .f32) (main_arg4 : FVec F S16384x512 .f32) (main_arg5 : FVec F S16384x512 .f32) (main_arg6 : FVec F S16384x1024 .f32) (main_arg7 : FVec F S16384x1024 .f32) (main_arg8 : FVec F S1024x2048 .f32) (main_arg9 : FVec F S1024 .f32) (main_arg10 : FVec F S64 .f32) (main_arg11 : FVec F S64 .f32) : IVec S16384x512 1 × IVec S16384x512 1 × IVec S16384x512 1 × IVec S16384x512 1 × IVec S16384x512 1 × IVec S16384x512 1 × IVec S16384x1024 1 × IVec S16384x1024 1 × IVec S1024x2048 1 × IVec S1024 1 × IVec S64 1 × IVec S64 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_v3 : FVec F S16384x512 .f32 := Host.absf main_arg1
  let main_cst_0 : FVec F S_ .f32 := constant S_ .f32 0x7F800000#32
  let main_v4 : FVec F S16384x512 .f32 := broadcastInDim S16384x512 ![] bcast_S_S16384x512 main_cst_0
  let main_v5 : IVec S16384x512 1 := cmpf .olt main_v3 main_v4
  let main_v6 : FVec F S16384x512 .f32 := Host.absf main_arg2
  let main_cst_1 : FVec F S_ .f32 := constant S_ .f32 0x7F800000#32
  let main_v7 : FVec F S16384x512 .f32 := broadcastInDim S16384x512 ![] bcast_S_S16384x512 main_cst_1
  let main_v8 : IVec S16384x512 1 := cmpf .olt main_v6 main_v7
  let main_v9 : FVec F S16384x512 .f32 := Host.absf main_arg3
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_v12 : FVec F S16384x512 .f32 := Host.absf main_arg4
  let main_cst_3 : FVec F S_ .f32 := constant S_ .f32 0x7F800000#32
  let main_v13 : FVec F S16384x512 .f32 := broadcastInDim S16384x512 ![] bcast_S_S16384x512 main_cst_3
  let main_v14 : IVec S16384x512 1 := cmpf .olt main_v12 main_v13
  let main_v15 : FVec F S16384x512 .f32 := Host.absf main_arg5
  let main_cst_4 : FVec F S_ .f32 := constant S_ .f32 0x7F800000#32
  let main_v16 : FVec F S16384x512 .f32 := broadcastInDim S16384x512 ![] bcast_S_S16384x512 main_cst_4
  let main_v17 : IVec S16384x512 1 := cmpf .olt main_v15 main_v16
  fn_part1 (F := F) main_arg6 main_arg7 main_arg8 main_arg9 main_arg10 main_arg11 main_v2 main_v5 main_v8 main_v11 main_v14 main_v17
-- ==== Kernel.lean ====
abbrev S16384x512 : Shape := ⟨2, ![16384, 512]⟩
abbrev S16384x1024 : Shape := ⟨2, ![16384, 1024]⟩
abbrev S512x512 : Shape := ⟨2, ![512, 512]⟩
abbrev S512 : Shape := ⟨1, ![512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1x512 : Shape := ⟨2, ![1, 512]⟩
abbrev S16384x4096 : Shape := ⟨2, ![16384, 4096]⟩
abbrev S1x128 : Shape := ⟨2, ![1, 128]⟩
abbrev S256x512 : Shape := ⟨2, ![256, 512]⟩
abbrev S256x1024 : Shape := ⟨2, ![256, 1024]⟩
abbrev S256x4096 : Shape := ⟨2, ![256, 4096]⟩
abbrev S3x256x512 : Shape := ⟨3, ![3, 256, 512]⟩
abbrev S2 : Shape := ⟨1, ![2]⟩
abbrev S1 : Shape := ⟨1, ![1]⟩
abbrev S_ : Shape := ⟨0, ![]⟩
abbrev S1x256x512 : Shape := ⟨3, ![1, 256, 512]⟩
abbrev S256 : Shape := ⟨1, ![256]⟩
abbrev S256x1 : Shape := ⟨2, ![256, 1]⟩
abbrev S512x1024 : Shape := ⟨2, ![512, 1024]⟩
abbrev S1x256x1024 : Shape := ⟨3, ![1, 256, 1024]⟩
abbrev S1x1x1 : Shape := ⟨3, ![1, 1, 1]⟩

abbrev nBuf : Space → Nat
  | .hbm => 36
  | .vmem => 45
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x1024, .f32⟩
  | .hbm, ⟨3, _⟩ => ⟨S16384x1024, .f32⟩
  | .hbm, ⟨4, _⟩ => ⟨S512x512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S1024x1024, .f32⟩
  | .hbm, ⟨9, _⟩ => ⟨S1024, .f32⟩
  | .hbm, ⟨10, _⟩ => ⟨S1024x4096, .f32⟩
  | .hbm, ⟨11, _⟩ => ⟨S4096x1024, .f32⟩
  | .hbm, ⟨12, _⟩ => ⟨S1x1024, .f32⟩
  | .hbm, ⟨13, _⟩ => ⟨S1x512, .f32⟩
  | .hbm, ⟨14, _⟩ => ⟨S1x512, .f32⟩
  | .hbm, ⟨15, _⟩ => ⟨S1x512, .f32⟩
  | .hbm, ⟨16, _⟩ => ⟨S512x512, .bf16⟩
  | .hbm, ⟨17, _⟩ => ⟨S1024x1024, .bf16⟩
  | .hbm, ⟨18, _⟩ => ⟨S1024x4096, .bf16⟩
  | .hbm, ⟨19, _⟩ => ⟨S4096x1024, .bf16⟩
  | .hbm, ⟨20, _⟩ => ⟨S16384x1024, .f32⟩
  | .hbm, ⟨21, _⟩ => ⟨S16384x4096, .bf16⟩
  | .hbm, ⟨22, _⟩ => ⟨S16384x4096, .bf16⟩
  | .hbm, ⟨23, _⟩ => ⟨S16384x1024, .bf16⟩
  | .hbm, ⟨24, _⟩ => ⟨S16384x1024, .bf16⟩
  | .hbm, ⟨25, _⟩ => ⟨S16384x1024, .bf16⟩
  | .hbm, ⟨26, _⟩ => ⟨S16384x512, .bf16⟩
  | .hbm, ⟨27, _⟩ => ⟨S16384x512, .f32⟩
  | .hbm, ⟨28, _⟩ => ⟨S16384x512, .f32⟩
  | .hbm, ⟨29, _⟩ => ⟨S16384x1024, .bf16⟩
  | .hbm, ⟨30, _⟩ => ⟨S16384x512, .bf16⟩
  | .hbm, ⟨31, _⟩ => ⟨S1x1024, .f32⟩
  | .hbm, ⟨32, _⟩ => ⟨S1x128, .f32⟩
  | .hbm, ⟨33, _⟩ => ⟨S1x512, .f32⟩
  | .hbm, ⟨34, _⟩ => ⟨S1x512, .f32⟩
  | .hbm, ⟨35, _⟩ => ⟨S1x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x1024, .f32⟩
  | .local _ .vmem, ⟨12, _⟩ => ⟨S512x512, .bf16⟩
  | .local _ .vmem, ⟨13, _⟩ => ⟨S1024x1024, .bf16⟩
  | .local _ .vmem, ⟨14, _⟩ => ⟨S256x1024, .f32⟩
  | .local _ .vmem, ⟨15, _⟩ => ⟨S256x1024, .f32⟩
  | .local _ .vmem, ⟨16, _⟩ => ⟨S256x4096, .bf16⟩
  | .local _ .vmem, ⟨17, _⟩ => ⟨S256x4096, .bf16⟩
  | .local _ .vmem, ⟨18, _⟩ => ⟨S256x4096, .bf16⟩
  | .local _ .vmem, ⟨19, _⟩ => ⟨S256x4096, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x512, .bf16⟩
  | .local _ .vmem, ⟨27, _⟩ => ⟨S256x512, .bf16⟩
  | .local _ .vmem, ⟨28, _⟩ => ⟨S256x512, .f32⟩
  | .local _ .vmem, ⟨29, _⟩ => ⟨S256x512, .f32⟩
  | .local _ .vmem, ⟨30, _⟩ => ⟨S256x512, .f32⟩
  | .local _ .vmem, ⟨31, _⟩ => ⟨S256x512, .f32⟩
  | .local _ .vmem, ⟨32, _⟩ => ⟨S256x1024, .bf16⟩
  | .local _ .vmem, ⟨33, _⟩ => ⟨S256x1024, .bf16⟩
  | .local _ .vmem, ⟨34, _⟩ => ⟨S256x512, .bf16⟩
  | .local _ .vmem, ⟨35, _⟩ => ⟨S256x512, .bf16⟩
  | .local _ .vmem, ⟨36, _⟩ => ⟨S1x1024, .f32⟩
  | .local _ .vmem, ⟨37, _⟩ => ⟨S1x128, .f32⟩
  | .local _ .vmem, ⟨38, _⟩ => ⟨S1x512, .f32⟩
  | .local _ .vmem, ⟨39, _⟩ => ⟨S1x512, .f32⟩
  | .local _ .vmem, ⟨40, _⟩ => ⟨S1x512, .f32⟩
  | .local _ .vmem, ⟨41, _⟩ => ⟨S1024x4096, .bf16⟩
  | .local _ .vmem, ⟨42, _⟩ => ⟨S4096x1024, .bf16⟩
  | .local _ .vmem, ⟨43, _⟩ => ⟨S256x4096, .f32⟩
  | .local _ .vmem, ⟨44, _⟩ => ⟨S3x256x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev main_v8_2 : Ref sig .tc := ⟨.hbm, 22, rfl⟩
abbrev main_v8_3 : Ref sig .tc := ⟨.hbm, 23, rfl⟩
abbrev main_v8_4 : Ref sig .tc := ⟨.hbm, 24, rfl⟩
abbrev main_v8_5 : Ref sig .tc := ⟨.hbm, 25, rfl⟩
abbrev main_v8_6 : Ref sig .tc := ⟨.hbm, 26, rfl⟩
abbrev main_v8_7 : Ref sig .tc := ⟨.hbm, 27, rfl⟩
abbrev main_v8_8 : Ref sig .tc := ⟨.hbm, 28, rfl⟩
abbrev main_v8_9 : Ref sig .tc := ⟨.hbm, 29, rfl⟩
abbrev main_v8_10 : Ref sig .tc := ⟨.hbm, 30, rfl⟩
abbrev main_v8_11 : Ref sig .tc := ⟨.hbm, 31, rfl⟩
abbrev main_v8_12 : Ref sig .tc := ⟨.hbm, 32, rfl⟩
abbrev main_v8_13 : Ref sig .tc := ⟨.hbm, 33, rfl⟩
abbrev main_v8_14 : Ref sig .tc := ⟨.hbm, 34, rfl⟩
abbrev main_v8_15 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg22_0 : Ref sig .tc := ⟨.vmem, 37, rfl⟩
abbrev cc0_stg23_0 : Ref sig .tc := ⟨.vmem, 38, rfl⟩
abbrev cc0_stg24_0 : Ref sig .tc := ⟨.vmem, 39, rfl⟩
abbrev cc0_stg25_0 : Ref sig .tc := ⟨.vmem, 40, rfl⟩
abbrev cc0_scratch0 : Ref sig .tc := ⟨.vmem, 41, rfl⟩
abbrev cc0_scratch1 : Ref sig .tc := ⟨.vmem, 42, rfl⟩
abbrev cc0_scratch2 : Ref sig .tc := ⟨.vmem, 43, rfl⟩
abbrev cc0_scratch3 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem22_0 : DmaSem sig := 37
abbrev cc0_sem23_0 : DmaSem sig := 38
abbrev cc0_sem24_0 : DmaSem sig := 39
abbrev cc0_sem25_0 : DmaSem sig := 40

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x512 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]
-- ==== KernelIdeal.lean ====
variable {F : FTy → Type} [FloatOps F] [Named F]
def κ : String → Option EReal := fun
  | "gelu_3k" => some ((26829 / 200000 : ℝ) : EReal)
  | "gelu_k" => some ((8943 / 200000 : ℝ) : EReal)
  | _ => none
-- ==== ReferenceIdeal.lean ====
abbrev S16384x512 : Shape := ⟨2, ![16384, 512]⟩
abbrev S16384x1024 : Shape := ⟨2, ![16384, 1024]⟩
abbrev S512x512 : Shape := ⟨2, ![512, 512]⟩
abbrev S512 : Shape := ⟨1, ![512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S1x512 : Shape := ⟨2, ![1, 512]⟩
abbrev S1x1024 : Shape := ⟨2, ![1, 1024]⟩
abbrev S16384x4096 : Shape := ⟨2, ![16384, 4096]⟩
abbrev S1x128 : Shape := ⟨2, ![1, 128]⟩

abbrev nBuf : Space → Nat
  | .hbm => 278
  | .vmem => 0
  | .smem => 0
  | _ => 0

abbrev hbmTy0_0 (i : Nat) : BufTy := match i % 128 with
  | 0 => ⟨S16384x512, .f32⟩
  | 1 => ⟨S16384x512, .f32⟩
  | 2 => ⟨S16384x1024, .f32⟩
  | 3 => ⟨S16384x1024, .f32⟩
  | 4 => ⟨S512x512, .f32⟩
  | 5 => ⟨S512, .f32⟩
  | 6 => ⟨S512, .f32⟩
  | 7 => ⟨S512, .f32⟩
  | 8 => ⟨S1024x1024, .f32⟩
  | 9 => ⟨S1024, .f32⟩
  | 10 => ⟨S1024x4096, .f32⟩
  | 11 => ⟨S4096x1024, .f32⟩
  | 12 => ⟨S16384x512, .f32⟩
  | 13 => ⟨S_, .f32⟩
  | 14 => ⟨S_, .f32⟩
  | 15 => ⟨S_, .f32⟩
  | 16 => ⟨S16384x512, .f32⟩
  | 17 => ⟨S16384x512, .f32⟩
  | 18 => ⟨S16384x512, .f32⟩
  | 19 => ⟨S_, .f32⟩
  | 20 => ⟨S16384x512, .f32⟩
  | 21 => ⟨S16384x512, .f32⟩
  | 22 => ⟨S16384x512, .f32⟩
  | 23 => ⟨S16384x512, .f32⟩
  | 24 => ⟨S16384x512, .f32⟩
  | 25 => ⟨S_, .f32⟩
  | 26 => ⟨S16384x512, .f32⟩
  | 27 => ⟨S16384x512, .f32⟩
  | 28 => ⟨S16384x512, .f32⟩
  | 29 => ⟨S_, .f32⟩
  | 30 => ⟨S16384x512, .f32⟩
  | 31 => ⟨S16384x512, .f32⟩
  | 32 => ⟨S_, .f32⟩
  | 33 => ⟨S16384x512, .f32⟩
  | 34 => ⟨S16384x512, .f32⟩
  | 35 => ⟨S16384x512, .f32⟩
  | 36 => ⟨S_, .f32⟩
  | 37 => ⟨S16384x512, .f32⟩
  | 38 => ⟨S16384x512, .f32⟩
  | 39 => ⟨S_, .f32⟩
  | 40 => ⟨S16384x512, .f32⟩
  | 41 => ⟨S16384x512, .f32⟩
  | 42 => ⟨S16384x512, .f32⟩
  | 43 => ⟨S16384x512, .f32⟩
  | 44 => ⟨S16384x512, .f32⟩
  | 45 => ⟨S16384x512, .f32⟩
  | 46 => ⟨S16384x512, .f32⟩
  | 47 => ⟨S_, .f32⟩
  | 48 => ⟨S16384x512, .f32⟩
  | 49 => ⟨S16384x512, .f32⟩
  | 50 => ⟨S_, .f32⟩
  | 51 => ⟨S16384x512, .f32⟩
  | 52 => ⟨S16384x512, .f32⟩
  | 53 => ⟨S_, .f32⟩
  | 54 => ⟨S16384x512, .f32⟩
  | 55 => ⟨S16384x512, .f32⟩
  | 56 => ⟨S16384x512, .f32⟩
  | 57 => ⟨S16384x512, .f32⟩
  | 58 => ⟨S16384x512, .f32⟩
  | 59 => ⟨S_, .f32⟩
  | 60 => ⟨S16384, .f32⟩
  | 61 => ⟨S16384x1, .f32⟩
  | 62 => ⟨S_, .f32⟩
  | 63 => ⟨S16384x1, .f32⟩
  | 64 => ⟨S16384x1, .f32⟩
  | 65 => ⟨S_, .f32⟩
  | 66 => ⟨S16384x1, .f32⟩
  | 67 => ⟨S16384x1, .f32⟩
  | 68 => ⟨S16384x1, .f32⟩
  | 69 => ⟨S16384x1, .f32⟩
  | 70 => ⟨S_, .f32⟩
  | 71 => ⟨S16384x1, .f32⟩
  | 72 => ⟨S16384x1, .f32⟩
  | 73 => ⟨S16384x512, .f32⟩
  | 74 => ⟨S16384x512, .f32⟩
  | 75 => ⟨S1x512, .f32⟩
  | 76 => ⟨S16384x512, .f32⟩
  | 77 => ⟨S16384x512, .f32⟩
  | 78 => ⟨S16384x512, .f32⟩
  | 79 => ⟨S_, .f32⟩
  | 80 => ⟨S16384, .f32⟩
  | 81 => ⟨S16384x1, .f32⟩
  | 82 => ⟨S_, .f32⟩
  | 83 => ⟨S16384x1, .f32⟩
  | 84 => ⟨S16384x1, .f32⟩
  | 85 => ⟨S_, .f32⟩
  | 86 => ⟨S16384x1, .f32⟩
  | 87 => ⟨S16384x1, .f32⟩
  | 88 => ⟨S16384x1, .f32⟩
  | 89 => ⟨S16384x1, .f32⟩
  | 90 => ⟨S_, .f32⟩
  | 91 => ⟨S16384x1, .f32⟩
  | 92 => ⟨S16384x1, .f32⟩
  | 93 => ⟨S16384x512, .f32⟩
  | 94 => ⟨S16384x512, .f32⟩
  | 95 => ⟨S1x512, .f32⟩
  | 96 => ⟨S16384x512, .f32⟩
  | 97 => ⟨S16384x512, .f32⟩
  | 98 => ⟨S16384x1024, .f32⟩
  | 99 => ⟨S16384x1024, .f32⟩
  | 100 => ⟨S16384x1024, .f32⟩
  | 101 => ⟨S16384x1024, .f32⟩
  | 102 => ⟨S_, .f32⟩
  | 103 => ⟨S16384, .f32⟩
  | 104 => ⟨S16384x1, .f32⟩
  | 105 => ⟨S_, .f32⟩
  | 106 => ⟨S16384x1, .f32⟩
  | 107 => ⟨S16384x1, .f32⟩
  | 108 => ⟨S_, .f32⟩
  | 109 => ⟨S16384x1, .f32⟩
  | 110 => ⟨S16384x1, .f32⟩
  | 111 => ⟨S16384x1, .f32⟩
  | 112 => ⟨S16384x1, .f32⟩
  | 113 => ⟨S_, .f32⟩
  | 114 => ⟨S16384x1, .f32⟩
  | 115 => ⟨S16384x1, .f32⟩
  | 116 => ⟨S16384x1024, .f32⟩
  | 117 => ⟨S16384x1024, .f32⟩
  | 118 => ⟨S1x1024, .f32⟩
  | 119 => ⟨S16384x1024, .f32⟩
  | 120 => ⟨S16384x1024, .f32⟩
  | 121 => ⟨S16384x4096, .f32⟩
  | 122 => ⟨S_, .f32⟩
  | 123 => ⟨S16384x4096, .f32⟩
  | 124 => ⟨S16384x4096, .f32⟩
  | 125 => ⟨S_, .f32⟩
  | 126 => ⟨S16384x4096, .f32⟩
  | 127 => ⟨S16384x4096, .i1⟩
  | _ => ⟨S16384x512, .f32⟩

abbrev hbmTy0_1 (i : Nat) : BufTy := match i % 128 with
  | 0 => ⟨S_, .f32⟩
  | 1 => ⟨S16384x4096, .f32⟩
  | 2 => ⟨S16384x4096, .f32⟩
  | 3 => ⟨S_, .f32⟩
  | 4 => ⟨S16384x4096, .f32⟩
  | 5 => ⟨S16384x4096, .f32⟩
  | 6 => ⟨S16384x1024, .f32⟩
  | 7 => ⟨S16384x1024, .f32⟩
  | 8 => ⟨S16384x1024, .f32⟩
  | 9 => ⟨S16384x1024, .f32⟩
  | 10 => ⟨S_, .f32⟩
  | 11 => ⟨S16384x1024, .f32⟩
  | 12 => ⟨S16384x1024, .f32⟩
  | 13 => ⟨S_, .f32⟩
  | 14 => ⟨S16384, .f32⟩
  | 15 => ⟨S_, .f32⟩
  | 16 => ⟨S16384, .f32⟩
  | 17 => ⟨S16384, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S16384, .f32⟩
  | 26 => ⟨S_, .f32⟩
  | 27 => ⟨S16384, .f32⟩
  | 28 => ⟨S16384, .f32⟩
  | 29 => ⟨S16384x1024, .f32⟩
  | 30 => ⟨S16384x1024, .f32⟩
  | 31 => ⟨S16384x4096, .f32⟩
  | 32 => ⟨S16384x4096, .f32⟩
  | 33 => ⟨S_, .f32⟩
  | 34 => ⟨S16384x4096, .f32⟩
  | 35 => ⟨S16384x4096, .f32⟩
  | 36 => ⟨S16384x1024, .f32⟩
  | 37 => ⟨S16384x1024, .f32⟩
  | 38 => ⟨S_, .f32⟩
  | 39 => ⟨S1024, .f32⟩
  | 40 => ⟨S1x1024, .f32⟩
  | 41 => ⟨S16384x1024, .f32⟩
  | 42 => ⟨S16384x1024, .f32⟩
  | 43 => ⟨S_, .f32⟩
  | 44 => ⟨S1024, .f32⟩
  | 45 => ⟨S16384x1024, .f32⟩
  | 46 => ⟨S_, .f32⟩
  | 47 => ⟨S16384, .f32⟩
  | 48 => ⟨S16384x1, .f32⟩
  | 49 => ⟨S16384x1024, .f32⟩
  | 50 => ⟨S16384x1024, .f32⟩
  | 51 => ⟨S16384x1, .f32⟩
  | 52 => ⟨S_, .f32⟩
  | 53 => ⟨S16384x1, .f32⟩
  | 54 => ⟨S16384x1, .f32⟩
  | 55 => ⟨S_, .f32⟩
  | 56 => ⟨S16384, .f32⟩
  | 57 => ⟨S16384x1024, .f32⟩
  | 58 => ⟨S16384x1024, .f32⟩
  | 59 => ⟨S16384x1024, .f32⟩
  | 60 => ⟨S16384x1024, .f32⟩
  | 61 => ⟨S16384x1024, .f32⟩
  | 62 => ⟨S16384x1024, .f32⟩
  | 63 => ⟨S16384x1024, .f32⟩
  | 64 => ⟨S16384x512, .f32⟩
  | 65 => ⟨S16384x512, .f32⟩
  | 66 => ⟨S16384x512, .f32⟩
  | 67 => ⟨S_, .f32⟩
  | 68 => ⟨S512, .f32⟩
  | 69 => ⟨S1x512, .f32⟩
  | 70 => ⟨S16384x512, .f32⟩
  | 71 => ⟨S16384x512, .f32⟩
  | 72 => ⟨S_, .f32⟩
  | 73 => ⟨S512, .f32⟩
  | 74 => ⟨S16384x512, .f32⟩
  | 75 => ⟨S_, .f32⟩
  | 76 => ⟨S16384, .f32⟩
  | 77 => ⟨S16384x1, .f32⟩
  | 78 => ⟨S16384x512, .f32⟩
  | 79 => ⟨S16384x512, .f32⟩
  | 80 => ⟨S16384x1, .f32⟩
  | 81 => ⟨S_, .f32⟩
  | 82 => ⟨S16384x1, .f32⟩
  | 83 => ⟨S16384x1, .f32⟩
  | 84 => ⟨S_, .f32⟩
  | 85 => ⟨S16384, .f32⟩
  | 86 => ⟨S16384x512, .f32⟩
  | 87 => ⟨S16384x512, .f32⟩
  | 88 => ⟨S16384x512, .f32⟩
  | 89 => ⟨S16384x512, .f32⟩
  | 90 => ⟨S16384x512, .f32⟩
  | 91 => ⟨S16384x512, .f32⟩
  | 92 => ⟨S_, .f32⟩
  | 93 => ⟨S512, .f32⟩
  | 94 => ⟨S1x512, .f32⟩
  | 95 => ⟨S16384x512, .f32⟩
  | 96 => ⟨S16384x512, .f32⟩
  | 97 => ⟨S_, .f32⟩
  | 98 => ⟨S512, .f32⟩
  | 99 => ⟨S16384x512, .f32⟩
  | 100 => ⟨S_, .f32⟩
  | 101 => ⟨S16384, .f32⟩
  | 102 => ⟨S16384x1, .f32⟩
  | 103 => ⟨S16384x512, .f32⟩
  | 104 => ⟨S16384x512, .f32⟩
  | 105 => ⟨S16384x1, .f32⟩
  | 106 => ⟨S_, .f32⟩
  | 107 => ⟨S16384x1, .f32⟩
  | 108 => ⟨S16384x1, .f32⟩
  | 109 => ⟨S_, .f32⟩
  | 110 => ⟨S16384, .f32⟩
  | 111 => ⟨S16384x512, .f32⟩
  | 112 => ⟨S16384x512, .f32⟩
  | 113 => ⟨S16384x512, .f32⟩
  | 114 => ⟨S16384x512, .f32⟩
  | 115 => ⟨S16384x512, .f32⟩
  | 116 => ⟨S16384x512, .f32⟩
  | 117 => ⟨S16384x512, .f32⟩
  | 118 => ⟨S16384x512, .f32⟩
  | 119 => ⟨S16384x512, .f32⟩
  | 120 => ⟨S16384x512, .f32⟩
  | 121 => ⟨S16384x512, .f32⟩
  | 122 => ⟨S16384x512, .f32⟩
  | 123 => ⟨S_, .f32⟩
  | 124 => ⟨S16384x512, .f32⟩
  | 125 => ⟨S16384x512, .f32⟩
  | 126 => ⟨S16384x512, .f32⟩
  | 127 => ⟨S_, .f32⟩
  | _ => ⟨S16384x512, .f32⟩

abbrev hbmTy0_2 (i : Nat) : BufTy := match i % 128 with
  | 0 => ⟨S16384x512, .f32⟩
  | 1 => ⟨S16384x512, .f32⟩
  | 2 => ⟨S16384x512, .f32⟩
  | 3 => ⟨S16384x512, .f32⟩
  | 4 => ⟨S16384x512, .f32⟩
  | 5 => ⟨S16384x512, .f32⟩
  | 6 => ⟨S16384x512, .f32⟩
  | 7 => ⟨S_, .f32⟩
  | 8 => ⟨S512, .f32⟩
  | 9 => ⟨S16384x4096, .bf16⟩
  | 10 => ⟨S16384x4096, .bf16⟩
  | 11 => ⟨S16384x1024, .bf16⟩
  | 12 => ⟨S16384x1024, .bf16⟩
  | 13 => ⟨S16384x1024, .bf16⟩
  | 14 => ⟨S16384x512, .bf16⟩
  | 15 => ⟨S16384x1024, .bf16⟩
  | 16 => ⟨S16384x512, .bf16⟩
  | 17 => ⟨S1x1024, .f32⟩
  | 18 => ⟨S1x128, .f32⟩
  | 19 => ⟨S1x512, .f32⟩
  | 20 => ⟨S1x512, .f32⟩
  | 21 => ⟨S1x512, .f32⟩
  | _ => ⟨S16384x512, .f32⟩

abbrev hbmTy (i : Nat) : BufTy := match i / 128 with
  | 0 => hbmTy0_0 i
  | 1 => hbmTy0_1 i
  | 2 => hbmTy0_2 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_3 : Ref sig .tc := ⟨.hbm, 29, rfl⟩
abbrev main_v13 : Ref sig .tc := ⟨.hbm, 30, rfl⟩
abbrev main_v14 : Ref sig .tc := ⟨.hbm, 31, rfl⟩
abbrev main_cst_4 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_5 : Ref sig .tc := ⟨.hbm, 36, rfl⟩
abbrev main_v18 : Ref sig .tc := ⟨.hbm, 37, rfl⟩
abbrev main_v19 : Ref sig .tc := ⟨.hbm, 38, rfl⟩
abbrev main_cst_6 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_7 : Ref sig .tc := ⟨.hbm, 47, rfl⟩
abbrev main_v27 : Ref sig .tc := ⟨.hbm, 48, rfl⟩
abbrev main_v28 : Ref sig .tc := ⟨.hbm, 49, rfl⟩
abbrev main_cst_8 : Ref sig .tc := ⟨.hbm, 50, rfl⟩
abbrev main_v29 : Ref sig .tc := ⟨.hbm, 51, rfl⟩
abbrev main_v30 : Ref sig .tc := ⟨.hbm, 52, rfl⟩
abbrev main_cst_9 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_10 : Ref sig .tc := ⟨.hbm, 59, rfl⟩
abbrev main_v36 : Ref sig .tc := ⟨.hbm, 60, rfl⟩
abbrev main_v37 : Ref sig .tc := ⟨.hbm, 61, rfl⟩
abbrev main_cst_11 : Ref sig .tc := ⟨.hbm, 62, rfl⟩
abbrev main_v38 : Ref sig .tc := ⟨.hbm, 63, rfl⟩
abbrev main_v39 : Ref sig .tc := ⟨.hbm, 64, rfl⟩
abbrev main_cst_12 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_13 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_14 : Ref sig .tc := ⟨.hbm, 79, rfl⟩
abbrev main_v52 : Ref sig .tc := ⟨.hbm, 80, rfl⟩
abbrev main_v53 : Ref sig .tc := ⟨.hbm, 81, rfl⟩
abbrev main_cst_15 : Ref sig .tc := ⟨.hbm, 82, rfl⟩
abbrev main_v54 : Ref sig .tc := ⟨.hbm, 83, rfl⟩
abbrev main_v55 : Ref sig .tc := ⟨.hbm, 84, rfl⟩
abbrev main_cst_16 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_17 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_18 : Ref sig .tc := ⟨.hbm, 102, rfl⟩
abbrev main_v71 : Ref sig .tc := ⟨.hbm, 103, rfl⟩
abbrev main_v72 : Ref sig .tc := ⟨.hbm, 104, rfl⟩
abbrev main_cst_19 : Ref sig .tc := ⟨.hbm, 105, rfl⟩
abbrev main_v73 : Ref sig .tc := ⟨.hbm, 106, rfl⟩
abbrev main_v74 : Ref sig .tc := ⟨.hbm, 107, rfl⟩
abbrev main_cst_20 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_cst_21 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_call0_cst : Ref sig .tc := ⟨.hbm, 122, rfl⟩
abbrev main_call0_v0 : Ref sig .tc := ⟨.hbm, 123, rfl⟩
abbrev main_v87 : Ref sig .tc := ⟨.hbm, 124, rfl⟩
abbrev main_cst_22 : Ref sig .tc := ⟨.hbm, 125, rfl⟩
abbrev main_v88 : Ref sig .tc := ⟨.hbm, 126, rfl⟩
abbrev main_v89 : Ref sig .tc := ⟨.hbm, 127, rfl⟩
abbrev main_cst_23 : Ref sig .tc := ⟨.hbm, 128, rfl⟩
abbrev main_v90 : Ref sig .tc := ⟨.hbm, 129, rfl⟩
abbrev main_v91 : Ref sig .tc := ⟨.hbm, 130, rfl⟩
abbrev main_cst_24 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_cst_25 : Ref sig .tc := ⟨.hbm, 138, rfl⟩
abbrev main_v98 : Ref sig .tc := ⟨.hbm, 139, rfl⟩
abbrev main_v99 : Ref sig .tc := ⟨.hbm, 140, rfl⟩
abbrev main_cst_26 : Ref sig .tc := ⟨.hbm, 141, rfl⟩
abbrev main_v100 : Ref sig .tc := ⟨.hbm, 142, rfl⟩
abbrev main_cst_27 : Ref sig .tc := ⟨.hbm, 143, rfl⟩
abbrev main_v101 : Ref sig .tc := ⟨.hbm, 144, rfl⟩
abbrev main_v102 : Ref sig .tc := ⟨.hbm, 145, rfl⟩
abbrev main_cst_28 : Ref sig .tc := ⟨.hbm, 146, rfl⟩
abbrev main_v103 : Ref sig .tc := ⟨.hbm, 147, rfl⟩
abbrev main_cst_29 : Ref sig .tc := ⟨.hbm, 148, rfl⟩
abbrev main_v104 : Ref sig .tc := ⟨.hbm, 149, rfl⟩
abbrev main_cst_30 : Ref sig .tc := ⟨.hbm, 150, rfl⟩
abbrev main_cst_31 : Ref sig .tc := ⟨.hbm, 151, rfl⟩
abbrev main_v105 : Ref sig .tc := ⟨.hbm, 152, rfl⟩
abbrev main_v106 : Ref sig .tc := ⟨.hbm, 153, rfl⟩
abbrev main_cst_32 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_cst_33 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_cst_34 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_cst_35 : Ref sig .tc := ⟨.hbm, 171, rfl⟩
abbrev main_v121 : Ref sig .tc := ⟨.hbm, 172, rfl⟩
abbrev main_v122 : Ref sig .tc := ⟨.hbm, 173, rfl⟩
abbrev main_cst_36 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_cst_37 : Ref sig .tc := ⟨.hbm, 180, rfl⟩
abbrev main_v128 : Ref sig .tc := ⟨.hbm, 181, rfl⟩
abbrev main_v129 : Ref sig .tc := ⟨.hbm, 182, rfl⟩
abbrev main_cst_38 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_cst_39 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_cst_40 : Ref sig .tc := ⟨.hbm, 200, rfl⟩
abbrev main_v145 : Ref sig .tc := ⟨.hbm, 201, rfl⟩
abbrev main_v146 : Ref sig .tc := ⟨.hbm, 202, rfl⟩
abbrev main_cst_41 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_cst_42 : Ref sig .tc := ⟨.hbm, 209, rfl⟩
abbrev main_v152 : Ref sig .tc := ⟨.hbm, 210, rfl⟩
abbrev main_v153 : Ref sig .tc := ⟨.hbm, 211, rfl⟩
abbrev main_cst_43 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_cst_44 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_cst_45 : Ref sig .tc := ⟨.hbm, 225, rfl⟩
abbrev main_v165 : Ref sig .tc := ⟨.hbm, 226, rfl⟩
abbrev main_v166 : Ref sig .tc := ⟨.hbm, 227, rfl⟩
abbrev main_cst_46 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_cst_47 : Ref sig .tc := ⟨.hbm, 234, rfl⟩
abbrev main_v172 : Ref sig .tc := ⟨.hbm, 235, rfl⟩
abbrev main_v173 : Ref sig .tc := ⟨.hbm, 236, rfl⟩
abbrev main_cst_48 : Ref sig .tc := ⟨.hbm, 237, rfl⟩
abbrev main_v174 : Ref sig .tc := ⟨.hbm, 238, rfl⟩
abbrev main_v175 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_v183 : Ref sig .tc := ⟨.hbm, 247, rfl⟩
abbrev main_v184 : Ref sig .tc := ⟨.hbm, 248, rfl⟩
abbrev main_v185 : Ref sig .tc := ⟨.hbm, 249, rfl⟩
abbrev main_v186 : Ref sig .tc := ⟨.hbm, 250, rfl⟩
abbrev main_cst_49 : Ref sig .tc := ⟨.hbm, 251, rfl⟩
abbrev main_v187 : Ref sig .tc := ⟨.hbm, 252, rfl⟩
abbrev main_v188 : Ref sig .tc := ⟨.hbm, 253, rfl⟩
abbrev main_v189 : Ref sig .tc := ⟨.hbm, 254, rfl⟩
abbrev main_cst_50 : Ref sig .tc := ⟨.hbm, 255, rfl⟩
abbrev main_v190 : Ref sig .tc := ⟨.hbm, 256, rfl⟩
abbrev main_v191 : Ref sig .tc := ⟨.hbm, 257, rfl⟩
abbrev main_v192 : Ref sig .tc := ⟨.hbm, 258, rfl⟩
abbrev main_v193 : Ref sig .tc := ⟨.hbm, 259, rfl⟩
abbrev main_v194 : Ref sig .tc := ⟨.hbm, 260, rfl⟩
abbrev main_v195 : Ref sig .tc := ⟨.hbm, 261, rfl⟩
abbrev main_v196 : Ref sig .tc := ⟨.hbm, 262, rfl⟩
abbrev main_cst_51 : Ref sig .tc := ⟨.hbm, 263, rfl⟩
abbrev main_v197 : Ref sig .tc := ⟨.hbm, 264, rfl⟩
abbrev main_v198 : Ref sig .tc := ⟨.hbm, 265, rfl⟩
abbrev main_v199 : Ref sig .tc := ⟨.hbm, 266, rfl⟩
abbrev main_v200 : Ref sig .tc := ⟨.hbm, 267, rfl⟩
abbrev main_v201 : Ref sig .tc := ⟨.hbm, 268, rfl⟩
abbrev main_v202 : Ref sig .tc := ⟨.hbm, 269, rfl⟩
abbrev main_v203 : Ref sig .tc := ⟨.hbm, 270, rfl⟩
abbrev main_v204 : Ref sig .tc := ⟨.hbm, 271, rfl⟩
abbrev main_v205 : Ref sig .tc := ⟨.hbm, 272, rfl⟩
abbrev main_v206 : Ref sig .tc := ⟨.hbm, 273, rfl⟩
abbrev main_v207 : Ref sig .tc := ⟨.hbm, 274, rfl⟩
abbrev main_v208 : Ref sig .tc := ⟨.hbm, 275, rfl⟩
abbrev main_v209 : Ref sig .tc := ⟨.hbm, 276, rfl⟩
abbrev main_v210 : Ref sig .tc := ⟨.hbm, 277, rfl⟩

abbrev nD : Nat := 1
abbrev τ : Topo := Topo.v7x

variable {F : FTy → Type} [FloatOps F]
-- ==== Kernel2.lean ====
abbrev S16384x1024 : Shape := ⟨2, ![16384, 1024]⟩
abbrev S16384x4096 : Shape := ⟨2, ![16384, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x4096, .bf16⟩
  | .hbm, ⟨2, _⟩ => ⟨S1024x4096, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S16384x1024 : Shape := ⟨2, ![16384, 1024]⟩
abbrev S16384x4096 : Shape := ⟨2, ![16384, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x4096, .bf16⟩
  | .hbm, ⟨2, _⟩ => ⟨S_, .f32⟩
  | .hbm, ⟨3, _⟩ => ⟨S1024x4096, .f32⟩
  | .hbm, ⟨4, _⟩ => ⟨S16384x1024, .f32⟩
  | .hbm, ⟨5, _⟩ => ⟨S16384x4096, .f32⟩
  | .hbm, ⟨6, _⟩ => ⟨S16384x4096, .f32⟩
  | .hbm, ⟨7, _⟩ => ⟨S4096x1024, .f32⟩
  | .hbm, ⟨8, _⟩ => ⟨S1024x4096, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S16384x4096 : Shape := ⟨2, ![16384, 4096]⟩
abbrev S16384x1024 : Shape := ⟨2, ![16384, 1024]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S16384x1024, .bf16⟩
  | .hbm, ⟨2, _⟩ => ⟨S4096x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S16384x4096 : Shape := ⟨2, ![16384, 4096]⟩
abbrev S16384x1024 : Shape := ⟨2, ![16384, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x1024, .bf16⟩
  | .hbm, ⟨2, _⟩ => ⟨S_, .f32⟩
  | .hbm, ⟨3, _⟩ => ⟨S4096x1024, .f32⟩
  | .hbm, ⟨4, _⟩ => ⟨S16384x4096, .f32⟩
  | .hbm, ⟨5, _⟩ => ⟨S16384x1024, .f32⟩
  | .hbm, ⟨6, _⟩ => ⟨S16384x1024, .f32⟩
  | .hbm, ⟨7, _⟩ => ⟨S1024x4096, .f32⟩
  | .hbm, ⟨8, _⟩ => ⟨S4096x1024, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S16384x1024 : Shape := ⟨2, ![16384, 1024]⟩
abbrev S1024x1024 : Shape := ⟨2, ![1024, 1024]⟩
abbrev S4096x1024 : Shape := ⟨2, ![4096, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference4Ideal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S1024x1024, .f32⟩
  | .hbm, ⟨8, _⟩ => ⟨S1024x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S16384x512 : Shape := ⟨2, ![16384, 512]⟩
abbrev S512x512 : Shape := ⟨2, ![512, 512]⟩
abbrev S4096x512 : Shape := ⟨2, ![4096, 512]⟩

abbrev nBuf : Space → Nat
  | .hbm => 3
  | .vmem => 5
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S512x512, .f32⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S512x512, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference5Ideal.lean ====
abbrev S16384x512 : Shape := ⟨2, ![16384, 512]⟩
abbrev S_ : Shape := ⟨0, ![]⟩
abbrev S512x512 : Shape := ⟨2, ![512, 512]⟩

abbrev nBuf : Space → Nat
  | .hbm => 9
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S_, .f32⟩
  | .hbm, ⟨3, _⟩ => ⟨S512x512, .f32⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S512x512, .f32⟩
  | .hbm, ⟨8, _⟩ => ⟨S512x512, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S16384x1024 : Shape := ⟨2, ![16384, 1024]⟩
abbrev S16384x2048 : Shape := ⟨2, ![16384, 2048]⟩
abbrev S1024x2048 : Shape := ⟨2, ![1024, 2048]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x2048, .bf16⟩
  | .hbm, ⟨2, _⟩ => ⟨S1024x2048, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S16384x1024 : Shape := ⟨2, ![16384, 1024]⟩
abbrev S16384x2048 : Shape := ⟨2, ![16384, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x2048, .bf16⟩
  | .hbm, ⟨2, _⟩ => ⟨S_, .f32⟩
  | .hbm, ⟨3, _⟩ => ⟨S1024x2048, .f32⟩
  | .hbm, ⟨4, _⟩ => ⟨S16384x1024, .f32⟩
  | .hbm, ⟨5, _⟩ => ⟨S16384x2048, .f32⟩
  | .hbm, ⟨6, _⟩ => ⟨S16384x2048, .f32⟩
  | .hbm, ⟨7, _⟩ => ⟨S2048x1024, .f32⟩
  | .hbm, ⟨8, _⟩ => ⟨S1024x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S16384x512 : Shape := ⟨2, ![16384, 512]⟩
abbrev S16384x1024 : Shape := ⟨2, ![16384, 1024]⟩
abbrev S1024x2048 : Shape := ⟨2, ![1024, 2048]⟩
abbrev S1024 : Shape := ⟨1, ![1024]⟩
abbrev S64 : Shape := ⟨1, ![64]⟩
abbrev S256x256 : Shape := ⟨2, ![256, 256]⟩
abbrev S_ : Shape := ⟨0, ![]⟩
abbrev S1x1024 : Shape := ⟨2, ![1, 1024]⟩
abbrev S1x64 : Shape := ⟨2, ![1, 64]⟩
abbrev S1x1x1x64 : Shape := ⟨4, ![1, 1, 1, 64]⟩
abbrev S1x1x8x64 : Shape := ⟨4, ![1, 1, 8, 64]⟩
abbrev S1x512 : Shape := ⟨2, ![1, 512]⟩
abbrev S16384x2048 : Shape := ⟨2, ![16384, 2048]⟩
abbrev S512x512 : Shape := ⟨2, ![512, 512]⟩
abbrev S512x1024 : Shape := ⟨2, ![512, 1024]⟩
abbrev S512x2048 : Shape := ⟨2, ![512, 2048]⟩
abbrev S512x256 : Shape := ⟨2, ![512, 256]⟩
abbrev S512 : Shape := ⟨1, ![512]⟩
abbrev S512x1 : Shape := ⟨2, ![512, 1]⟩

abbrev nBuf : Space → Nat
  | .hbm => 67
  | .vmem => 30
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S16384x1024, .f32⟩
  | .hbm, ⟨7, _⟩ => ⟨S16384x1024, .f32⟩
  | .hbm, ⟨8, _⟩ => ⟨S1024x2048, .f32⟩
  | .hbm, ⟨9, _⟩ => ⟨S1024, .f32⟩
  | .hbm, ⟨10, _⟩ => ⟨S64, .f32⟩
  | .hbm, ⟨11, _⟩ => ⟨S64, .f32⟩
  | .hbm, ⟨12, _⟩ => ⟨S256x256, .i32⟩
  | .hbm, ⟨13, _⟩ => ⟨S_, .i32⟩
  | .hbm, ⟨14, _⟩ => ⟨S_, .i32⟩
  | .hbm, ⟨15, _⟩ => ⟨S256x256, .i32⟩
  | .hbm, ⟨16, _⟩ => ⟨S256x256, .i32⟩
  | .hbm, ⟨17, _⟩ => ⟨S256x256, .i32⟩
  | .hbm, ⟨18, _⟩ => ⟨S_, .i32⟩
  | .hbm, ⟨19, _⟩ => ⟨S256x256, .i32⟩
  | .hbm, ⟨20, _⟩ => ⟨S256x256, .i1⟩
  | .hbm, ⟨21, _⟩ => ⟨S256x256, .i32⟩
  | .hbm, ⟨22, _⟩ => ⟨S256x256, .i32⟩
  | .hbm, ⟨23, _⟩ => ⟨S_, .i32⟩
  | .hbm, ⟨24, _⟩ => ⟨S256x256, .i32⟩
  | .hbm, ⟨25, _⟩ => ⟨S256x256, .i1⟩
  | .hbm, ⟨26, _⟩ => ⟨S256x256, .i1⟩
  | .hbm, ⟨27, _⟩ => ⟨S_, .i32⟩
  | .hbm, ⟨28, _⟩ => ⟨S256x256, .i32⟩
  | .hbm, ⟨29, _⟩ => ⟨S256x256, .i32⟩
  | .hbm, ⟨30, _⟩ => ⟨S256x256, .i32⟩
  | .hbm, ⟨31, _⟩ => ⟨S256x256, .i32⟩
  | .hbm, ⟨32, _⟩ => ⟨S_, .i32⟩
  | .hbm, ⟨33, _⟩ => ⟨S_, .i32⟩
  | .hbm, ⟨34, _⟩ => ⟨S256x256, .i32⟩
  | .hbm, ⟨35, _⟩ => ⟨S256x256, .i32⟩
  | .hbm, ⟨36, _⟩ => ⟨S256x256, .i32⟩
  | .hbm, ⟨37, _⟩ => ⟨S_, .i32⟩
  | .hbm, ⟨38, _⟩ => ⟨S256x256, .i32⟩
  | .hbm, ⟨39, _⟩ => ⟨S256x256, .i1⟩
  | .hbm, ⟨40, _⟩ => ⟨S256x256, .i32⟩
  | .hbm, ⟨41, _⟩ => ⟨S256x256, .i32⟩
  | .hbm, ⟨42, _⟩ => ⟨S_, .i32⟩
  | .hbm, ⟨43, _⟩ => ⟨S256x256, .i32⟩
  | .hbm, ⟨44, _⟩ => ⟨S256x256, .i1⟩
  | .hbm, ⟨45, _⟩ => ⟨S256x256, .i1⟩
  | .hbm, ⟨46, _⟩ => ⟨S_, .i32⟩
  | .hbm, ⟨47, _⟩ => ⟨S256x256, .i32⟩
  | .hbm, ⟨48, _⟩ => ⟨S256x256, .i32⟩
  | .hbm, ⟨49, _⟩ => ⟨S256x256, .i32⟩
  | .hbm, ⟨50, _⟩ => ⟨S256x256, .i1⟩
  | .hbm, ⟨51, _⟩ => ⟨S256x256, .bf16⟩
  | .hbm, ⟨52, _⟩ => ⟨S1x1024, .f32⟩
  | .hbm, ⟨53, _⟩ => ⟨S1x64, .f32⟩
  | .hbm, ⟨54, _⟩ => ⟨S1x1x1x64, .f32⟩
  | .hbm, ⟨55, _⟩ => ⟨S1x1x8x64, .f32⟩
  | .hbm, ⟨56, _⟩ => ⟨S1x512, .f32⟩
  | .hbm, ⟨57, _⟩ => ⟨S1x64, .f32⟩
  | .hbm, ⟨58, _⟩ => ⟨S1x1x1x64, .f32⟩
  | .hbm, ⟨59, _⟩ => ⟨S1x1x8x64, .f32⟩
  | .hbm, ⟨60, _⟩ => ⟨S1x512, .f32⟩
  | .hbm, ⟨61, _⟩ => ⟨S1024x2048, .bf16⟩
  | .hbm, ⟨62, _⟩ => ⟨S16384x1024, .f32⟩
  | .hbm, ⟨63, _⟩ => ⟨S16384x2048, .bf16⟩
  | .hbm, ⟨64, _⟩ => ⟨S1x1024, .f32⟩
  | .hbm, ⟨65, _⟩ => ⟨S1x64, .f32⟩
  | .hbm, ⟨66, _⟩ => ⟨S1x64, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1024x2048, .bf16⟩
  | .local _ .vmem, ⟨17, _⟩ => ⟨S1x1024, .f32⟩
  | .local _ .vmem, ⟨18, _⟩ => ⟨S1x512, .f32⟩
  | .local _ .vmem, ⟨19, _⟩ => ⟨S1x512, .f32⟩
  | .local _ .vmem, ⟨20, _⟩ => ⟨S256x256, .bf16⟩
  | .local _ .vmem, ⟨21, _⟩ => ⟨S512x1024, .f32⟩
  | .local _ .vmem, ⟨22, _⟩ => ⟨S512x1024, .f32⟩
  | .local _ .vmem, ⟨23, _⟩ => ⟨S512x2048, .bf16⟩
  | .local _ .vmem, ⟨24, _⟩ => ⟨S512x2048, .bf16⟩
  | .local _ .vmem, ⟨25, _⟩ => ⟨S1x1024, .f32⟩
  | .local _ .vmem, ⟨26, _⟩ => ⟨S1x64, .f32⟩
  | .local _ .vmem, ⟨27, _⟩ => ⟨S1x64, .f32⟩
  | .local _ .vmem, ⟨28, _⟩ => ⟨S1x512, .f32⟩
  | .local _ .vmem, ⟨29, _⟩ => ⟨S1x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v1 : Ref sig .tc := ⟨.hbm, 30, rfl⟩
abbrev main_v2 : Ref sig .tc := ⟨.hbm, 31, rfl⟩
abbrev main_c_0 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_c : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_0 : Ref sig .tc := ⟨.hbm, 46, rfl⟩
abbrev main_call1_v12 : Ref sig .tc := ⟨.hbm, 47, rfl⟩
abbrev main_call1_v13 : Ref sig .tc := ⟨.hbm, 48, rfl⟩
abbrev main_v3 : Ref sig .tc := ⟨.hbm, 49, rfl⟩
abbrev main_v4 : Ref sig .tc := ⟨.hbm, 50, rfl⟩
abbrev main_v5 : Ref sig .tc := ⟨.hbm, 51, rfl⟩
abbrev main_v6 : Ref sig .tc := ⟨.hbm, 52, rfl⟩
abbrev main_v7 : Ref sig .tc := ⟨.hbm, 53, rfl⟩
abbrev main_v8 : Ref sig .tc := ⟨.hbm, 54, rfl⟩
abbrev main_v9 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16_0 : Ref sig .tc := ⟨.hbm, 62, rfl⟩
abbrev main_v16_1 : Ref sig .tc := ⟨.hbm, 63, rfl⟩
abbrev main_v16_2 : Ref sig .tc := ⟨.hbm, 64, rfl⟩
abbrev main_v16_3 : Ref sig .tc := ⟨.hbm, 65, rfl⟩
abbrev main_v16_4 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem16_0 : DmaSem sig := 26
abbrev cc0_sem17_0 : DmaSem sig := 27

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v171 : BitVec 1 := Scalar.cmpi .eq arg0 c31_i32
  let v172 : BitVec 32 := Scalar.extui v171
  let c0_i32_78 : BitVec 32 := 0#32
  let v173 : BitVec 1 := Scalar.cmpi .ne v172 c0_i32_78
  v173

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Reference7Ideal.lean ====
abbrev S16384x512 : Shape := ⟨2, ![16384, 512]⟩
abbrev S16384x1024 : Shape := ⟨2, ![16384, 1024]⟩
abbrev S1024x2048 : Shape := ⟨2, ![1024, 2048]⟩
abbrev S1024 : Shape := ⟨1, ![1024]⟩
abbrev S64 : Shape := ⟨1, ![64]⟩
abbrev S16384x8x64 : Shape := ⟨3, ![16384, 8, 64]⟩
abbrev S_ : Shape := ⟨0, ![]⟩
abbrev S16384x8 : Shape := ⟨2, ![16384, 8]⟩
abbrev S16384x8x1 : Shape := ⟨3, ![16384, 8, 1]⟩
abbrev S1x1x64 : Shape := ⟨3, ![1, 1, 64]⟩
abbrev S16384 : Shape := ⟨1, ![16384]⟩
abbrev S16384x1 : Shape := ⟨2, ![16384, 1]⟩
abbrev S1x1024 : Shape := ⟨2, ![1, 1024]⟩
abbrev S16384x2048 : Shape := ⟨2, ![16384, 2048]⟩
abbrev S1x64 : Shape := ⟨2, ![1, 64]⟩

abbrev nBuf : Space → Nat
  | .hbm => 169
  | .vmem => 0
  | .smem => 0
  | _ => 0

abbrev hbmTy0_0 (i : Nat) : BufTy := match i % 128 with
  | 0 => ⟨S16384x512, .f32⟩
  | 1 => ⟨S16384x512, .f32⟩
  | 2 => ⟨S16384x512, .f32⟩
  | 3 => ⟨S16384x512, .f32⟩
  | 4 => ⟨S16384x512, .f32⟩
  | 5 => ⟨S16384x512, .f32⟩
  | 6 => ⟨S16384x1024, .f32⟩
  | 7 => ⟨S16384x1024, .f32⟩
  | 8 => ⟨S1024x2048, .f32⟩
  | 9 => ⟨S1024, .f32⟩
  | 10 => ⟨S64, .f32⟩
  | 11 => ⟨S64, .f32⟩
  | 12 => ⟨S16384x8x64, .f32⟩
  | 13 => ⟨S16384x8x64, .f32⟩
  | 14 => ⟨S_, .f32⟩
  | 15 => ⟨S16384x8, .f32⟩
  | 16 => ⟨S16384x8x1, .f32⟩
  | 17 => ⟨S_, .f32⟩
  | 18 => ⟨S16384x8x1, .f32⟩
  | 19 => ⟨S16384x8x1, .f32⟩
  | 20 => ⟨S_, .f32⟩
  | 21 => ⟨S16384x8x1, .f32⟩
  | 22 => ⟨S16384x8x1, .f32⟩
  | 23 => ⟨S16384x8x1, .f32⟩
  | 24 => ⟨S16384x8x1, .f32⟩
  | 25 => ⟨S_, .f32⟩
  | 26 => ⟨S16384x8x1, .f32⟩
  | 27 => ⟨S16384x8x1, .f32⟩
  | 28 => ⟨S16384x8x64, .f32⟩
  | 29 => ⟨S16384x8x64, .f32⟩
  | 30 => ⟨S1x1x64, .f32⟩
  | 31 => ⟨S16384x8x64, .f32⟩
  | 32 => ⟨S16384x8x64, .f32⟩
  | 33 => ⟨S16384x512, .f32⟩
  | 34 => ⟨S_, .f32⟩
  | 35 => ⟨S16384x512, .f32⟩
  | 36 => ⟨S16384x512, .f32⟩
  | 37 => ⟨S16384x8x64, .f32⟩
  | 38 => ⟨S16384x8x64, .f32⟩
  | 39 => ⟨S_, .f32⟩
  | 40 => ⟨S16384x8, .f32⟩
  | 41 => ⟨S16384x8x1, .f32⟩
  | 42 => ⟨S_, .f32⟩
  | 43 => ⟨S16384x8x1, .f32⟩
  | 44 => ⟨S16384x8x1, .f32⟩
  | 45 => ⟨S_, .f32⟩
  | 46 => ⟨S16384x8x1, .f32⟩
  | 47 => ⟨S16384x8x1, .f32⟩
  | 48 => ⟨S16384x8x1, .f32⟩
  | 49 => ⟨S16384x8x1, .f32⟩
  | 50 => ⟨S_, .f32⟩
  | 51 => ⟨S16384x8x1, .f32⟩
  | 52 => ⟨S16384x8x1, .f32⟩
  | 53 => ⟨S16384x8x64, .f32⟩
  | 54 => ⟨S16384x8x64, .f32⟩
  | 55 => ⟨S1x1x64, .f32⟩
  | 56 => ⟨S16384x8x64, .f32⟩
  | 57 => ⟨S16384x8x64, .f32⟩
  | 58 => ⟨S16384x512, .f32⟩
  | 59 => ⟨S16384x1024, .f32⟩
  | 60 => ⟨S_, .f32⟩
  | 61 => ⟨S16384, .f32⟩
  | 62 => ⟨S16384x1, .f32⟩
  | 63 => ⟨S_, .f32⟩
  | 64 => ⟨S16384x1, .f32⟩
  | 65 => ⟨S16384x1, .f32⟩
  | 66 => ⟨S_, .f32⟩
  | 67 => ⟨S16384x1, .f32⟩
  | 68 => ⟨S16384x1, .f32⟩
  | 69 => ⟨S16384x1, .f32⟩
  | 70 => ⟨S16384x1, .f32⟩
  | 71 => ⟨S_, .f32⟩
  | 72 => ⟨S16384x1, .f32⟩
  | 73 => ⟨S16384x1, .f32⟩
  | 74 => ⟨S16384x1024, .f32⟩
  | 75 => ⟨S16384x1024, .f32⟩
  | 76 => ⟨S1x1024, .f32⟩
  | 77 => ⟨S16384x1024, .f32⟩
  | 78 => ⟨S16384x1024, .f32⟩
  | 79 => ⟨S16384x2048, .f32⟩
  | 80 => ⟨S_, .f32⟩
  | 81 => ⟨S16384x512, .f32⟩
  | 82 => ⟨S16384x512, .f32⟩
  | 83 => ⟨S16384x8x64, .f32⟩
  | 84 => ⟨S16384x8x64, .f32⟩
  | 85 => ⟨S_, .f32⟩
  | 86 => ⟨S64, .f32⟩
  | 87 => ⟨S1x1x64, .f32⟩
  | 88 => ⟨S16384x8x64, .f32⟩
  | 89 => ⟨S16384x8x64, .f32⟩
  | 90 => ⟨S_, .f32⟩
  | 91 => ⟨S64, .f32⟩
  | 92 => ⟨S16384x8x64, .f32⟩
  | 93 => ⟨S_, .f32⟩
  | 94 => ⟨S16384x8, .f32⟩
  | 95 => ⟨S16384x8x1, .f32⟩
  | 96 => ⟨S16384x8x64, .f32⟩
  | 97 => ⟨S16384x8x64, .f32⟩
  | 98 => ⟨S16384x8x1, .f32⟩
  | 99 => ⟨S_, .f32⟩
  | 100 => ⟨S16384x8x1, .f32⟩
  | 101 => ⟨S16384x8x1, .f32⟩
  | 102 => ⟨S_, .f32⟩
  | 103 => ⟨S16384x8, .f32⟩
  | 104 => ⟨S16384x8x64, .f32⟩
  | 105 => ⟨S16384x8x64, .f32⟩
  | 106 => ⟨S16384x8x64, .f32⟩
  | 107 => ⟨S16384x8x64, .f32⟩
  | 108 => ⟨S16384x8x64, .f32⟩
  | 109 => ⟨S16384x512, .f32⟩
  | 110 => ⟨S16384x8x64, .f32⟩
  | 111 => ⟨S16384x8x64, .f32⟩
  | 112 => ⟨S_, .f32⟩
  | 113 => ⟨S64, .f32⟩
  | 114 => ⟨S1x1x64, .f32⟩
  | 115 => ⟨S16384x8x64, .f32⟩
  | 116 => ⟨S16384x8x64, .f32⟩
  | 117 => ⟨S_, .f32⟩
  | 118 => ⟨S64, .f32⟩
  | 119 => ⟨S16384x8x64, .f32⟩
  | 120 => ⟨S_, .f32⟩
  | 121 => ⟨S16384x8, .f32⟩
  | 122 => ⟨S16384x8x1, .f32⟩
  | 123 => ⟨S16384x8x64, .f32⟩
  | 124 => ⟨S16384x8x64, .f32⟩
  | 125 => ⟨S16384x8x1, .f32⟩
  | 126 => ⟨S_, .f32⟩
  | 127 => ⟨S16384x8x1, .f32⟩
  | _ => ⟨S16384x512, .f32⟩

abbrev hbmTy0_1 (i : Nat) : BufTy := match i % 128 with
  | 0 => ⟨S16384x8x1, .f32⟩
  | 1 => ⟨S_, .f32⟩
  | 2 => ⟨S16384x8, .f32⟩
  | 3 => ⟨S16384x8x64, .f32⟩
  | 4 => ⟨S16384x8x64, .f32⟩
  | 5 => ⟨S16384x8x64, .f32⟩
  | 6 => ⟨S16384x8x64, .f32⟩
  | 7 => ⟨S16384x8x64, .f32⟩
  | 8 => ⟨S16384x512, .f32⟩
  | 9 => ⟨S16384x2048, .f32⟩
  | 10 => ⟨S16384x1024, .f32⟩
  | 11 => ⟨S16384x1024, .f32⟩
  | 12 => ⟨S_, .f32⟩
  | 13 => ⟨S1024, .f32⟩
  | 14 => ⟨S1x1024, .f32⟩
  | 15 => ⟨S16384x1024, .f32⟩
  | 16 => ⟨S16384x1024, .f32⟩
  | 17 => ⟨S_, .f32⟩
  | 18 => ⟨S1024, .f32⟩
  | 19 => ⟨S16384x1024, .f32⟩
  | 20 => ⟨S_, .f32⟩
  | 21 => ⟨S16384, .f32⟩
  | 22 => ⟨S16384x1, .f32⟩
  | 23 => ⟨S16384x1024, .f32⟩
  | 24 => ⟨S16384x1024, .f32⟩
  | 25 => ⟨S16384x1, .f32⟩
  | 26 => ⟨S_, .f32⟩
  | 27 => ⟨S16384x1, .f32⟩
  | 28 => ⟨S16384x1, .f32⟩
  | 29 => ⟨S_, .f32⟩
  | 30 => ⟨S16384, .f32⟩
  | 31 => ⟨S16384x1024, .f32⟩
  | 32 => ⟨S16384x1024, .f32⟩
  | 33 => ⟨S16384x1024, .f32⟩
  | 34 => ⟨S16384x1024, .f32⟩
  | 35 => ⟨S16384x1024, .f32⟩
  | 36 => ⟨S16384x1024, .f32⟩
  | 37 => ⟨S16384x2048, .bf16⟩
  | 38 => ⟨S1x1024, .f32⟩
  | 39 => ⟨S1x64, .f32⟩
  | 40 => ⟨S1x64, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_v23 : Ref sig .tc := ⟨.hbm, 41, rfl⟩
abbrev main_cst_5 : Ref sig .tc := ⟨.hbm, 42, rfl⟩
abbrev main_v24 : Ref sig .tc := ⟨.hbm, 43, rfl⟩
abbrev main_v25 : Ref sig .tc := ⟨.hbm, 44, rfl⟩
abbrev main_cst_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_7 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_8 : Ref sig .tc := ⟨.hbm, 60, rfl⟩
abbrev main_v39 : Ref sig .tc := ⟨.hbm, 61, rfl⟩
abbrev main_v40 : Ref sig .tc := ⟨.hbm, 62, rfl⟩
abbrev main_cst_9 : Ref sig .tc := ⟨.hbm, 63, rfl⟩
abbrev main_v41 : Ref sig .tc := ⟨.hbm, 64, rfl⟩
abbrev main_v42 : Ref sig .tc := ⟨.hbm, 65, rfl⟩
abbrev main_cst_10 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_11 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_12 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_13 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_14 : Ref sig .tc := ⟨.hbm, 90, rfl⟩
abbrev main_v63 : Ref sig .tc := ⟨.hbm, 91, rfl⟩
abbrev main_v64 : Ref sig .tc := ⟨.hbm, 92, rfl⟩
abbrev main_cst_15 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_16 : Ref sig .tc := ⟨.hbm, 99, rfl⟩
abbrev main_v70 : Ref sig .tc := ⟨.hbm, 100, rfl⟩
abbrev main_v71 : Ref sig .tc := ⟨.hbm, 101, rfl⟩
abbrev main_cst_17 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_18 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_19 : Ref sig .tc := ⟨.hbm, 117, rfl⟩
abbrev main_v85 : Ref sig .tc := ⟨.hbm, 118, rfl⟩
abbrev main_v86 : Ref sig .tc := ⟨.hbm, 119, rfl⟩
abbrev main_cst_20 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_21 : Ref sig .tc := ⟨.hbm, 126, rfl⟩
abbrev main_v92 : Ref sig .tc := ⟨.hbm, 127, rfl⟩
abbrev main_v93 : Ref sig .tc := ⟨.hbm, 128, rfl⟩
abbrev main_cst_22 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_cst_23 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_cst_24 : Ref sig .tc := ⟨.hbm, 145, rfl⟩
abbrev main_v108 : Ref sig .tc := ⟨.hbm, 146, rfl⟩
abbrev main_v109 : Ref sig .tc := ⟨.hbm, 147, rfl⟩
abbrev main_cst_25 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_cst_26 : Ref sig .tc := ⟨.hbm, 154, rfl⟩
abbrev main_v115 : Ref sig .tc := ⟨.hbm, 155, rfl⟩
abbrev main_v116 : Ref sig .tc := ⟨.hbm, 156, rfl⟩
abbrev main_cst_27 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩

abbrev nD : Nat := 1
abbrev τ : Topo := Topo.v7x

variable {F : FTy → Type} [FloatOps F]
-- ==== Proof.Products.G2.lean ====
/-
  The gradient of `w_mlp_up`: the kernel adds the products of four runs of 4096 rows into one block of the result, and the
  reference contracts all 16384 rows at once.
-/
module

public import proofs.«01_k».proof.Proof.Gen.Kernel2Ideal.Value
public import proofs.«01_k».proof.Proof.Gen.Reference2Ideal.Run
public import Idealize.ShloMosaic.Lib.Pipeline.ValueKit

@[expose] public section

set_option maxRecDepth 16384

noncomputable section

namespace Products.G2

open Idealize.ShloMosaic Idealize.ShloMosaic.TcCoe Idealize.SL.Sem
open Cert.Kernel2Ideal Cert.Kernel2Ideal.Gen

variable (m : (ℓ : Loc nD τ sig) → Buf (Elt Ideal) ℓ)

/-- The reference's result as one term over the two arrays. -/
abbrev grad (A : FVec Ideal S16384x1024 .bf16) (B : FVec Ideal S16384x4096 .bf16) : FVec Ideal S1024x4096 .f32 :=
  transpose Cert.Reference2Ideal.S1024x4096 [1, 0] (Host.dotGeneral Cert.Reference2Ideal.dot_S16384x4096_S16384x1024_S4096x1024_0_0_1_1_n_n none (extf .f32 B Cert.Reference2Ideal.Gen.bitsLt_bf16_f32) (extf .f32 A Cert.Reference2Ideal.Gen.bitsLt_bf16_f32)) Cert.Reference2Ideal.Gen.transposes_S4096x1024_S1024x4096_1_0

/-- An element of the gradient sums, over all rows, the product of the two arrays' elements in the columns its row and column number. -/
theorem grad_at (A : FVec Ideal S16384x1024 .bf16) (B : FVec Ideal S16384x4096 .bf16) (x : S1024x4096.Idx) :
    grad A B x = ∑ l : Fin 16384, A (ix2 l (x 0)) * B (ix2 l (x 1)) := by
  pointwise [grad]
  exact Finset.sum_congr rfl fun l _ => mul_comm _ _

/-- The block starts at zero. -/
theorem zero_at (x : S1024x1024.Idx) : k0_pay1 (F := Ideal) x = 0 := by pointwise [k0_pay1]

/-- One step adds the products of 4096 rows. -/
theorem step_at (acc : FVec Ideal S1024x1024 .f32) (a : FVec Ideal S4096x1024 .bf16) (b : FVec Ideal S4096x1024 .bf16)
    (x : S1024x1024.Idx) : k0_pay2 acc a b x = acc x + ∑ k : Fin 4096, a (ix2 k (x 0)) * b (ix2 k (x 1)) := by
  pointwise [k0_pay2]

/-- Where each point's blocks lie. -/
theorem blocks : ∀ t : Fin cfg0.N, win0_0.index t = ![t.val % 4, 0] ∧ win0_1.index t = ![t.val % 4, t.val / 4]
    ∧ win0_2.index t = ![0, t.val / 4] :=
  (by decide +kernel : ∀ t : Fin grid0.N, _)

/-- The result array holds the reference's gradient. -/
theorem final (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h]; frame_out; rw [step_at, zero_at])
    (fun t h j => by rw [outsAt0_B m c t h]; frame_out; rw [step_at])
    t ((flush0_2 t).mp hf) _, zero_add, grad_at]
  refine Fin.sum_mul_add_congr fun s k hl => ?_
  blk_point [iblk, V, blocks t, blocks ⟨_, Pipeline.run_point_lt_of_flush t ((flush0_2 t).mp hf) s⟩]

end Products.G2

end
-- ==== Proof.Products.G3.lean ====
/-
  The gradient of `w_mlp_down`: the kernel adds the products of four runs of 4096 rows into one block of the result, and the
  reference contracts all 16384 rows at once.
-/
module

public import proofs.«01_k».proof.Proof.Gen.Kernel3Ideal.Value
public import proofs.«01_k».proof.Proof.Gen.Reference3Ideal.Run
public import Idealize.ShloMosaic.Lib.Pipeline.ValueKit

@[expose] public section

set_option maxRecDepth 16384

noncomputable section

namespace Products.G3

open Idealize.ShloMosaic Idealize.ShloMosaic.TcCoe Idealize.SL.Sem
open Cert.Kernel3Ideal Cert.Kernel3Ideal.Gen

variable (m : (ℓ : Loc nD τ sig) → Buf (Elt Ideal) ℓ)

/-- The reference's result as one term over the two arrays. -/
abbrev grad (A : FVec Ideal S16384x4096 .bf16) (B : FVec Ideal S16384x1024 .bf16) : FVec Ideal S4096x1024 .f32 :=
  transpose Cert.Reference3Ideal.S4096x1024 [1, 0] (Host.dotGeneral Cert.Reference3Ideal.dot_S16384x1024_S16384x4096_S1024x4096_0_0_1_1_n_n none (extf .f32 B Cert.Reference3Ideal.Gen.bitsLt_bf16_f32) (extf .f32 A Cert.Reference3Ideal.Gen.bitsLt_bf16_f32)) Cert.Reference3Ideal.Gen.transposes_S1024x4096_S4096x1024_1_0

/-- An element of the gradient sums, over all rows, the product of the two arrays' elements in the columns its row and column number. -/
theorem grad_at (A : FVec Ideal S16384x4096 .bf16) (B : FVec Ideal S16384x1024 .bf16) (x : S4096x1024.Idx) :
    grad A B x = ∑ l : Fin 16384, A (ix2 l (x 0)) * B (ix2 l (x 1)) := by
  pointwise [grad]
  exact Finset.sum_congr rfl fun l _ => mul_comm _ _

/-- The block starts at zero. -/
theorem zero_at (x : S1024x1024.Idx) : k0_pay1 (F := Ideal) x = 0 := by pointwise [k0_pay1]

/-- One step adds the products of 4096 rows. -/
theorem step_at (acc : FVec Ideal S1024x1024 .f32) (a : FVec Ideal S4096x1024 .bf16) (b : FVec Ideal S4096x1024 .bf16)
    (x : S1024x1024.Idx) : k0_pay2 acc a b x = acc x + ∑ k : Fin 4096, a (ix2 k (x 0)) * b (ix2 k (x 1)) := by
  pointwise [k0_pay2]

/-- Where each point's blocks lie. -/
theorem blocks : ∀ t : Fin cfg0.N, win0_0.index t = ![t.val % 4, t.val / 4] ∧ win0_1.index t = ![t.val % 4, 0]
    ∧ win0_2.index t = ![t.val / 4, 0] :=
  (by decide +kernel : ∀ t : Fin grid0.N, _)

/-- The result array holds the reference's gradient. -/
theorem final (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h]; frame_out; rw [step_at, zero_at])
    (fun t h j => by rw [outsAt0_B m c t h]; frame_out; rw [step_at])
    t ((flush0_2 t).mp hf) _, zero_add, grad_at]
  refine Fin.sum_mul_add_congr fun s k hl => ?_
  blk_point [iblk, V, blocks t, blocks ⟨_, Pipeline.run_point_lt_of_flush t ((flush0_2 t).mp hf) s⟩]

end Products.G3

end
-- ==== Proof.Products.G4.lean ====
/-
  The gradient of `w_out`: the kernel adds the products of four runs of 4096 rows into one block of the result, and the
  reference contracts all 16384 rows at once.
-/
module

public import proofs.«01_k».proof.Proof.Gen.Kernel4Ideal.Value
public import proofs.«01_k».proof.Proof.Gen.Reference4Ideal.Run
public import Idealize.ShloMosaic.Lib.Pipeline.ValueKit

@[expose] public section

set_option maxRecDepth 16384

noncomputable section

namespace Products.G4

open Idealize.ShloMosaic Idealize.ShloMosaic.TcCoe Idealize.SL.Sem
open Cert.Kernel4Ideal Cert.Kernel4Ideal.Gen

variable (m : (ℓ : Loc nD τ sig) → Buf (Elt Ideal) ℓ)

/-- The reference's result as one term over the two arrays. -/
abbrev grad (A : FVec Ideal S16384x1024 .bf16) (B : FVec Ideal S16384x1024 .bf16) : FVec Ideal S1024x1024 .f32 :=
  transpose Cert.Reference4Ideal.S1024x1024 [1, 0] (Host.dotGeneral Cert.Reference4Ideal.dot_S16384x1024_S16384x1024_S1024x1024_0_0_1_1_n_n none (extf .f32 B Cert.Reference4Ideal.Gen.bitsLt_bf16_f32) (extf .f32 A Cert.Reference4Ideal.Gen.bitsLt_bf16_f32)) Cert.Reference4Ideal.Gen.transposes_S1024x1024_S1024x1024_1_0

/-- An element of the gradient sums, over all rows, the product of the two arrays' elements in the columns its row and column number. -/
theorem grad_at (A : FVec Ideal S16384x1024 .bf16) (B : FVec Ideal S16384x1024 .bf16) (x : S1024x1024.Idx) :
    grad A B x = ∑ l : Fin 16384, A (ix2 l (x 0)) * B (ix2 l (x 1)) := by
  pointwise [grad]
  exact Finset.sum_congr rfl fun l _ => mul_comm _ _

/-- The block starts at zero. -/
theorem zero_at (x : S1024x1024.Idx) : k0_pay1 (F := Ideal) x = 0 := by pointwise [k0_pay1]

/-- One step adds the products of 4096 rows. -/
theorem step_at (acc : FVec Ideal S1024x1024 .f32) (a : FVec Ideal S4096x1024 .bf16) (b : FVec Ideal S4096x1024 .bf16)
    (x : S1024x1024.Idx) : k0_pay2 acc a b x = acc x + ∑ k : Fin 4096, a (ix2 k (x 0)) * b (ix2 k (x 1)) := by
  pointwise [k0_pay2]

/-- Where each point's blocks lie. -/
theorem blocks : ∀ t : Fin cfg0.N, win0_0.index t = ![t.val % 4, 0] ∧ win0_1.index t = ![t.val % 4, 0]
    ∧ win0_2.index t = ![0, 0] :=
  (by decide +kernel : ∀ t : Fin grid0.N, _)

/-- The result array holds the reference's gradient. -/
theorem final (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h]; frame_out; rw [step_at, zero_at])
    (fun t h j => by rw [outsAt0_B m c t h]; frame_out; rw [step_at])
    t ((flush0_2 t).mp hf) _, zero_add, grad_at]
  refine Fin.sum_mul_add_congr fun s k hl => ?_
  blk_point [iblk, V, blocks t, blocks ⟨_, Pipeline.run_point_lt_of_flush t ((flush0_2 t).mp hf) s⟩]

end Products.G4

end
-- ==== Proof.Products.G5.lean ====
/-
  The gradient of `glu_w`: the kernel adds the products of four runs of 4096 rows into one block of the result, and the
  reference contracts all 16384 rows at once.
-/
module

public import proofs.«01_k».proof.Proof.Gen.Kernel5Ideal.Value
public import proofs.«01_k».proof.Proof.Gen.Reference5Ideal.Run
public import Idealize.ShloMosaic.Lib.Pipeline.ValueKit

@[expose] public section

set_option maxRecDepth 16384

noncomputable section

namespace Products.G5

open Idealize.ShloMosaic Idealize.ShloMosaic.TcCoe Idealize.SL.Sem
open Cert.Kernel5Ideal Cert.Kernel5Ideal.Gen

variable (m : (ℓ : Loc nD τ sig) → Buf (Elt Ideal) ℓ)

/-- The reference's result as one term over the two arrays. -/
abbrev grad (A : FVec Ideal S16384x512 .bf16) (B : FVec Ideal S16384x512 .bf16) : FVec Ideal S512x512 .f32 :=
  transpose Cert.Reference5Ideal.S512x512 [1, 0] (Host.dotGeneral Cert.Reference5Ideal.dot_S16384x512_S16384x512_S512x512_0_0_1_1_n_n none (extf .f32 B Cert.Reference5Ideal.Gen.bitsLt_bf16_f32) (extf .f32 A Cert.Reference5Ideal.Gen.bitsLt_bf16_f32)) Cert.Reference5Ideal.Gen.transposes_S512x512_S512x512_1_0

/-- An element of the gradient sums, over all rows, the product of the two arrays' elements in the columns its row and column number. -/
theorem grad_at (A : FVec Ideal S16384x512 .bf16) (B : FVec Ideal S16384x512 .bf16) (x : S512x512.Idx) :
    grad A B x = ∑ l : Fin 16384, A (ix2 l (x 0)) * B (ix2 l (x 1)) := by
  pointwise [grad]
  exact Finset.sum_congr rfl fun l _ => mul_comm _ _

/-- The block starts at zero. -/
theorem zero_at (x : S512x512.Idx) : k0_pay1 (F := Ideal) x = 0 := by pointwise [k0_pay1]

/-- One step adds the products of 4096 rows. -/
theorem step_at (acc : FVec Ideal S512x512 .f32) (a : FVec Ideal S4096x512 .bf16) (b : FVec Ideal S4096x512 .bf16)
    (x : S512x512.Idx) : k0_pay2 acc a b x = acc x + ∑ k : Fin 4096, a (ix2 k (x 0)) * b (ix2 k (x 1)) := by
  pointwise [k0_pay2]

/-- Where each point's blocks lie. -/
theorem blocks : ∀ t : Fin cfg0.N, win0_0.index t = ![t.val % 4, 0] ∧ win0_1.index t = ![t.val % 4, 0]
    ∧ win0_2.index t = ![0, 0] :=
  (by decide +kernel : ∀ t : Fin grid0.N, _)

/-- The result array holds the reference's gradient. -/
theorem final (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h]; frame_out; rw [step_at, zero_at])
    (fun t h j => by rw [outsAt0_B m c t h]; frame_out; rw [step_at])
    t ((flush0_2 t).mp hf) _, zero_add, grad_at]
  refine Fin.sum_mul_add_congr fun s k hl => ?_
  blk_point [iblk, V, blocks t, blocks ⟨_, Pipeline.run_point_lt_of_flush t ((flush0_2 t).mp hf) s⟩]

end Products.G5

end
-- ==== Proof.Products.G6.lean ====
/-
  The gradient of `w_in`: the kernel adds the products of four runs of 4096 rows into one block of the result, and the
  reference contracts all 16384 rows at once.
-/
module

public import proofs.«01_k».proof.Proof.Gen.Kernel6Ideal.Value
public import proofs.«01_k».proof.Proof.Gen.Reference6Ideal.Run
public import Idealize.ShloMosaic.Lib.Pipeline.ValueKit

@[expose] public section

set_option maxRecDepth 16384

noncomputable section

namespace Products.G6

open Idealize.ShloMosaic Idealize.ShloMosaic.TcCoe Idealize.SL.Sem
open Cert.Kernel6Ideal Cert.Kernel6Ideal.Gen

variable (m : (ℓ : Loc nD τ sig) → Buf (Elt Ideal) ℓ)

/-- The reference's result as one term over the two arrays. -/
abbrev grad (A : FVec Ideal S16384x1024 .bf16) (B : FVec Ideal S16384x2048 .bf16) : FVec Ideal S1024x2048 .f32 :=
  transpose Cert.Reference6Ideal.S1024x2048 [1, 0] (Host.dotGeneral Cert.Reference6Ideal.dot_S16384x2048_S16384x1024_S2048x1024_0_0_1_1_n_n none (extf .f32 B Cert.Reference6Ideal.Gen.bitsLt_bf16_f32) (extf .f32 A Cert.Reference6Ideal.Gen.bitsLt_bf16_f32)) Cert.Reference6Ideal.Gen.transposes_S2048x1024_S1024x2048_1_0

/-- An element of the gradient sums, over all rows, the product of the two arrays' elements in the columns its row and column number. -/
theorem grad_at (A : FVec Ideal S16384x1024 .bf16) (B : FVec Ideal S16384x2048 .bf16) (x : S1024x2048.Idx) :
    grad A B x = ∑ l : Fin 16384, A (ix2 l (x 0)) * B (ix2 l (x 1)) := by
  pointwise [grad]
  exact Finset.sum_congr rfl fun l _ => mul_comm _ _

/-- The block starts at zero. -/
theorem zero_at (x : S1024x1024.Idx) : k0_pay1 (F := Ideal) x = 0 := by pointwise [k0_pay1]

/-- One step adds the products of 4096 rows. -/
theorem step_at (acc : FVec Ideal S1024x1024 .f32) (a : FVec Ideal S4096x1024 .bf16) (b : FVec Ideal S4096x1024 .bf16)
    (x : S1024x1024.Idx) : k0_pay2 acc a b x = acc x + ∑ k : Fin 4096, a (ix2 k (x 0)) * b (ix2 k (x 1)) := by
  pointwise [k0_pay2]

/-- Where each point's blocks lie. -/
theorem blocks : ∀ t : Fin cfg0.N, win0_0.index t = ![t.val % 4, 0] ∧ win0_1.index t = ![t.val % 4, t.val / 4]
    ∧ win0_2.index t = ![0, t.val / 4] :=
  (by decide +kernel : ∀ t : Fin grid0.N, _)

/-- The result array holds the reference's gradient. -/
theorem final (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h]; frame_out; rw [step_at, zero_at])
    (fun t h j => by rw [outsAt0_B m c t h]; frame_out; rw [step_at])
    t ((flush0_2 t).mp hf) _, zero_add, grad_at]
  refine Fin.sum_mul_add_congr fun s k hl => ?_
  blk_point [iblk, V, blocks t, blocks ⟨_, Pipeline.run_point_lt_of_flush t ((flush0_2 t).mp hf) s⟩]

end Products.G6

end
-- ==== Proof.Mixer.Model.lean ====
/-
  The token-wise mathematics of the call `mixer_mlp`, over the real numbers.

  One token of the step is four rows (the attention output, the state-space output, the residual stream and the target);
  the weights are eight arrays. Everything the call leaves behind is a function of one token's rows and the weights, or a
  sum of such functions over the tokens. The kernel and the reference are each shown to compute these functions.
-/
module

public import Idealize.ShloMosaic.Lib.Pointwise
public import Idealize.ShloMosaic.Lib.Pipeline.ValueKit

@[expose] public section

noncomputable section

namespace Mixer

/-- The weights and gains of the call, as real arrays. -/
structure Weights where
  wg : Fin 512 → Fin 512 → ℝ
  b : Fin 512 → ℝ
  ga : Fin 512 → ℝ
  gs : Fin 512 → ℝ
  wo : Fin 1024 → Fin 1024 → ℝ
  g2 : Fin 1024 → ℝ
  wu : Fin 1024 → Fin 4096 → ℝ
  wd : Fin 4096 → Fin 1024 → ℝ

/-- One token: its rows of the attention output, the state-space output, the residual stream and the target. -/
structure Token where
  a : Fin 512 → ℝ
  y : Fin 512 → ℝ
  x : Fin 1024 → ℝ
  tg : Fin 1024 → ℝ

/-- The single-precision number nearest the square root of two over pi. -/
def geluC : ℝ := 13386282 / 16777216
/-- The single-precision number nearest one millionth, which the norms add to the mean square. -/
def eps : ℝ := 8796093 / 8796093022208

/-- The hyperbolic tangent inside the activation. -/
def gelT (y : ℝ) : ℝ := Real.tanh (geluC * (y + 8943 / 200000 * (y * y * y)))
/-- The activation of the gated unit. -/
def gelZ (y : ℝ) : ℝ := y * (1 / 2 * (1 + gelT y))
/-- The derivative of the activation. -/
def gelD (y : ℝ) : ℝ :=
  1 / 2 * (1 + gelT y) + 1 / 2 * y * (1 - gelT y * gelT y) * (geluC * (1 + 26829 / 200000 * y * y))

/-- The mean square of a row plus `eps`: what the norm takes the inverse square root of. -/
def msq {n : ℕ} (v : Fin n → ℝ) : ℝ := (∑ k, v k * v k) / n + eps
/-- The norm's factor of a row. -/
def rms {n : ℕ} (v : Fin n → ℝ) : ℝ := (√(msq v))⁻¹
/-- A normed row with its gain. -/
def nrm {n : ℕ} (v g : Fin n → ℝ) (j : Fin n) : ℝ := v j * rms v * g j
/-- The gradient of a normed row: `d` is the gradient of the normed row, `v` the row, `g` the gain. -/
def nrmBwd {n : ℕ} (d v g : Fin n → ℝ) (j : Fin n) : ℝ :=
  rms v * (d j * g j - v j * rms v * ((∑ k, d k * g k * (v k * rms v)) / n))

variable (W : Weights) (T : Token)

/-- The activated state-space row. -/
def z (j : Fin 512) : ℝ := gelZ (T.y j)
/-- The gate. -/
def sg (j : Fin 512) : ℝ := (1 + Real.exp (-((∑ k, z T k * W.wg k j) + W.b j)))⁻¹
/-- The gated row. -/
def s (j : Fin 512) : ℝ := z T j * sg W T j
/-- The two normed halves. -/
def an (j : Fin 512) : ℝ := nrm T.a W.ga j
def sn (j : Fin 512) : ℝ := nrm (s W T) W.gs j
/-- The mixed row: the normed attention row followed by the normed gated row. -/
def mix (j : Fin 1024) : ℝ := if h : j.val < 512 then an W T ⟨j.val, h⟩ else sn W T ⟨j.val - 512, by omega⟩
/-- The residual stream after the mixer. -/
def x2 (j : Fin 1024) : ℝ := T.x j + ∑ k, mix W T k * W.wo k j
/-- The second norm. -/
def hh (j : Fin 1024) : ℝ := nrm (x2 W T) W.g2 j
/-- The wide layer before and after its activation: the square of the positive part. -/
def up (c : Fin 4096) : ℝ := ∑ k, hh W T k * W.wu k c
def ru (c : Fin 4096) : ℝ := max (up W T c) 0
def hdn (c : Fin 4096) : ℝ := ru W T c * ru W T c
/-- The error of the output and its gradient. -/
def err (j : Fin 1024) : ℝ := x2 W T j + (∑ c, hdn W T c * W.wd c j) - T.tg j
def dy (j : Fin 1024) : ℝ := err W T j * (1 / 1024)
/-- The token's share of the loss. -/
def loss : ℝ := 1 / 2 * (∑ j, err W T j * err W T j) * (1 / 1024)
/-- The gradient of the wide layer, of the second norm's output and of the residual stream. -/
def dup (c : Fin 4096) : ℝ := (∑ j, dy W T j * W.wd c j) * (2 * ru W T c)
def dh (k : Fin 1024) : ℝ := ∑ c, dup W T c * W.wu k c
def dx2 (j : Fin 1024) : ℝ := dy W T j + nrmBwd (dh W T) (x2 W T) W.g2 j
/-- The gradient of the mixed row and its two halves. -/
def dmix (k : Fin 1024) : ℝ := ∑ j, dx2 W T j * W.wo k j
def dan (k : Fin 512) : ℝ := dmix W T ⟨k.val, by omega⟩
def dsn (k : Fin 512) : ℝ := dmix W T ⟨512 + k.val, by omega⟩
/-- The gradient of the attention row and of the gated row. -/
def dattn (j : Fin 512) : ℝ := nrmBwd (dan W T) T.a W.ga j
def ds (j : Fin 512) : ℝ := nrmBwd (dsn W T) (s W T) W.gs j
/-- The gradient of the gate's argument and of the state-space row. -/
def dgp (j : Fin 512) : ℝ := ds W T j * z T j * sg W T j * (1 - sg W T j)
def dyv (j : Fin 512) : ℝ := (ds W T j * sg W T j + ∑ k, dgp W T k * W.wg j k) * gelD (T.y j)
/-- The token's shares of the gradients of the three gains. -/
def tg2 (j : Fin 1024) : ℝ := dh W T j * (x2 W T j * rms (x2 W T))
def tga (j : Fin 512) : ℝ := dan W T j * (T.a j * rms T.a)
def tgs (j : Fin 512) : ℝ := dsn W T j * (s W T j * rms (s W T))

end Mixer

end
-- ==== Proof.Mixer.Lift.lean ====
/-
  Extended reals that are real: the arithmetic of the programs on them is the arithmetic of the real numbers.
-/
module

public import proofs.«01_k».proof.Proof.Mixer.Model

@[expose] public section

noncomputable section

namespace Mixer

open Idealize.ShloMosaic

/-- A rank-two array of extended reals whose elements are real. -/
def rl {a b : ℕ} (f : Fin a → Fin b → ℝ) : (⟨2, ![a, b]⟩ : Shape).Idx → EReal :=
  fun i => ((f (i 0) (i 1) : ℝ) : EReal)

/-- A rank-three array of extended reals whose elements are real, its first axis of extent one. -/
def rl3 {a b : ℕ} (f : Fin a → Fin b → ℝ) : (⟨3, ![1, a, b]⟩ : Shape).Idx → EReal :=
  fun i => ((f (i 1) (i 2) : ℝ) : EReal)

theorem rl_ext {a b : ℕ} {X : (⟨2, ![a, b]⟩ : Shape).Idx → EReal} {f : Fin a → Fin b → ℝ}
    (h : ∀ i j, X (ix2 i j) = ((f i j : ℝ) : EReal)) : X = rl f := by
  funext i; rw [eq_ix2 i]; exact h _ _

theorem rl3_ext {a b : ℕ} {X : (⟨3, ![1, a, b]⟩ : Shape).Idx → EReal} {f : Fin a → Fin b → ℝ}
    (h : ∀ i j, X (ix3 0 i j) = ((f i j : ℝ) : EReal)) : X = rl3 f := by
  funext i
  have h0 : i 0 = (0 : Fin 1) := Subsingleton.elim (α := Fin 1) _ _
  rw [eq_ix3 i, h0]; exact h _ _

theorem rl_at {a b : ℕ} (f : Fin a → Fin b → ℝ) (i : Fin a) (j : Fin b) :
    rl f (ix2 i j) = ((f i j : ℝ) : EReal) := rfl

theorem rl3_at {a b : ℕ} (f : Fin a → Fin b → ℝ) (u : Fin 1) (i : Fin a) (j : Fin b) :
    rl3 f (ix3 u i j) = ((f i j : ℝ) : EReal) := rfl

/-- A finite sum of reals, read as an extended real. -/
theorem coe_sum {ι : Type*} (t : Finset ι) (f : ι → ℝ) : ∑ k ∈ t, ((f k : ℝ) : EReal) = ((∑ k ∈ t, f k : ℝ) : EReal) := by
  classical
  refine Finset.induction_on t (by simp) fun a u ha ih => ?_
  rw [Finset.sum_insert ha, Finset.sum_insert ha, ih, EReal.coe_add]

/-! The literals of the two programs. -/

theorem lit_half : Ideal.ofBits .f32 0x3F000000#32 = ((1 / 2 : ℝ) : EReal) := by
  simp [Ideal.ofBits, Ideal.ieee, -EReal.coe_mul]; norm_num
theorem lit_neg_half : Ideal.ofBits .f32 0xBF000000#32 = ((-(1 / 2) : ℝ) : EReal) := by
  simp [Ideal.ofBits, Ideal.ieee, -EReal.coe_mul, -EReal.coe_neg]; norm_num
theorem lit_two : Ideal.ofBits .f32 0x40000000#32 = ((2 : ℝ) : EReal) := by
  simp [Ideal.ofBits, Ideal.ieee, -EReal.coe_mul]; norm_num
theorem lit_three : Ideal.ofBits .f32 0x40400000#32 = ((3 : ℝ) : EReal) := by
  simp [Ideal.ofBits, Ideal.ieee, -EReal.coe_mul]; norm_num
theorem lit_512 : Ideal.ofBits .f32 0x44000000#32 = ((512 : ℝ) : EReal) := by
  simp [Ideal.ofBits, Ideal.ieee, -EReal.coe_mul]; norm_num
theorem lit_1024 : Ideal.ofBits .f32 0x44800000#32 = ((1024 : ℝ) : EReal) := by
  simp [Ideal.ofBits, Ideal.ieee, -EReal.coe_mul]; norm_num
theorem lit_inv : Ideal.ofBits .f32 0x3A800000#32 = ((1 / 1024 : ℝ) : EReal) := by
  simp [Ideal.ofBits, Ideal.ieee, -EReal.coe_mul]; norm_num
theorem lit_eps : Ideal.ofBits .f32 0x358637BD#32 = ((eps : ℝ) : EReal) := by
  simp [Ideal.ofBits, Ideal.ieee, -EReal.coe_mul, eps]; norm_num
theorem lit_geluC : Ideal.ofBits .f32 0x3F4C422A#32 = ((geluC : ℝ) : EReal) := by
  simp [Ideal.ofBits, Ideal.ieee, -EReal.coe_mul, geluC]; norm_num
theorem lit_num : Ideal.ofBits .f32 0x472EAB00#32 = ((44715 : ℝ) : EReal) := by
  simp [Ideal.ofBits, Ideal.ieee, -EReal.coe_mul]; norm_num
theorem lit_den : Ideal.ofBits .f32 0x49742400#32 = ((1000000 : ℝ) : EReal) := by
  simp [Ideal.ofBits, Ideal.ieee, -EReal.coe_mul]; norm_num

/-- The literals, together. -/
theorem lits :
    (Ideal.ofBits .f32 0x3F000000#32 = ((1 / 2 : ℝ) : EReal)) ∧ (Ideal.ofBits .f32 0xBF000000#32 = ((-(1 / 2) : ℝ) : EReal))
    ∧ (Ideal.ofBits .f32 0x40000000#32 = ((2 : ℝ) : EReal)) ∧ (Ideal.ofBits .f32 0x40400000#32 = ((3 : ℝ) : EReal))
    ∧ (Ideal.ofBits .f32 0x44000000#32 = ((512 : ℝ) : EReal)) ∧ (Ideal.ofBits .f32 0x44800000#32 = ((1024 : ℝ) : EReal))
    ∧ (Ideal.ofBits .f32 0x3A800000#32 = ((1 / 1024 : ℝ) : EReal)) ∧ (Ideal.ofBits .f32 0x358637BD#32 = ((eps : ℝ) : EReal))
    ∧ (Ideal.ofBits .f32 0x3F4C422A#32 = ((geluC : ℝ) : EReal)) ∧ (Ideal.ofBits .f32 0x472EAB00#32 = ((44715 : ℝ) : EReal))
    ∧ (Ideal.ofBits .f32 0x49742400#32 = ((1000000 : ℝ) : EReal)) ∧ ((0 : EReal) = ((0 : ℝ) : EReal))
    ∧ ((1 : EReal) = ((1 : ℝ) : EReal)) :=
  ⟨lit_half, lit_neg_half, lit_two, lit_three, lit_512, lit_1024, lit_inv, lit_eps, lit_geluC, lit_num, lit_den, rfl, rfl⟩

theorem div_real {x y : ℝ} (h : y ≠ 0) : Ideal.div (x : EReal) (y : EReal) = ((x / y : ℝ) : EReal) := by
  rw [Ideal.div_coe h, ← EReal.coe_mul, mul_one_div]

theorem msq_pos {n : ℕ} (v : Fin n → ℝ) : 0 < msq v := by
  have h : 0 ≤ (∑ k, v k * v k) / (n : ℝ) := div_nonneg (Finset.sum_nonneg fun k _ => mul_self_nonneg _) (Nat.cast_nonneg _)
  have : (0 : ℝ) < eps := by norm_num [eps]
  unfold msq; linarith

theorem rsqrt_msq {n : ℕ} (v : Fin n → ℝ) : Ideal.rsqrt ((msq v : ℝ) : EReal) = ((rms v : ℝ) : EReal) := by
  rw [Ideal.rsqrt_coe, if_neg (not_lt.mpr (msq_pos v).le), if_neg (msq_pos v).ne']; rfl

/-- The operations of the programs on real extended reals. -/
theorem lift :
    (∀ a b : ℝ, (a : EReal) * (b : EReal) = ((a * b : ℝ) : EReal)) ∧ (∀ a b : ℝ, (a : EReal) + (b : EReal) = ((a + b : ℝ) : EReal))
    ∧ (∀ a b : ℝ, (a : EReal) - (b : EReal) = ((a - b : ℝ) : EReal)) ∧ (∀ a : ℝ, -(a : EReal) = ((-a : ℝ) : EReal))
    ∧ (∀ a b : ℝ, max (a : EReal) (b : EReal) = ((max a b : ℝ) : EReal))
    ∧ (∀ a : ℝ, Ideal.tanh (a : EReal) = ((Real.tanh a : ℝ) : EReal)) ∧ (∀ a : ℝ, Ideal.exp (a : EReal) = ((Real.exp a : ℝ) : EReal))
    ∧ (∀ a : ℝ, Ideal.logistic (a : EReal) = (((1 + Real.exp (-a))⁻¹ : ℝ) : EReal))
    ∧ (∀ a : ℝ, Ideal.div (a : EReal) ((512 : ℝ) : EReal) = ((a / 512 : ℝ) : EReal))
    ∧ (∀ a : ℝ, Ideal.div (a : EReal) ((1024 : ℝ) : EReal) = ((a / 1024 : ℝ) : EReal))
    ∧ (∀ a : ℝ, Ideal.div (a : EReal) ((1000000 : ℝ) : EReal) = ((a / 1000000 : ℝ) : EReal))
    ∧ (∀ a b : ℝ, Ideal.div (a : EReal) ((1 + Real.exp b : ℝ) : EReal) = ((a / (1 + Real.exp b) : ℝ) : EReal))
    ∧ (∀ v : Fin 512 → ℝ, Ideal.rsqrt (((∑ k, v k * v k) / 512 + eps : ℝ) : EReal) = ((rms v : ℝ) : EReal))
    ∧ (∀ v : Fin 1024 → ℝ, Ideal.rsqrt (((∑ k, v k * v k) / 1024 + eps : ℝ) : EReal) = ((rms v : ℝ) : EReal)) := by
  refine ⟨fun a b => (EReal.coe_mul a b).symm, fun a b => (EReal.coe_add a b).symm, fun a b => (EReal.coe_sub a b).symm,
    fun a => (EReal.coe_neg a).symm, fun a b => ?_, fun a => Ideal.tanh_coe a, fun a => Ideal.exp_coe a, fun a => Ideal.logistic_coe a,
    fun a => div_real (by norm_num), fun a => div_real (by norm_num), fun a => div_real (by norm_num),
    fun a b => div_real (by have := Real.exp_pos b; linarith), fun v => ?_, fun v => ?_⟩
  · exact (EReal.coe_strictMono.monotone.map_max (a := a) (b := b)).symm
  · rw [← rsqrt_msq]; simp only [msq]; norm_num
  · rw [← rsqrt_msq]; simp only [msq]; norm_num

end Mixer

end
-- ==== Proof.Mixer.Payload.lean ====
/-
  What each step of the kernel's body computes on real arrays, element by element. `rl f` is the array whose element at
  row `i` and column `j` is the real number `f i j`; a vector kept as one row is `rl fun _ j => g j`.
-/
module

public import proofs.«01_k».proof.Proof.Mixer.Lift
public import proofs.«01_k».proof.Proof.Gen.KernelIdeal.Skeleton

@[expose] public section

set_option maxRecDepth 16384

noncomputable section

namespace Mixer

open Idealize.ShloMosaic Cert.KernelIdeal Cert.KernelIdeal.Gen

theorem named_k : Named.named (F := Ideal) κ "gelu_k" (φ := .f32) 0x3D372713#32 = ((8943 / 200000 : ℝ) : EReal) := rfl
theorem named_3k : Named.named (F := Ideal) κ "gelu_3k" (φ := .f32) 0x3E095D4F#32 = ((26829 / 200000 : ℝ) : EReal) := rfl

theorem pay10 (f : Fin 256 → Fin 512 → ℝ) :
    k0_pay10 (F := Ideal) (rl f) = rl fun i j => gelT (f i j) := by
  refine rl_ext fun i j => ?_
  pointwise [k0_pay10]
  rw [named_k]
  simp only [rl_at, rl3_at, lits, lift, coe_sum]
  rfl

theorem pay11 (f : Fin 256 → Fin 512 → ℝ) :
    k0_pay11 (F := Ideal) (rl f) = rl fun i j => gelZ (f i j) := by
  refine rl_ext fun i j => ?_
  simp only [k0_pay11, pay10]
  pointwise
  simp only [pay10, rl_at, rl3_at, lits, lift, coe_sum]
  rfl

theorem pay12 (f : Fin 256 → Fin 512 → ℝ) (w : Fin 512 → Fin 512 → ℝ) (b : Fin 512 → ℝ) :
    k0_pay12 (F := Ideal) (rl f) (rl w) (rl fun (_ : Fin 1) j => b j) = rl fun i j => (1 + Real.exp (-((∑ k, gelZ (f i k) * w k j) + b j)))⁻¹ := by
  refine rl_ext fun i j => ?_
  simp only [k0_pay12, pay11]
  pointwise
  simp only [pay11, rl_at, rl3_at, lits, lift, coe_sum]

theorem pay13 (f : Fin 256 → Fin 512 → ℝ) :
    k0_pay13 (F := Ideal) (rl f) = rl3 fun i j => gelZ (f i j) := by
  refine rl3_ext fun i j => ?_
  simp only [k0_pay13, pay11]
  pointwise
  simp only [pay11, rl_at, rl3_at, lits, lift, coe_sum]

theorem pay14 (f : Fin 256 → Fin 512 → ℝ) :
    k0_pay14 (F := Ideal) (rl f) = rl3 fun i j => gelT (f i j) := by
  refine rl3_ext fun i j => ?_
  simp only [k0_pay14, pay10]
  pointwise
  simp only [pay10, rl_at, rl3_at, lits, lift, coe_sum]

theorem pay15 (f : Fin 256 → Fin 512 → ℝ) :
    k0_pay15 (F := Ideal) (rl f) = rl3 f := by
  refine rl3_ext fun i j => ?_
  pointwise [k0_pay15]
  simp only [rl_at, rl3_at, lits, lift, coe_sum]

theorem pay16 (f : Fin 256 → Fin 512 → ℝ) :
    k0_pay16 (F := Ideal) (rl f) = rl f := by
  refine rl_ext fun i j => ?_
  pointwise [k0_pay16]
  simp only [rl_at, rl3_at, lits, lift, coe_sum]

theorem pay17 (v : Fin 256 → Fin 512 → ℝ) (g : Fin 512 → ℝ) :
    k0_pay17 (F := Ideal) (rl v) (rl fun (_ : Fin 1) j => g j) = rl fun i j => nrm (v i) g j := by
  refine rl_ext fun i j => ?_
  pointwise [k0_pay17]
  simp only [rl_at, rl3_at, lits, lift, coe_sum]
  rfl

theorem pay18 (u v : Fin 256 → Fin 512 → ℝ) (g : Fin 512 → ℝ) :
    k0_pay18 (F := Ideal) (rl u) (rl v) (rl fun (_ : Fin 1) j => g j) = rl fun i j => nrm (fun k => u i k * v i k) g j := by
  refine rl_ext fun i j => ?_
  pointwise [k0_pay18]
  simp only [rl_at, rl3_at, lits, lift, coe_sum]
  rfl

theorem pay19 (u v : Fin 256 → Fin 512 → ℝ) (x : Fin 256 → Fin 1024 → ℝ) (w w' : Fin 512 → Fin 1024 → ℝ) :
    k0_pay19 (F := Ideal) (rl u) (rl v) (rl x) (rl w) (rl w') = rl fun i j => x i j + (∑ k, u i k * w k j) + ∑ k, v i k * w' k j := by
  refine rl_ext fun i j => ?_
  pointwise [k0_pay19]
  simp only [rl_at, rl3_at, lits, lift, coe_sum]

theorem pay20 (v : Fin 256 → Fin 1024 → ℝ) :
    k0_pay20 (F := Ideal) (rl v) = rl fun i (_ : Fin 1) => rms (v i) := by
  refine rl_ext fun i j => ?_
  pointwise [k0_pay20]
  simp only [rl_at, rl3_at, lits, lift, coe_sum]

theorem pay21 (g : Fin 1024 → ℝ) :
    k0_pay21 (F := Ideal) (rl fun (_ : Fin 1) j => g j) = rl fun (_ : Fin 1) j => g j := by
  refine rl_ext fun i j => ?_
  pointwise [k0_pay21]
  simp only [rl_at, rl3_at, lits, lift, coe_sum]

theorem pay22 (v u : Fin 256 → Fin 1024 → ℝ) (g : Fin 1024 → ℝ) :
    k0_pay22 (F := Ideal) (rl v) (rl fun (_ : Fin 1) j => g j) (rl u) = rl fun i j => u i j * rms (v i) * g j := by
  refine rl_ext fun i j => ?_
  simp only [k0_pay22, pay20, pay21]
  pointwise
  simp only [pay20, pay21, rl_at, rl3_at, lits, lift, coe_sum]

theorem pay23 (v : Fin 256 → Fin 1024 → ℝ) :
    k0_pay23 (F := Ideal) (rl v) = rl v := by
  refine rl_ext fun i j => ?_
  pointwise [k0_pay23]
  simp only [rl_at, rl3_at, lits, lift, coe_sum]

theorem pay24 (h : Fin 256 → Fin 1024 → ℝ) (w : Fin 1024 → Fin 1024 → ℝ) :
    k0_pay24 (F := Ideal) (rl h) (rl w) (constant (F := Ideal) S256x1024 .f32 0x00000000#32) = rl fun i c => max (∑ k, h i k * w k c) 0 := by
  refine rl_ext fun i j => ?_
  pointwise [k0_pay24]
  simp only [rl_at, rl3_at, lits, lift, coe_sum]

theorem pay25 (h : Fin 256 → Fin 1024 → ℝ) (w : Fin 1024 → Fin 1024 → ℝ) :
    k0_pay25 (F := Ideal) (rl h) (rl w) (constant (F := Ideal) S256x1024 .f32 0x00000000#32) = rl fun i c => max (∑ k, h i k * w k c) 0 := by
  refine rl_ext fun i j => ?_
  simp only [k0_pay25, pay24]
  pointwise
  simp only [pay24, rl_at, rl3_at, lits, lift, coe_sum]

theorem pay26 (h : Fin 256 → Fin 1024 → ℝ) (w : Fin 1024 → Fin 1024 → ℝ) :
    k0_pay26 (F := Ideal) (rl h) (rl w) (constant (F := Ideal) S256x1024 .f32 0x00000000#32) = rl fun i c => max (∑ k, h i k * w k c) 0 * max (∑ k, h i k * w k c) 0 := by
  refine rl_ext fun i j => ?_
  simp only [k0_pay26, pay24]
  pointwise
  simp only [pay24, rl_at, rl3_at, lits, lift, coe_sum]

theorem pay27 (h : Fin 256 → Fin 1024 → ℝ) (w : Fin 1024 → Fin 1024 → ℝ) :
    k0_pay27 (F := Ideal) (rl h) (rl w)  = rl fun i c => max (∑ k, h i k * w k c) 0 := by
  refine rl_ext fun i j => ?_
  pointwise [k0_pay27]
  simp only [rl_at, rl3_at, lits, lift, coe_sum]

theorem pay28 (h : Fin 256 → Fin 1024 → ℝ) (w : Fin 1024 → Fin 1024 → ℝ) :
    k0_pay28 (F := Ideal) (rl h) (rl w)  = rl fun i c => max (∑ k, h i k * w k c) 0 := by
  refine rl_ext fun i j => ?_
  simp only [k0_pay28, pay27]
  pointwise
  simp only [pay27, rl_at, rl3_at, lits, lift, coe_sum]

theorem pay29 (h : Fin 256 → Fin 1024 → ℝ) (w : Fin 1024 → Fin 1024 → ℝ) :
    k0_pay29 (F := Ideal) (rl h) (rl w)  = rl fun i c => max (∑ k, h i k * w k c) 0 * max (∑ k, h i k * w k c) 0 := by
  refine rl_ext fun i j => ?_
  simp only [k0_pay29, pay27]
  pointwise
  simp only [pay27, rl_at, rl3_at, lits, lift, coe_sum]

theorem pay31 (h : Fin 256 → Fin 1024 → ℝ) (w : Fin 1024 → Fin 1024 → ℝ) :
    k0_pay31 (F := Ideal) (rl h) (rl w)  = rl fun i c => max (∑ k, h i k * w k c) 0 := by
  refine rl_ext fun i j => ?_
  pointwise [k0_pay31]
  simp only [rl_at, rl3_at, lits, lift, coe_sum]

theorem pay34 (h : Fin 256 → Fin 1024 → ℝ) (w : Fin 1024 → Fin 1024 → ℝ) :
    k0_pay34 (F := Ideal) (rl h) (rl w)  = rl fun i c => max (∑ k, h i k * w k c) 0 := by
  refine rl_ext fun i j => ?_
  pointwise [k0_pay34]
  simp only [rl_at, rl3_at, lits, lift, coe_sum]

theorem pay35 (h : Fin 256 → Fin 1024 → ℝ) (w : Fin 1024 → Fin 1024 → ℝ) :
    k0_pay35 (F := Ideal) (rl h) (rl w)  = rl fun i c => max (∑ k, h i k * w k c) 0 := by
  refine rl_ext fun i j => ?_
  simp only [k0_pay35, pay34]
  pointwise
  simp only [pay34, rl_at, rl3_at, lits, lift, coe_sum]

theorem pay36 (h : Fin 256 → Fin 1024 → ℝ) (w : Fin 1024 → Fin 1024 → ℝ) :
    k0_pay36 (F := Ideal) (rl h) (rl w)  = rl fun i c => max (∑ k, h i k * w k c) 0 * max (∑ k, h i k * w k c) 0 := by
  refine rl_ext fun i j => ?_
  simp only [k0_pay36, pay34]
  pointwise
  simp only [pay34, rl_at, rl3_at, lits, lift, coe_sum]

theorem pay32 (v : Fin 256 → Fin 1024 → ℝ) :
    k0_pay32 (F := Ideal) (rl v) = rl v := by
  refine rl_ext fun i j => ?_
  pointwise [k0_pay32]
  simp only [rl_at, rl3_at, lits, lift, coe_sum]

theorem pay33 (v : Fin 256 → Fin 1024 → ℝ) :
    k0_pay33 (F := Ideal) (rl v) = rl fun i c => v i c * v i c := by
  refine rl_ext fun i j => ?_
  pointwise [k0_pay33]
  simp only [rl_at, rl3_at, lits, lift, coe_sum]

theorem pay30 (h y : Fin 256 → Fin 1024 → ℝ) (w0 d0 w1 d1 : Fin 1024 → Fin 1024 → ℝ) :
    k0_pay30 (F := Ideal) (rl h) (rl y) (rl w0) (constant (F := Ideal) S256x1024 .f32 0x00000000#32) (rl d0) (rl w1) (rl d1) = rl fun i j => y i j + (∑ c, max (∑ k, h i k * w0 k c) 0 * max (∑ k, h i k * w0 k c) 0 * d0 c j)
      + ∑ c, max (∑ k, h i k * w1 k c) 0 * max (∑ k, h i k * w1 k c) 0 * d1 c j := by
  refine rl_ext fun i j => ?_
  simp only [k0_pay30, pay26, pay29]
  pointwise
  simp only [pay26, pay29, rl_at, rl3_at, lits, lift, coe_sum]

theorem pay37 (h y r tg : Fin 256 → Fin 1024 → ℝ) (d0 w1 d1 : Fin 1024 → Fin 1024 → ℝ) :
    k0_pay37 (F := Ideal) (rl h) (rl y) (rl r) (rl d0) (rl w1) (rl d1) (rl tg) = rl fun i j => y i j + (∑ c, r i c * r i c * d0 c j)
      + (∑ c, max (∑ k, h i k * w1 k c) 0 * max (∑ k, h i k * w1 k c) 0 * d1 c j) - tg i j := by
  refine rl_ext fun i j => ?_
  simp only [k0_pay37, pay33, pay36]
  pointwise
  simp only [pay33, pay36, rl_at, rl3_at, lits, lift, coe_sum]

/-- The sum of all elements, as the body takes it. -/
theorem total (v : FVec Ideal S256x1024 .f32) (y : S1.Idx) :
    Ideal.reduceAdd reduces_S1x256x1024_S1 (shapeCast S1x256x1024 v shapeCasts_S256x1024_S1x256x1024) y = ∑ i, ∑ k, v (ix2 i k) := by
  rw [Ideal.reduceAdd_r3_a12]
  refine Finset.sum_congr rfl fun i _ => Finset.sum_congr rfl fun k _ => ?_
  pointwise

theorem pay38 (h y r tg e : Fin 256 → Fin 1024 → ℝ) (d0 w1 d1 : Fin 1024 → Fin 1024 → ℝ) (l : Fin 128 → ℝ)
    (he : k0_pay37 (F := Ideal) (rl h) (rl y) (rl r) (rl d0) (rl w1) (rl d1) (rl tg) = rl e) :
    k0_pay38 (F := Ideal) (rl h) (rl y) (rl r) (rl d0) (rl w1) (rl d1) (rl tg) (rl fun (_ : Fin 1) j => l j) = rl fun (_ : Fin 1) j => l j + 1 / 2 * (∑ i, ∑ k, e i k * e i k) * (1 / 1024) := by
  refine rl_ext fun i j => ?_
  have key : ∀ y : S1.Idx, multiReduction (F := Ideal) (φ := .f32) .add [1, 2] S1 (shapeCast S1x256x1024 (mulf (F := Ideal) (φ := .f32) (rl e) (rl e)) shapeCasts_S256x1024_S1x256x1024) 0x00000000#32 reduces_S1x256x1024_S1 (.inl rfl) rfl y
      = ((∑ i, ∑ k, e i k * e i k : ℝ) : EReal) := fun y => by
    refine (total _ y).trans ?_
    simp only [← coe_sum, EReal.coe_mul]
    rfl
  unfold k0_pay38
  rw [he]
  simp only
  rw [show multiReduction (F := Ideal) (φ := .f32) .add [1, 2] S1 (shapeCast S1x256x1024 (mulf (F := Ideal) (φ := .f32) (rl e) (rl e)) shapeCasts_S256x1024_S1x256x1024) 0x00000000#32 reduces_S1x256x1024_S1 (.inl rfl) rfl = fun _ => ((∑ i, ∑ k, e i k * e i k : ℝ) : EReal) from funext key]
  pointwise
  simp only [rl_at, rl3_at, lits, lift, coe_sum]

theorem pay39 (e : Fin 256 → Fin 1024 → ℝ) :
    k0_pay39 (F := Ideal) (rl e) = rl fun i j => e i j * (1 / 1024) := by
  refine rl_ext fun i j => ?_
  pointwise [k0_pay39]
  simp only [rl_at, rl3_at, lits, lift, coe_sum]

theorem pay40 (e : Fin 256 → Fin 1024 → ℝ) :
    k0_pay40 (F := Ideal) (rl e) = rl fun i j => e i j * (1 / 1024) := by
  refine rl_ext fun i j => ?_
  simp only [k0_pay40, pay39]
  pointwise
  simp only [pay39, rl_at, rl3_at, lits, lift, coe_sum]

theorem pay41 (e r : Fin 256 → Fin 1024 → ℝ) (d : Fin 1024 → Fin 1024 → ℝ) :
    k0_pay41 (F := Ideal) (rl e) (rl d) (rl r) = rl fun i c => (∑ j, e i j * (1 / 1024) * d c j) * (2 * r i c) := by
  refine rl_ext fun i j => ?_
  simp only [k0_pay41, pay40]
  pointwise
  simp only [pay40, rl_at, rl3_at, lits, lift, coe_sum]

theorem pay42 (e r : Fin 256 → Fin 1024 → ℝ) (d : Fin 1024 → Fin 1024 → ℝ) :
    k0_pay42 (F := Ideal) (rl e) (rl d) (rl r) = rl fun i c => (∑ j, e i j * (1 / 1024) * d c j) * (2 * r i c) := by
  refine rl_ext fun i j => ?_
  simp only [k0_pay42, pay40]
  pointwise
  simp only [pay40, rl_at, rl3_at, lits, lift, coe_sum]

theorem pay43 (e r0 r1 : Fin 256 → Fin 1024 → ℝ) (d0 w0 d1 w1 : Fin 1024 → Fin 1024 → ℝ) :
    k0_pay43 (F := Ideal) (rl e) (rl d0) (rl r0) (rl w0) (rl d1) (rl r1) (rl w1) = rl fun i k => (∑ c, (∑ j, e i j * (1 / 1024) * d0 c j) * (2 * r0 i c) * w0 k c)
      + ∑ c, (∑ j, e i j * (1 / 1024) * d1 c j) * (2 * r1 i c) * w1 k c := by
  refine rl_ext fun i j => ?_
  simp only [k0_pay43, pay41, pay42]
  pointwise
  simp only [pay41, pay42, rl_at, rl3_at, lits, lift, coe_sum]

theorem pay44 (e r : Fin 256 → Fin 1024 → ℝ) (d : Fin 1024 → Fin 1024 → ℝ) :
    k0_pay44 (F := Ideal) (rl e) (rl d) (rl r) = rl fun i c => (∑ j, e i j * d c j) * (2 * r i c) := by
  refine rl_ext fun i j => ?_
  pointwise [k0_pay44]
  simp only [rl_at, rl3_at, lits, lift, coe_sum]

theorem pay45 (e r : Fin 256 → Fin 1024 → ℝ) (d : Fin 1024 → Fin 1024 → ℝ) :
    k0_pay45 (F := Ideal) (rl e) (rl d) (rl r) = rl fun i c => (∑ j, e i j * d c j) * (2 * r i c) := by
  refine rl_ext fun i j => ?_
  pointwise [k0_pay45]
  simp only [rl_at, rl3_at, lits, lift, coe_sum]

theorem pay46 (e a r0 r1 : Fin 256 → Fin 1024 → ℝ) (d0 w0 d1 w1 : Fin 1024 → Fin 1024 → ℝ) :
    k0_pay46 (F := Ideal) (rl e) (rl a) (rl d0) (rl r0) (rl w0) (rl d1) (rl r1) (rl w1) = rl fun i k => a i k + (∑ c, (∑ j, e i j * d0 c j) * (2 * r0 i c) * w0 k c)
      + ∑ c, (∑ j, e i j * d1 c j) * (2 * r1 i c) * w1 k c := by
  refine rl_ext fun i j => ?_
  simp only [k0_pay46, pay44, pay45]
  pointwise
  simp only [pay44, pay45, rl_at, rl3_at, lits, lift, coe_sum]

theorem pay47 (q : Fin 256 → ℝ) (v : Fin 256 → Fin 1024 → ℝ) :
    k0_pay47 (F := Ideal) (rl fun i (_ : Fin 1) => q i) (rl v) = rl fun i j => v i j * q i := by
  refine rl_ext fun i j => ?_
  pointwise [k0_pay47]
  simp only [rl_at, rl3_at, lits, lift, coe_sum]

theorem pay48 (g : Fin 1024 → ℝ) (e a r0 r1 d : Fin 256 → Fin 1024 → ℝ) (d0 w0 d1 w1 : Fin 1024 → Fin 1024 → ℝ)
    (he : k0_pay46 (F := Ideal) (rl e) (rl a) (rl d0) (rl r0) (rl w0) (rl d1) (rl r1) (rl w1) = rl d) :
    k0_pay48 (F := Ideal) (rl fun (_ : Fin 1) j => g j) (rl e) (rl a) (rl d0) (rl r0) (rl w0) (rl d1) (rl r1) (rl w1) = rl fun i j => d i j * g j := by
  refine rl_ext fun i j => ?_
  simp only [k0_pay48, he]
  pointwise
  simp only [rl_at, rl3_at, lits, lift, coe_sum]

theorem pay49 (q : Fin 256 → ℝ) (g : Fin 1024 → ℝ) (e a r0 r1 d v : Fin 256 → Fin 1024 → ℝ) (d0 w0 d1 w1 : Fin 1024 → Fin 1024 → ℝ)
    (he : k0_pay46 (F := Ideal) (rl e) (rl a) (rl d0) (rl r0) (rl w0) (rl d1) (rl r1) (rl w1) = rl d) :
    k0_pay49 (F := Ideal) (rl fun i (_ : Fin 1) => q i) (rl fun (_ : Fin 1) j => g j) (rl e) (rl a) (rl d0) (rl r0) (rl w0) (rl d1) (rl r1) (rl w1) (rl v) = rl fun i (_ : Fin 1) => ∑ j, d i j * g j * (v i j * q i) := by
  refine rl_ext fun i j => ?_
  simp only [k0_pay49, pay47, pay48 g e a r0 r1 d d0 w0 d1 w1 he]
  pointwise
  simp only [rl_at, rl3_at, lits, lift, coe_sum]

theorem pay51 (q m n : Fin 256 → ℝ) (p x u : Fin 256 → Fin 1024 → ℝ) :
    k0_pay51 (F := Ideal) (rl fun i (_ : Fin 1) => q i) (rl p) (rl x) (rl u) (rl fun i (_ : Fin 1) => m i) k0_pay50 = rl fun i j => p i j + q i * (u i j - x i j * (m i / 1024)) := by
  refine rl_ext fun i j => ?_
  pointwise [k0_pay51]
  pointwise [k0_pay50]
  simp only [rl_at, rl3_at, lits, lift, coe_sum]

theorem pay52 (d x : Fin 256 → Fin 1024 → ℝ) (g : Fin 1024 → ℝ) :
    k0_pay52 (F := Ideal) (rl d) (rl x) (rl fun (_ : Fin 1) j => g j) = rl fun (_ : Fin 1) j => g j + ∑ i, d i j * x i j := by
  refine rl_ext fun i j => ?_
  pointwise [k0_pay52]
  simp only [rl_at, rl3_at, lits, lift, coe_sum]

theorem pay53 (v : Fin 256 → Fin 1024 → ℝ) :
    k0_pay53 (F := Ideal) (rl v) = rl v := by
  refine rl_ext fun i j => ?_
  pointwise [k0_pay53]
  simp only [rl_at, rl3_at, lits, lift, coe_sum]

theorem pay54 (v : Fin 256 → Fin 512 → ℝ) :
    k0_pay54 (F := Ideal) (rl3 v) = rl v := by
  refine rl_ext fun i j => ?_
  pointwise [k0_pay54]
  simp only [rl_at, rl3_at, lits, lift, coe_sum]

theorem pay55 (v : Fin 256 → Fin 512 → ℝ) :
    k0_pay55 (F := Ideal) (rl3 v) = rl v := by
  refine rl_ext fun i j => ?_
  pointwise [k0_pay55]
  simp only [rl_at, rl3_at, lits, lift, coe_sum]

theorem pay56 (v : Fin 256 → Fin 512 → ℝ) :
    k0_pay56 (F := Ideal) (rl3 v) = rl v := by
  refine rl_ext fun i j => ?_
  pointwise [k0_pay56]
  simp only [rl_at, rl3_at, lits, lift, coe_sum]

theorem pay57 (u v : Fin 256 → Fin 512 → ℝ) :
    k0_pay57 (F := Ideal) (rl3 u) (rl3 v) = rl fun i j => u i j * v i j := by
  refine rl_ext fun i j => ?_
  simp only [k0_pay57, pay54, pay56]
  pointwise
  simp only [pay54, pay56, rl_at, rl3_at, lits, lift, coe_sum]

theorem pay58 (v : Fin 512 → Fin 1024 → ℝ) :
    k0_pay58 (F := Ideal) (rl v) = rl v := by
  refine rl_ext fun i j => ?_
  pointwise [k0_pay58]
  simp only [rl_at, rl3_at, lits, lift, coe_sum]

theorem pay59 (d : Fin 256 → Fin 1024 → ℝ) (w : Fin 512 → Fin 1024 → ℝ) :
    k0_pay59 (F := Ideal) (rl d) (rl w) (constant (F := Ideal) S256x512 .f32 0x00000000#32) = rl fun i k => ∑ j, d i j * w k j := by
  refine rl_ext fun i j => ?_
  pointwise [k0_pay59]
  simp only [rl_at, rl3_at, lits, lift, coe_sum]

theorem pay60 (v : Fin 256 → Fin 512 → ℝ) :
    k0_pay60 (F := Ideal) (rl v) = rl fun i (_ : Fin 1) => rms (v i) := by
  refine rl_ext fun i j => ?_
  pointwise [k0_pay60]
  simp only [rl_at, rl3_at, lits, lift, coe_sum]

theorem pay61 (v : Fin 256 → Fin 512 → ℝ) :
    k0_pay61 (F := Ideal) (rl v) = rl fun i j => v i j * rms (v i) := by
  refine rl_ext fun i j => ?_
  simp only [k0_pay61, pay60]
  pointwise
  simp only [pay60, rl_at, rl3_at, lits, lift, coe_sum]

theorem pay62 (d : Fin 256 → Fin 1024 → ℝ) (v : Fin 256 → Fin 512 → ℝ) (w : Fin 512 → Fin 1024 → ℝ) (g : Fin 512 → ℝ) :
    k0_pay62 (F := Ideal) (rl d) (rl v) (rl w) (constant (F := Ideal) S256x512 .f32 0x00000000#32) (rl fun (_ : Fin 1) j => g j) = rl fun i j => nrmBwd (fun k => ∑ c, d i c * w k c) (v i) g j := by
  refine rl_ext fun i j => ?_
  simp only [k0_pay62, pay59, pay60, pay61]
  pointwise
  simp only [pay59, pay60, pay61, rl_at, rl3_at, lits, lift, coe_sum]
  simp only [nrmBwd]
  norm_num

theorem pay63 (d : Fin 256 → Fin 1024 → ℝ) (v : Fin 256 → Fin 512 → ℝ) (w : Fin 512 → Fin 1024 → ℝ) :
    k0_pay63 (F := Ideal) (rl d) (rl v) (rl w) (constant (F := Ideal) S256x512 .f32 0x00000000#32) = rl fun i k => (∑ j, d i j * w k j) * (v i k * rms (v i)) := by
  refine rl_ext fun i j => ?_
  simp only [k0_pay63, pay59, pay61]
  pointwise
  simp only [pay59, pay61, rl_at, rl3_at, lits, lift, coe_sum]

theorem pay64 (d : Fin 256 → Fin 1024 → ℝ) (w : Fin 512 → Fin 1024 → ℝ) :
    k0_pay64 (F := Ideal) (rl d) (rl w) = rl fun i k => ∑ j, d i j * w k j := by
  refine rl_ext fun i j => ?_
  pointwise [k0_pay64]
  simp only [rl_at, rl3_at, lits, lift, coe_sum]

theorem pay65 (v : Fin 256 → Fin 512 → ℝ) :
    k0_pay65 (F := Ideal) (rl v) = rl fun i (_ : Fin 1) => rms (v i) := by
  refine rl_ext fun i j => ?_
  pointwise [k0_pay65]
  simp only [rl_at, rl3_at, lits, lift, coe_sum]

theorem pay66 (v : Fin 256 → Fin 512 → ℝ) :
    k0_pay66 (F := Ideal) (rl v) = rl fun i j => v i j * rms (v i) := by
  refine rl_ext fun i j => ?_
  simp only [k0_pay66, pay65]
  pointwise
  simp only [pay65, rl_at, rl3_at, lits, lift, coe_sum]

theorem pay67 (d : Fin 256 → Fin 1024 → ℝ) (w : Fin 512 → Fin 1024 → ℝ) (g : Fin 512 → ℝ) :
    k0_pay67 (F := Ideal) (rl d) (rl w) (rl fun (_ : Fin 1) j => g j) = rl fun i k => (∑ j, d i j * w k j) * g k := by
  refine rl_ext fun i j => ?_
  simp only [k0_pay67, pay64]
  pointwise
  simp only [pay64, rl_at, rl3_at, lits, lift, coe_sum]

theorem pay68 (d : Fin 256 → Fin 1024 → ℝ) (v : Fin 256 → Fin 512 → ℝ) (w : Fin 512 → Fin 1024 → ℝ) (g : Fin 512 → ℝ) :
    k0_pay68 (F := Ideal) (rl d) (rl v) (rl w) (rl fun (_ : Fin 1) j => g j) = rl fun i k => (∑ j, d i j * w k j) * g k * (v i k * rms (v i)) := by
  refine rl_ext fun i j => ?_
  simp only [k0_pay68, pay66, pay67]
  pointwise
  simp only [pay66, pay67, rl_at, rl3_at, lits, lift, coe_sum]

theorem pay69 (q : Fin 256 → ℝ) (x u p : Fin 256 → Fin 512 → ℝ) :
    k0_pay69 (F := Ideal) (rl fun i (_ : Fin 1) => q i) (rl x) (rl u) (rl p) = rl fun i j => q i * (u i j - x i j * ((∑ k, p i k) / 512)) := by
  refine rl_ext fun i j => ?_
  pointwise [k0_pay69]
  simp only [rl_at, rl3_at, lits, lift, coe_sum]

theorem pay70 (d x : Fin 256 → Fin 512 → ℝ) :
    k0_pay70 (F := Ideal) (rl d) (rl x) = rl fun i j => d i j * x i j := by
  refine rl_ext fun i j => ?_
  pointwise [k0_pay70]
  simp only [rl_at, rl3_at, lits, lift, coe_sum]

theorem pay71 (z t : Fin 256 → Fin 512 → ℝ) (q : Fin 256 → ℝ) (x u p : Fin 256 → Fin 512 → ℝ) :
    k0_pay71 (F := Ideal) (rl z) (rl t) (rl fun i (_ : Fin 1) => q i) (rl x) (rl u) (rl p) = rl fun i j => (q i * (u i j - x i j * ((∑ k, p i k) / 512))) * z i j * t i j * (1 - t i j) := by
  refine rl_ext fun i j => ?_
  simp only [k0_pay71, pay69]
  pointwise
  simp only [pay69, rl_at, rl3_at, lits, lift, coe_sum]

theorem pay72 (z t : Fin 256 → Fin 512 → ℝ) (q : Fin 256 → ℝ) (x u p : Fin 256 → Fin 512 → ℝ) :
    k0_pay72 (F := Ideal) (rl z) (rl t) (rl fun i (_ : Fin 1) => q i) (rl x) (rl u) (rl p) = rl fun i j => (q i * (u i j - x i j * ((∑ k, p i k) / 512))) * z i j * t i j * (1 - t i j) := by
  refine rl_ext fun i j => ?_
  simp only [k0_pay72, pay71]
  pointwise
  simp only [pay71, rl_at, rl3_at, lits, lift, coe_sum]

theorem pay73 (z t : Fin 256 → Fin 512 → ℝ) (q : Fin 256 → ℝ) (x u p : Fin 256 → Fin 512 → ℝ) (w : Fin 512 → Fin 512 → ℝ) :
    k0_pay73 (F := Ideal) (rl z) (rl t) (rl fun i (_ : Fin 1) => q i) (rl x) (rl u) (rl p) (rl w) = rl fun i j => (q i * (u i j - x i j * ((∑ k, p i k) / 512))) * t i j
      + ∑ k, (q i * (u i k - x i k * ((∑ l, p i l) / 512))) * z i k * t i k * (1 - t i k) * w j k := by
  refine rl_ext fun i j => ?_
  simp only [k0_pay73, pay69, pay72]
  pointwise
  simp only [pay69, pay72, rl_at, rl3_at, lits, lift, coe_sum]

theorem pay74 (y t : Fin 256 → Fin 512 → ℝ) :
    k0_pay74 (F := Ideal) (rl y) (rl t) = rl fun i j => 1 / 2 * (1 + t i j) + 1 / 2 * y i j * (1 - t i j * t i j) * (geluC * (1 + 26829 / 200000 * y i j * y i j)) := by
  refine rl_ext fun i j => ?_
  pointwise [k0_pay74]
  rw [named_3k]
  simp only [rl_at, rl3_at, lits, lift, coe_sum]

theorem pay1 (u v : Fin 256 → Fin 512 → ℝ) :
    k0_pay1 (F := Ideal) (rl u) (rl v) = rl fun i j => u i j * v i j := by
  refine rl_ext fun i j => ?_
  pointwise [k0_pay1]
  simp only [rl_at, rl3_at, lits, lift, coe_sum]

theorem pay2 (d : Fin 256 → Fin 512 → ℝ) (g : Fin 512 → ℝ) :
    k0_pay2 (F := Ideal) (rl d) (rl fun (_ : Fin 1) j => g j) = rl fun (_ : Fin 1) j => g j + ∑ i, d i j := by
  refine rl_ext fun i j => ?_
  pointwise [k0_pay2]
  simp only [rl_at, rl3_at, lits, lift, coe_sum]

theorem pay3 (d : Fin 256 → Fin 512 → ℝ) (g : Fin 512 → ℝ) :
    k0_pay3 (F := Ideal) (rl d) (rl fun (_ : Fin 1) j => g j) = rl fun (_ : Fin 1) j => g j + ∑ i, d i j := by
  refine rl_ext fun i j => ?_
  pointwise [k0_pay3]
  simp only [rl_at, rl3_at, lits, lift, coe_sum]

theorem pay4 (d : Fin 256 → Fin 512 → ℝ) (g : Fin 512 → ℝ) :
    k0_pay4 (F := Ideal) (rl d) (rl fun (_ : Fin 1) j => g j) = rl fun (_ : Fin 1) j => g j + ∑ i, d i j := by
  refine rl_ext fun i j => ?_
  pointwise [k0_pay4]
  simp only [rl_at, rl3_at, lits, lift, coe_sum]

theorem pay5  :
    k0_pay5 (F := Ideal)  = rl fun (_ : Fin 1) (_ : Fin 1024) => 0 := by
  refine rl_ext fun i j => ?_
  pointwise [k0_pay5]
  simp only [rl_at, rl3_at, lits, lift, coe_sum]

theorem pay6  :
    k0_pay6 (F := Ideal)  = rl fun (_ : Fin 1) (_ : Fin 128) => 0 := by
  refine rl_ext fun i j => ?_
  pointwise [k0_pay6]
  simp only [rl_at, rl3_at, lits, lift, coe_sum]

theorem pay7  :
    k0_pay7 (F := Ideal)  = rl fun (_ : Fin 1) (_ : Fin 512) => 0 := by
  refine rl_ext fun i j => ?_
  pointwise [k0_pay7]
  simp only [rl_at, rl3_at, lits, lift, coe_sum]

theorem pay8  :
    k0_pay8 (F := Ideal)  = rl fun (_ : Fin 1) (_ : Fin 512) => 0 := by
  refine rl_ext fun i j => ?_
  pointwise [k0_pay8]
  simp only [rl_at, rl3_at, lits, lift, coe_sum]

theorem pay9  :
    k0_pay9 (F := Ideal)  = rl fun (_ : Fin 1) (_ : Fin 512) => 0 := by
  refine rl_ext fun i j => ?_
  pointwise [k0_pay9]
  simp only [rl_at, rl3_at, lits, lift, coe_sum]

end Mixer

end
-- ==== Proof.Mixer.Chunks.lean ====
/-
  The chunks the fused kernel works in: quarters of the wide layer and halves of the mixed row, as sums, as loads and as
  read-backs of what was stored.
-/
module

public import proofs.«01_k».proof.Proof.Mixer.Lift
public import proofs.«01_k».proof.Proof.Gen.KernelIdeal
public import Idealize.ShloMosaic.Lib.Pipeline.ReadBack
public import Idealize.ShloMosaic.Lib.Ring

@[expose] public section

set_option maxRecDepth 16384

noncomputable section

namespace Mixer

open Idealize.ShloMosaic Idealize.ShloMosaic.TcCoe Idealize.SL.Sem
open Cert.KernelIdeal Cert.KernelIdeal.Gen

/-- The four quarters of the wide layer. -/
def q0 (c : Fin 1024) : Fin 4096 := ⟨c.val, by omega⟩
def q1 (c : Fin 1024) : Fin 4096 := ⟨1024 + c.val, by omega⟩
def q2 (c : Fin 1024) : Fin 4096 := ⟨2048 + c.val, by omega⟩
def q3 (c : Fin 1024) : Fin 4096 := ⟨3072 + c.val, by omega⟩
/-- The two halves of the mixed row. -/
def lo (j : Fin 512) : Fin 1024 := ⟨j.val, by omega⟩
def hi (j : Fin 512) : Fin 1024 := ⟨512 + j.val, by omega⟩

theorem sum4 (f : Fin 4096 → ℝ) : ∑ c, f c = (∑ c, f (q0 c)) + (∑ c, f (q1 c)) + (∑ c, f (q2 c)) + ∑ c, f (q3 c) := by
  rw [show (∑ c, f c) = _ from Fin.sum_univ_add (a := 3072) (b := 1024) f,
    show (∑ c : Fin 3072, f (Fin.castAdd 1024 c)) = _ from Fin.sum_univ_add (a := 2048) (b := 1024) fun c => f (Fin.castAdd 1024 c),
    show (∑ c : Fin 2048, f (Fin.castAdd 1024 (Fin.castAdd 1024 c))) = _ from
      Fin.sum_univ_add (a := 1024) (b := 1024) fun c => f (Fin.castAdd 1024 (Fin.castAdd 1024 c))]
  rfl

theorem sum2 (f : Fin 1024 → ℝ) : ∑ c, f c = (∑ c, f (lo c)) + ∑ c, f (hi c) :=
  Fin.sum_univ_add (a := 512) (b := 512) f

/-- A load of a rectangle of a real array. -/
theorem ld_rl {A B : ℕ} (f : Fin A → Fin B → ℝ) (o p a b : ℕ) (h) :
    View.ld (Val := Elt Ideal) (e' := .bf16) (S := ⟨2, ![A, B]⟩) (rl f) (Rect.unit ![o, p] ![a, b] h)
      = rl (a := a) (b := b) fun i j => f ⟨o + i.val, lt_of_lt_of_le (Nat.add_lt_add_left i.isLt o) (h 0)⟩
          ⟨p + j.val, lt_of_lt_of_le (Nat.add_lt_add_left j.isLt p) (h 1)⟩ := by
  refine rl_ext fun i j => congrArg Real.toEReal (congrArg₂ f (Fin.ext ?_) (Fin.ext ?_))
  · show o + 1 * i.val = _; rw [one_mul]
  · show p + 1 * j.val = _; rw [one_mul]

/-! Arrays of rows, one token a row. -/

/-- The array whose row `i` is `f` of token `i`. -/
def rows {a n : ℕ} (f : Token → Fin n → ℝ) (P : Fin a → Token) : (⟨2, ![a, n]⟩ : Shape).Idx → EReal := rl fun i j => f (P i) j
/-- The column whose element `i` is `f` of token `i`. -/
def col {a : ℕ} (f : Token → ℝ) (P : Fin a → Token) : (⟨2, ![a, 1]⟩ : Shape).Idx → EReal := rl fun i (_ : Fin 1) => f (P i)
/-- A single row. -/
def row {n : ℕ} (g : Fin n → ℝ) : (⟨2, ![1, n]⟩ : Shape).Idx → EReal := rl fun (_ : Fin 1) j => g j
/-- One of three stacked arrays of rows. -/
def rows3 {a n : ℕ} (f : Token → Fin n → ℝ) (P : Fin a → Token) : (⟨3, ![1, a, n]⟩ : Shape).Idx → EReal := rl3 fun i j => f (P i) j
/-- The columns of a row that `q` picks. -/
def part {k n : ℕ} (q : Fin k → Fin n) (f : Token → Fin n → ℝ) (T : Token) (c : Fin k) : ℝ := f T (q c)
/-- The columns, and the rows, of a weight that `q` picks. -/
def cols {k a n : ℕ} (q : Fin k → Fin n) (w : Fin a → Fin n → ℝ) : (⟨2, ![a, k]⟩ : Shape).Idx → EReal := rl fun i c => w i (q c)
def rws {k a n : ℕ} (q : Fin k → Fin a) (w : Fin a → Fin n → ℝ) : (⟨2, ![k, n]⟩ : Shape).Idx → EReal := rl fun c j => w (q c) j

theorem rl_congr {a b : ℕ} {f g : Fin a → Fin b → ℝ} (h : ∀ i j, f i j = g i j) : rl f = rl g :=
  congrArg rl (funext fun i => funext fun j => h i j)

theorem ld_u0 (w : Fin 1024 → Fin 4096 → ℝ) (h) :
    View.ld (Val := Elt Ideal) (e' := .bf16) (S := S1024x4096) (rl w) (Rect.unit ![0, 0] ![1024, 1024] h) = cols q0 w :=
  (ld_rl w 0 0 1024 1024 h).trans (rl_congr fun i j => congrArg₂ w (Fin.ext (Nat.zero_add _)) (Fin.ext (Nat.zero_add _)))

theorem ld_d0 (w : Fin 4096 → Fin 1024 → ℝ) (h) :
    View.ld (Val := Elt Ideal) (e' := .bf16) (S := S4096x1024) (rl w) (Rect.unit ![0, 0] ![1024, 1024] h) = rws q0 w :=
  (ld_rl w 0 0 1024 1024 h).trans (rl_congr fun i j => congrArg₂ w (Fin.ext (Nat.zero_add _)) (Fin.ext (Nat.zero_add _)))

theorem ld_u1 (w : Fin 1024 → Fin 4096 → ℝ) (h) :
    View.ld (Val := Elt Ideal) (e' := .bf16) (S := S1024x4096) (rl w) (Rect.unit ![0, 1024] ![1024, 1024] h) = cols q1 w :=
  (ld_rl w 0 1024 1024 1024 h).trans (rl_congr fun i j => congrArg₂ w (Fin.ext (Nat.zero_add _)) (Fin.ext (rfl)))

theorem ld_d1 (w : Fin 4096 → Fin 1024 → ℝ) (h) :
    View.ld (Val := Elt Ideal) (e' := .bf16) (S := S4096x1024) (rl w) (Rect.unit ![1024, 0] ![1024, 1024] h) = rws q1 w :=
  (ld_rl w 1024 0 1024 1024 h).trans (rl_congr fun i j => congrArg₂ w (Fin.ext (rfl)) (Fin.ext (Nat.zero_add _)))

theorem ld_u2 (w : Fin 1024 → Fin 4096 → ℝ) (h) :
    View.ld (Val := Elt Ideal) (e' := .bf16) (S := S1024x4096) (rl w) (Rect.unit ![0, 2048] ![1024, 1024] h) = cols q2 w :=
  (ld_rl w 0 2048 1024 1024 h).trans (rl_congr fun i j => congrArg₂ w (Fin.ext (Nat.zero_add _)) (Fin.ext (rfl)))

theorem ld_d2 (w : Fin 4096 → Fin 1024 → ℝ) (h) :
    View.ld (Val := Elt Ideal) (e' := .bf16) (S := S4096x1024) (rl w) (Rect.unit ![2048, 0] ![1024, 1024] h) = rws q2 w :=
  (ld_rl w 2048 0 1024 1024 h).trans (rl_congr fun i j => congrArg₂ w (Fin.ext (rfl)) (Fin.ext (Nat.zero_add _)))

theorem ld_u3 (w : Fin 1024 → Fin 4096 → ℝ) (h) :
    View.ld (Val := Elt Ideal) (e' := .bf16) (S := S1024x4096) (rl w) (Rect.unit ![0, 3072] ![1024, 1024] h) = cols q3 w :=
  (ld_rl w 0 3072 1024 1024 h).trans (rl_congr fun i j => congrArg₂ w (Fin.ext (Nat.zero_add _)) (Fin.ext (rfl)))

theorem ld_d3 (w : Fin 4096 → Fin 1024 → ℝ) (h) :
    View.ld (Val := Elt Ideal) (e' := .bf16) (S := S4096x1024) (rl w) (Rect.unit ![3072, 0] ![1024, 1024] h) = rws q3 w :=
  (ld_rl w 3072 0 1024 1024 h).trans (rl_congr fun i j => congrArg₂ w (Fin.ext (rfl)) (Fin.ext (Nat.zero_add _)))

theorem ld_lo (w : Fin 1024 → Fin 1024 → ℝ) (h) :
    View.ld (Val := Elt Ideal) (e' := .bf16) (S := S1024x1024) (rl w) (Rect.unit ![0, 0] ![512, 1024] h) = rws lo w :=
  (ld_rl w 0 0 512 1024 h).trans (rl_congr fun i j => congrArg₂ w (Fin.ext (Nat.zero_add _)) (Fin.ext (Nat.zero_add _)))

theorem ld_hi (w : Fin 1024 → Fin 1024 → ℝ) (h) :
    View.ld (Val := Elt Ideal) (e' := .bf16) (S := S1024x1024) (rl w) (Rect.unit ![512, 0] ![512, 1024] h) = rws hi w :=
  (ld_rl w 512 0 512 1024 h).trans (rl_congr fun i j => congrArg₂ w (Fin.ext (rfl)) (Fin.ext (Nat.zero_add _)))

theorem back_u (X : S1024x4096.Idx → EReal) (r : Rect S1024x4096) :
    View.readCov (Val := Elt Ideal) (s := S1024x4096) (View.whole cc0_scratch0) [⟨Rect.whole S1024x4096, X⟩] r.toLoadRect = View.ld (Val := Elt Ideal) (e' := .bf16) (S := S1024x4096) X r :=
  View.readCov_fill (Val := Elt Ideal) (e := .bf16) (s := S1024x4096) _ (off := fun _ => 0) _ X [] r fun _ => rfl

theorem back_d (X : S4096x1024.Idx → EReal) (r : Rect S4096x1024) :
    View.readCov (Val := Elt Ideal) (s := S4096x1024) (View.whole cc0_scratch1) [⟨Rect.whole S4096x1024, X⟩] r.toLoadRect = View.ld (Val := Elt Ideal) (e' := .bf16) (S := S4096x1024) X r :=
  View.readCov_fill (Val := Elt Ideal) (e := .bf16) (s := S4096x1024) _ (off := fun _ => 0) _ X [] r fun _ => rfl

/-- The four stores of the wide layer's quarters in scratch. -/
abbrev four (x3 x2 x1 x0 : S256x1024.Idx → EReal) (h3 : ∀ a : Fin 2, (![0, 3072] : Fin 2 → ℕ) a + (![256, 1024] : Fin 2 → ℕ) a ≤ S256x4096.size a) (h2 : ∀ a : Fin 2, (![0, 2048] : Fin 2 → ℕ) a + (![256, 1024] : Fin 2 → ℕ) a ≤ S256x4096.size a) (h1 : ∀ a : Fin 2, (![0, 1024] : Fin 2 → ℕ) a + (![256, 1024] : Fin 2 → ℕ) a ≤ S256x4096.size a) (h0 : ∀ a : Fin 2, (![0, 0] : Fin 2 → ℕ) a + (![256, 1024] : Fin 2 → ℕ) a ≤ S256x4096.size a) : List (View.Piece (Elt Ideal) S256x4096 .f32) :=
  [⟨Rect.unit ![0, 3072] ![256, 1024] h3, x3⟩, ⟨Rect.unit ![0, 2048] ![256, 1024] h2, x2⟩,
    ⟨Rect.unit ![0, 1024] ![256, 1024] h1, x1⟩, ⟨Rect.unit ![0, 0] ![256, 1024] h0, x0⟩]

/-- The four stores of a wide output's quarters. -/
abbrev quads (x3 x2 x1 x0 : S256x1024.Idx → EReal) (h3 : ∀ a : Fin 2, (![0, 3072] : Fin 2 → ℕ) a + (![256, 1024] : Fin 2 → ℕ) a ≤ S256x4096.size a) (h2 : ∀ a : Fin 2, (![0, 2048] : Fin 2 → ℕ) a + (![256, 1024] : Fin 2 → ℕ) a ≤ S256x4096.size a) (h1 : ∀ a : Fin 2, (![0, 1024] : Fin 2 → ℕ) a + (![256, 1024] : Fin 2 → ℕ) a ≤ S256x4096.size a) (h0 : ∀ a : Fin 2, (![0, 0] : Fin 2 → ℕ) a + (![256, 1024] : Fin 2 → ℕ) a ≤ S256x4096.size a) : List (View.Piece (Elt Ideal) S256x4096 .bf16) :=
  [⟨Rect.unit ![0, 3072] ![256, 1024] h3, x3⟩, ⟨Rect.unit ![0, 2048] ![256, 1024] h2, x2⟩,
    ⟨Rect.unit ![0, 1024] ![256, 1024] h1, x1⟩, ⟨Rect.unit ![0, 0] ![256, 1024] h0, x0⟩]

/-- The three planes of the third scratch buffer. -/
abbrev three (x2 x1 x0 : S1x256x512.Idx → EReal) (h2 : ∀ a : Fin 3, (![2, 0, 0] : Fin 3 → ℕ) a + (![1, 256, 512] : Fin 3 → ℕ) a ≤ S3x256x512.size a) (h1 : ∀ a : Fin 3, (![1, 0, 0] : Fin 3 → ℕ) a + (![1, 256, 512] : Fin 3 → ℕ) a ≤ S3x256x512.size a) (h0 : ∀ a : Fin 3, (![0, 0, 0] : Fin 3 → ℕ) a + (![1, 256, 512] : Fin 3 → ℕ) a ≤ S3x256x512.size a) : List (View.Piece (Elt Ideal) S3x256x512 .f32) :=
  [⟨Rect.unit ![2, 0, 0] ![1, 256, 512] h2, x2⟩, ⟨Rect.unit ![1, 0, 0] ![1, 256, 512] h1, x1⟩, ⟨Rect.unit ![0, 0, 0] ![1, 256, 512] h0, x0⟩]

theorem back4_3 (x3 x2 x1 x0 : S256x1024.Idx → EReal) (h3 h2 h1 h0 h) :
    View.readCov (Val := Elt Ideal) (s := S256x4096) (View.whole cc0_scratch2) (four x3 x2 x1 x0 h3 h2 h1 h0) (Rect.unit (s := S256x4096) ![0, 3072] ![256, 1024] h).toLoadRect = x3 := by
  exact View.readCov_cons_toLoadRect _ _ _ _

theorem back4_2 (x3 x2 x1 x0 : S256x1024.Idx → EReal) (h3 h2 h1 h0 h) :
    View.readCov (Val := Elt Ideal) (s := S256x4096) (View.whole cc0_scratch2) (four x3 x2 x1 x0 h3 h2 h1 h0) (Rect.unit (s := S256x4096) ![0, 2048] ![256, 1024] h).toLoadRect = x2 := by
  rw [View.readCov_skip _ _ _ _ _ (by rfl)]; exact View.readCov_cons_toLoadRect _ _ _ _

theorem back4_1 (x3 x2 x1 x0 : S256x1024.Idx → EReal) (h3 h2 h1 h0 h) :
    View.readCov (Val := Elt Ideal) (s := S256x4096) (View.whole cc0_scratch2) (four x3 x2 x1 x0 h3 h2 h1 h0) (Rect.unit (s := S256x4096) ![0, 1024] ![256, 1024] h).toLoadRect = x1 := by
  rw [View.readCov_skip _ _ _ _ _ (by rfl)]; rw [View.readCov_skip _ _ _ _ _ (by rfl)]; exact View.readCov_cons_toLoadRect _ _ _ _

theorem back4_0 (x3 x2 x1 x0 : S256x1024.Idx → EReal) (h3 h2 h1 h0 h) :
    View.readCov (Val := Elt Ideal) (s := S256x4096) (View.whole cc0_scratch2) (four x3 x2 x1 x0 h3 h2 h1 h0) (Rect.unit (s := S256x4096) ![0, 0] ![256, 1024] h).toLoadRect = x0 := by
  rw [View.readCov_skip _ _ _ _ _ (by rfl)]; rw [View.readCov_skip _ _ _ _ _ (by rfl)]; rw [View.readCov_skip _ _ _ _ _ (by rfl)]; exact View.readCov_cons_toLoadRect _ _ _ _

theorem back3_2 (x2 x1 x0 : S1x256x512.Idx → EReal) (h2 h1 h0 h) :
    View.readCov (Val := Elt Ideal) (s := S3x256x512) (View.whole cc0_scratch3) (three x2 x1 x0 h2 h1 h0) (Rect.unit (s := S3x256x512) ![2, 0, 0] ![1, 256, 512] h).toLoadRect = x2 := by
  exact View.readCov_cons_toLoadRect _ _ _ _

theorem back3_1 (x2 x1 x0 : S1x256x512.Idx → EReal) (h2 h1 h0 h) :
    View.readCov (Val := Elt Ideal) (s := S3x256x512) (View.whole cc0_scratch3) (three x2 x1 x0 h2 h1 h0) (Rect.unit (s := S3x256x512) ![1, 0, 0] ![1, 256, 512] h).toLoadRect = x1 := by
  rw [View.readCov_skip _ _ _ _ _ (by rfl)]; exact View.readCov_cons_toLoadRect _ _ _ _

theorem back3_0 (x2 x1 x0 : S1x256x512.Idx → EReal) (h2 h1 h0 h) :
    View.readCov (Val := Elt Ideal) (s := S3x256x512) (View.whole cc0_scratch3) (three x2 x1 x0 h2 h1 h0) (Rect.unit (s := S3x256x512) ![0, 0, 0] ![1, 256, 512] h).toLoadRect = x0 := by
  rw [View.readCov_skip _ _ _ _ _ (by rfl)]; rw [View.readCov_skip _ _ _ _ _ (by rfl)]; exact View.readCov_cons_toLoadRect _ _ _ _

theorem canon4 (f : Token → Fin 4096 → ℝ) (P : Fin 256 → Token) (h3 h2 h1 h0) :
    View.canon (Val := Elt Ideal) (quads (rows (part q3 f) P) (rows (part q2 f) P) (rows (part q1 f) P) (rows (part q0 f) P) h3 h2 h1 h0) = rows f P := by
  funext y
  refine View.canon_apply_of_pieces (Val := Elt Ideal) (e := .bf16) (S := S256x4096) (rows f P) (quads _ _ _ _ h3 h2 h1 h0) (View.PiecesOf.mem ⟨?_, ?_, ?_, ?_, trivial⟩) y
    (View.cover_of_tiledL _ ![256, 1024] (by rfl) y)
  all_goals
    intro x
    refine congrArg Real.toEReal (congrArg₂ (fun i c => f (P i) c) (Fin.ext ?_) (Fin.ext ?_))
    · show (x 0).val = 0 + 1 * (x 0).val
      rw [one_mul, zero_add]
  · show 3072 + (x 1).val = 3072 + 1 * (x 1).val; rw [one_mul]
  · show 2048 + (x 1).val = 2048 + 1 * (x 1).val; rw [one_mul]
  · show 1024 + (x 1).val = 1024 + 1 * (x 1).val; rw [one_mul]
  · show (x 1).val = 0 + 1 * (x 1).val; rw [one_mul, zero_add]

theorem canon2 (f : Token → Fin 1024 → ℝ) (P : Fin 256 → Token) (h1 h0) :
    View.canon (Val := Elt Ideal) (e := .bf16) (s := S256x1024) [⟨Rect.unit ![0, 512] ![256, 512] h1, rows (part hi f) P⟩, ⟨Rect.unit ![0, 0] ![256, 512] h0, rows (part lo f) P⟩]
      = rows f P := by
  funext y
  refine View.canon_apply_of_pieces (Val := Elt Ideal) (e := .bf16) (S := S256x1024) (rows f P) [⟨Rect.unit ![0, 512] ![256, 512] h1, _⟩, ⟨Rect.unit ![0, 0] ![256, 512] h0, _⟩] (View.PiecesOf.mem ⟨?_, ?_, trivial⟩) y
    (View.cover_of_tiledL _ ![256, 512] (by rfl) y)
  all_goals
    intro x
    refine congrArg Real.toEReal (congrArg₂ (fun i c => f (P i) c) (Fin.ext ?_) (Fin.ext ?_))
    · show (x 0).val = 0 + 1 * (x 0).val
      rw [one_mul, zero_add]
  · show 512 + (x 1).val = 512 + 1 * (x 1).val; rw [one_mul]
  · show (x 1).val = 0 + 1 * (x 1).val; rw [one_mul, zero_add]

end Mixer

end
-- ==== Proof.Mixer.Stage.lean ====
/-
  The fused kernel's body, value by value: each of its values at the rows of 256 tokens is the matching quantity of each
  token, so the body's arrays are named by the model's functions.
-/
module

public import proofs.«01_k».proof.Proof.Mixer.Payload
public import proofs.«01_k».proof.Proof.Mixer.Chunks

@[expose] public section

set_option maxRecDepth 16384

noncomputable section

namespace Mixer

open Idealize.ShloMosaic Idealize.ShloMosaic.TcCoe Idealize.SL.Sem
open Cert.KernelIdeal Cert.KernelIdeal.Gen

variable (W : Weights) (P : Fin 256 → Token)

theorem mix_lo (T : Token) (j : Fin 512) : mix W T (lo j) = an W T j := dif_pos j.isLt
theorem mix_hi (T : Token) (j : Fin 512) : mix W T (hi j) = sn W T j := by
  refine (dif_neg (show ¬512 + j.val < 512 by omega)).trans (congrArg (sn W T) (Fin.ext ?_))
  show 512 + j.val - 512 = j.val
  omega

/-- The output's first half of its sum: the residual stream and two quarters of the wide layer. -/
def y01 (T : Token) (j : Fin 1024) : ℝ :=
  x2 W T j + (∑ c, hdn W T (q0 c) * W.wd (q0 c) j) + ∑ c, hdn W T (q1 c) * W.wd (q1 c) j
/-- The wide layer's input gradient from two of its quarters. -/
def dh01 (T : Token) (k : Fin 1024) : ℝ := (∑ c, dup W T (q0 c) * W.wu k (q0 c)) + ∑ c, dup W T (q1 c) * W.wu k (q1 c)

theorem s17 : k0_pay17 (F := Ideal) (rows Token.a P) (row W.ga) = rows (part lo (mix W)) P :=
  (pay17 _ _).trans (rl_congr fun i j => (mix_lo W (P i) j).symm)
theorem s11 : k0_pay11 (F := Ideal) (rows Token.y P) = rows (z) P :=
  pay11 _
theorem s12 : k0_pay12 (F := Ideal) (rows Token.y P) (rl W.wg) (row W.b) = rows (sg W) P :=
  pay12 _ _ _
theorem s18 : k0_pay18 (F := Ideal) (rows (z) P) (rows (sg W) P) (row W.gs) = rows (part hi (mix W)) P :=
  (pay18 _ _ _).trans (rl_congr fun i j => (mix_hi W (P i) j).symm)
theorem s19 : k0_pay19 (F := Ideal) (rows (part lo (mix W)) P) (rows (part hi (mix W)) P) (rows Token.x P) (rws lo W.wo) (rws hi W.wo) = rows (x2 W) P :=
  (pay19 _ _ _ _ _).trans (rl_congr fun i j => by
    show _ = (P i).x j + ∑ k, mix W (P i) k * W.wo k j
    rw [sum2, ← add_assoc]; rfl)
theorem s20 : k0_pay20 (F := Ideal) (rows (x2 W) P) = col (fun T => rms (x2 W T)) P :=
  pay20 _
theorem s21 : k0_pay21 (F := Ideal) (row W.g2) = row W.g2 :=
  pay21 _
theorem s22 : k0_pay22 (F := Ideal) (rows (x2 W) P) (row W.g2) (rows (x2 W) P) = rows (hh W) P :=
  pay22 _ _ _
theorem s23 : k0_pay23 (F := Ideal) (rows (x2 W) P) = rows (x2 W) P :=
  pay23 _
theorem s25 : k0_pay25 (F := Ideal) (rows (hh W) P) (cols q0 W.wu) (constant (F := Ideal) S256x1024 .f32 0x00000000#32) = rows (part q0 (ru W)) P :=
  pay25 _ _
theorem s28 : k0_pay28 (F := Ideal) (rows (hh W) P) (cols q1 W.wu) = rows (part q1 (ru W)) P :=
  pay28 _ _
theorem s31 : k0_pay31 (F := Ideal) (rows (hh W) P) (cols q2 W.wu) = rows (part q2 (ru W)) P :=
  pay31 _ _
theorem s35 : k0_pay35 (F := Ideal) (rows (hh W) P) (cols q3 W.wu) = rows (part q3 (ru W)) P :=
  pay35 _ _
theorem s26 : k0_pay26 (F := Ideal) (rows (hh W) P) (cols q0 W.wu) (constant (F := Ideal) S256x1024 .f32 0x00000000#32) = rows (part q0 (hdn W)) P :=
  pay26 _ _
theorem s29 : k0_pay29 (F := Ideal) (rows (hh W) P) (cols q1 W.wu) = rows (part q1 (hdn W)) P :=
  pay29 _ _
theorem s36 : k0_pay36 (F := Ideal) (rows (hh W) P) (cols q3 W.wu) = rows (part q3 (hdn W)) P :=
  pay36 _ _
theorem s32 : k0_pay32 (F := Ideal) (rows (part q2 (ru W)) P) = rows (part q2 (ru W)) P :=
  pay32 _
theorem s33 : k0_pay33 (F := Ideal) (rows (part q2 (ru W)) P) = rows (part q2 (hdn W)) P :=
  pay33 _
theorem s30 : k0_pay30 (F := Ideal) (rows (hh W) P) (rows (x2 W) P) (cols q0 W.wu) (constant (F := Ideal) S256x1024 .f32 0x00000000#32) (rws q0 W.wd) (cols q1 W.wu) (rws q1 W.wd) = rows (y01 W) P :=
  pay30 _ _ _ _ _ _
theorem s37 : k0_pay37 (F := Ideal) (rows (hh W) P) (rows (y01 W) P) (rows (part q2 (ru W)) P) (rws q2 W.wd) (cols q3 W.wu) (rws q3 W.wd) (rows Token.tg P) = rows (err W) P :=
  (pay37 _ _ _ _ _ _ _).trans (rl_congr fun i j => by
    show _ = x2 W (P i) j + (∑ c, hdn W (P i) c * W.wd c j) - (P i).tg j
    rw [sum4]
    simp only [← add_assoc]; rfl)
theorem s38 (p : ℝ) : k0_pay38 (F := Ideal) (rows (hh W) P) (rows (y01 W) P) (rows (part q2 (ru W)) P) (rws q2 W.wd) (cols q3 W.wu) (rws q3 W.wd) (rows Token.tg P) (row (n := 128) fun _ => p) = row (n := 128) fun _ => p + ∑ i, loss W (P i) :=
  (pay38 _ _ _ _ (fun i => err W (P i)) _ _ _ _ (s37 W P)).trans (rl_congr fun _ _ => by
    unfold loss
    rw [← Finset.sum_mul, ← Finset.mul_sum])
theorem s39 : k0_pay39 (F := Ideal) (rows (err W) P) = rows (dy W) P :=
  pay39 _
theorem s40 : k0_pay40 (F := Ideal) (rows (err W) P) = rows (dy W) P :=
  pay40 _
theorem s41 : k0_pay41 (F := Ideal) (rows (err W) P) (rws q0 W.wd) (rows (part q0 (ru W)) P) = rows (part q0 (dup W)) P :=
  pay41 _ _ _
theorem s42 : k0_pay42 (F := Ideal) (rows (err W) P) (rws q1 W.wd) (rows (part q1 (ru W)) P) = rows (part q1 (dup W)) P :=
  pay42 _ _ _
theorem s43 : k0_pay43 (F := Ideal) (rows (err W) P) (rws q0 W.wd) (rows (part q0 (ru W)) P) (cols q0 W.wu) (rws q1 W.wd) (rows (part q1 (ru W)) P) (cols q1 W.wu) = rows (dh01 W) P :=
  pay43 _ _ _ _ _ _ _
theorem s44 : k0_pay44 (F := Ideal) (rows (dy W) P) (rws q2 W.wd) (rows (part q2 (ru W)) P) = rows (part q2 (dup W)) P :=
  pay44 _ _ _
theorem s45 : k0_pay45 (F := Ideal) (rows (dy W) P) (rws q3 W.wd) (rows (part q3 (ru W)) P) = rows (part q3 (dup W)) P :=
  pay45 _ _ _
theorem s46 : k0_pay46 (F := Ideal) (rows (dy W) P) (rows (dh01 W) P) (rws q2 W.wd) (rows (part q2 (ru W)) P) (cols q2 W.wu) (rws q3 W.wd) (rows (part q3 (ru W)) P) (cols q3 W.wu) = rows (dh W) P :=
  (pay46 _ _ _ _ _ _ _ _).trans (rl_congr fun i k => by
    show _ = ∑ c, dup W (P i) c * W.wu k c
    rw [sum4]; rfl)
theorem s47 : k0_pay47 (F := Ideal) (col (fun T => rms (x2 W T)) P) (rows (x2 W) P) = rows (fun T j => x2 W T j * rms (x2 W T)) P :=
  pay47 _ _
theorem s48 : k0_pay48 (F := Ideal) (row W.g2) (rows (dy W) P) (rows (dh01 W) P) (rws q2 W.wd) (rows (part q2 (ru W)) P) (cols q2 W.wu) (rws q3 W.wd) (rows (part q3 (ru W)) P) (cols q3 W.wu) = rows (fun T j => dh W T j * W.g2 j) P :=
  pay48 _ _ _ _ _ (fun i => dh W (P i)) _ _ _ _ (s46 W P)
theorem s49 : k0_pay49 (F := Ideal) (col (fun T => rms (x2 W T)) P) (row W.g2) (rows (dy W) P) (rows (dh01 W) P) (rws q2 W.wd) (rows (part q2 (ru W)) P) (cols q2 W.wu) (rws q3 W.wd) (rows (part q3 (ru W)) P) (cols q3 W.wu) (rows (x2 W) P) = col (fun T => ∑ j, dh W T j * W.g2 j * (x2 W T j * rms (x2 W T))) P :=
  pay49 _ _ _ _ _ _ (fun i => dh W (P i)) _ _ _ _ _ (s46 W P)
theorem s51 : k0_pay51 (F := Ideal) (col (fun T => rms (x2 W T)) P) (rows (dy W) P) (rows (fun T j => x2 W T j * rms (x2 W T)) P) (rows (fun T j => dh W T j * W.g2 j) P) (col (fun T => ∑ j, dh W T j * W.g2 j * (x2 W T j * rms (x2 W T))) P) (k0_pay50 (F := Ideal)) = rows (dx2 W) P :=
  (pay51 _ _ (fun _ => 0) _ _ _).trans (rl_congr fun i j => by
    show _ = dy W (P i) j + nrmBwd (dh W (P i)) (x2 W (P i)) W.g2 j
    unfold nrmBwd
    rw [Nat.cast_ofNat])
theorem s52 (p : Fin 1024 → ℝ) : k0_pay52 (F := Ideal) (rows (dh W) P) (rows (fun T j => x2 W T j * rms (x2 W T)) P) (row p) = row fun j => p j + ∑ i, tg2 W (P i) j :=
  pay52 _ _ _
theorem s53 : k0_pay53 (F := Ideal) (rows (dx2 W) P) = rows (dx2 W) P :=
  pay53 _
theorem s58 : k0_pay58 (F := Ideal) (rws lo W.wo) = rws lo W.wo :=
  pay58 _
theorem s62 : k0_pay62 (F := Ideal) (rows (dx2 W) P) (rows Token.a P) (rws lo W.wo) (constant (F := Ideal) S256x512 .f32 0x00000000#32) (row W.ga) = rows (dattn W) P :=
  pay62 _ _ _ _
theorem s15 : k0_pay15 (F := Ideal) (rows (sg W) P) = rows3 (sg W) P :=
  pay15 _
theorem s14 : k0_pay14 (F := Ideal) (rows Token.y P) = rows3 (fun T j => gelT (T.y j)) P :=
  pay14 _
theorem s13 : k0_pay13 (F := Ideal) (rows Token.y P) = rows3 (z) P :=
  pay13 _
theorem s16 : k0_pay16 (F := Ideal) (rows (z) P) = rows (z) P :=
  pay16 _
theorem s54 : k0_pay54 (F := Ideal) (rows3 (z) P) = rows (z) P :=
  pay54 _
theorem s56 : k0_pay56 (F := Ideal) (rows3 (sg W) P) = rows (sg W) P :=
  pay56 _
theorem s57 : k0_pay57 (F := Ideal) (rows3 (z) P) (rows3 (sg W) P) = rows (s W) P :=
  pay57 _ _
theorem s55 : k0_pay55 (F := Ideal) (rows3 (fun T j => gelT (T.y j)) P) = rows (fun T j => gelT (T.y j)) P :=
  pay55 _
theorem s65 : k0_pay65 (F := Ideal) (rows (s W) P) = col (fun T => rms (s W T)) P :=
  pay65 _
theorem s66 : k0_pay66 (F := Ideal) (rows (s W) P) = rows (fun T j => s W T j * rms (s W T)) P :=
  pay66 _
theorem s67 : k0_pay67 (F := Ideal) (rows (dx2 W) P) (rws hi W.wo) (row W.gs) = rows (fun T k => dsn W T k * W.gs k) P :=
  pay67 _ _ _
theorem s68 : k0_pay68 (F := Ideal) (rows (dx2 W) P) (rows (s W) P) (rws hi W.wo) (row W.gs) = rows (fun T k => dsn W T k * W.gs k * (s W T k * rms (s W T))) P :=
  pay68 _ _ _ _
theorem s71 : k0_pay71 (F := Ideal) (rows (z) P) (rows (sg W) P) (col (fun T => rms (s W T)) P) (rows (fun T j => s W T j * rms (s W T)) P) (rows (fun T k => dsn W T k * W.gs k) P) (rows (fun T k => dsn W T k * W.gs k * (s W T k * rms (s W T))) P) = rows (dgp W) P :=
  (pay71 _ _ _ _ _ _).trans (rl_congr fun i j => by unfold dgp ds nrmBwd; rw [Nat.cast_ofNat])
theorem s72 : k0_pay72 (F := Ideal) (rows (z) P) (rows (sg W) P) (col (fun T => rms (s W T)) P) (rows (fun T j => s W T j * rms (s W T)) P) (rows (fun T k => dsn W T k * W.gs k) P) (rows (fun T k => dsn W T k * W.gs k * (s W T k * rms (s W T))) P) = rows (dgp W) P :=
  (pay72 _ _ _ _ _ _).trans (rl_congr fun i j => by unfold dgp ds nrmBwd; rw [Nat.cast_ofNat])
theorem s73 : k0_pay73 (F := Ideal) (rows (z) P) (rows (sg W) P) (col (fun T => rms (s W T)) P) (rows (fun T j => s W T j * rms (s W T)) P) (rows (fun T k => dsn W T k * W.gs k) P) (rows (fun T k => dsn W T k * W.gs k * (s W T k * rms (s W T))) P) (rl W.wg) = rows (fun T j => ds W T j * sg W T j + ∑ k, dgp W T k * W.wg j k) P :=
  (pay73 _ _ _ _ _ _ _).trans (rl_congr fun i j => by unfold dgp ds nrmBwd; simp only [Nat.cast_ofNat])
theorem s74 : k0_pay74 (F := Ideal) (rows Token.y P) (rows (fun T j => gelT (T.y j)) P) = rows (fun T j => gelD (T.y j)) P :=
  pay74 _ _
theorem s1 : k0_pay1 (F := Ideal) (rows (fun T j => ds W T j * sg W T j + ∑ k, dgp W T k * W.wg j k) P) (rows (fun T j => gelD (T.y j)) P) = rows (dyv W) P :=
  pay1 _ _
theorem s63 : k0_pay63 (F := Ideal) (rows (dx2 W) P) (rows Token.a P) (rws lo W.wo) (constant (F := Ideal) S256x512 .f32 0x00000000#32) = rows (tga W) P :=
  pay63 _ _ _
theorem s64 : k0_pay64 (F := Ideal) (rows (dx2 W) P) (rws hi W.wo) = rows (dsn W) P :=
  pay64 _ _
theorem s70 : k0_pay70 (F := Ideal) (rows (dsn W) P) (rows (fun T j => s W T j * rms (s W T)) P) = rows (tgs W) P :=
  pay70 _ _
theorem s2 (p : Fin 512 → ℝ) : k0_pay2 (F := Ideal) (rows (tga W) P) (row p) = row fun j => p j + ∑ i, tga W (P i) j :=
  pay2 _ _
theorem s3 (p : Fin 512 → ℝ) : k0_pay3 (F := Ideal) (rows (tgs W) P) (row p) = row fun j => p j + ∑ i, tgs W (P i) j :=
  pay3 _ _
theorem s4 (p : Fin 512 → ℝ) : k0_pay4 (F := Ideal) (rows (dgp W) P) (row p) = row fun j => p j + ∑ i, dgp W (P i) j :=
  pay4 _ _
theorem s5 : k0_pay5 (F := Ideal) = row fun (_ : Fin 1024) => 0 := pay5
theorem s6 : k0_pay6 (F := Ideal) = row fun (_ : Fin 128) => 0 := pay6
theorem s7 : k0_pay7 (F := Ideal) = row fun (_ : Fin 512) => 0 := pay7
theorem s8 : k0_pay8 (F := Ideal) = row fun (_ : Fin 512) => 0 := pay8
theorem s9 : k0_pay9 (F := Ideal) = row fun (_ : Fin 512) => 0 := pay9

end Mixer

end
-- ==== Proof.Mixer.RunB.lean ====
/-
  The body's run at a point that is not the first: the scratch weights hold what an earlier point copied into them.
-/
module

public import proofs.«01_k».proof.Proof.Gen.KernelIdeal.Frame.RunA

@[expose] public section

set_option maxRecDepth 16384

noncomputable section

namespace Mixer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

set_option maxHeartbeats 2000000 in
/-- The pieces that the body leaves in each output, in the two scratch weights and in the two other scratch buffers, at a point
    that is not the first, with its run: from the inputs' blocks, the sums and the scratch weights as the point before left them,
    anything in the other buffers, to those pieces written. -/
noncomputable def runB (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x1024 .f32) (harg8 : arg8.IsWhole) (arg9 : Memref sig .tc .vmem S512x512 .bf16) (harg9 : arg9.IsWhole) (arg10 : Memref sig .tc .vmem S1024x1024 .bf16) (harg10 : arg10.IsWhole) (arg13 : Memref sig .tc .vmem S256x1024 .f32) (harg13 : arg13.IsWhole) (arg14 : Memref sig .tc .vmem S256x4096 .bf16) (harg14 : arg14.IsWhole) (arg15 : Memref sig .tc .vmem S256x4096 .bf16) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S256x1024 .bf16) (harg18 : arg18.IsWhole) (arg19 : Memref sig .tc .vmem S256x512 .bf16) (harg19 : arg19.IsWhole) (arg20 : Memref sig .tc .vmem S256x512 .f32) (harg20 : arg20.IsWhole) (arg21 : Memref sig .tc .vmem S256x512 .f32) (harg21 : arg21.IsWhole) (arg22 : Memref sig .tc .vmem S256x1024 .bf16) (harg22 : arg22.IsWhole) (arg23 : Memref sig .tc .vmem S256x512 .bf16) (harg23 : arg23.IsWhole) (arg24 : Memref sig .tc .vmem S1x1024 .f32) (harg24 : arg24.IsWhole) (arg25 : Memref sig .tc .vmem S1x128 .f32) (harg25 : arg25.IsWhole) (arg26 : Memref sig .tc .vmem S1x512 .f32) (harg26 : arg26.IsWhole) (arg27 : Memref sig .tc .vmem S1x512 .f32) (harg27 : arg27.IsWhole) (arg28 : Memref sig .tc .vmem S1x512 .f32) (harg28 : arg28.IsWhole) (arg29 : Memref sig .tc .vmem S1024x4096 .bf16) (harg29 : arg29.IsWhole) (arg30 : Memref sig .tc .vmem S4096x1024 .bf16) (harg30 : arg30.IsWhole) (arg31 : Memref sig .tc .vmem S256x4096 .f32) (harg31 : arg31.IsWhole) (arg32 : Memref sig .tc .vmem S3x256x512 .f32) (harg32 : arg32.IsWhole) (hc0 : ¬cond0_0 i)
    (x0 : Vec F S256x512 .f32) (x1 : Vec F S256x512 .f32) (x2 : Vec F S256x1024 .f32) (x3 : Vec F S256x1024 .f32) (x4 : Vec F S1x512 .f32) (x5 : Vec F S1x512 .f32) (x6 : Vec F S1x512 .f32) (x7 : Vec F S1x1024 .f32) (x8 : Vec F S512x512 .bf16) (x9 : Vec F S1024x1024 .bf16) (xo21 : Vec F S1x1024 .f32) (xo22 : Vec F S1x128 .f32) (xo23 : Vec F S1x512 .f32) (xo24 : Vec F S1x512 .f32) (xo25 : Vec F S1x512 .f32) (xs0 : Vec F S1024x4096 .bf16) (xs1 : Vec F S4096x1024 .bf16) (fh0 : HbBuf0 (F := F) c hbM0_0) (fh1 : HbBuf0 (F := F) c hbM0_1) :
    Σ' (L10 : List (View.Piece (Elt F) S256x1024 .f32)), Σ' (L11 : List (View.Piece (Elt F) S256x4096 .bf16)), Σ' (L12 : List (View.Piece (Elt F) S256x4096 .bf16)), Σ' (L13 : List (View.Piece (Elt F) S256x1024 .bf16)), Σ' (L14 : List (View.Piece (Elt F) S256x1024 .bf16)), Σ' (L15 : List (View.Piece (Elt F) S256x1024 .bf16)), Σ' (L16 : List (View.Piece (Elt F) S256x512 .bf16)), Σ' (L17 : List (View.Piece (Elt F) S256x512 .f32)), Σ' (L18 : List (View.Piece (Elt F) S256x512 .f32)), Σ' (L19 : List (View.Piece (Elt F) S256x1024 .bf16)), Σ' (L20 : List (View.Piece (Elt F) S256x512 .bf16)), Σ' (L21 : List (View.Piece (Elt F) S1x1024 .f32)), Σ' (L22 : List (View.Piece (Elt F) S1x128 .f32)), Σ' (L23 : List (View.Piece (Elt F) S1x512 .f32)), Σ' (L24 : List (View.Piece (Elt F) S1x512 .f32)), Σ' (L25 : List (View.Piece (Elt F) S1x512 .f32)), Σ' (LS0 : List (View.Piece (Elt F) S1024x4096 .bf16)), Σ' (LS1 : List (View.Piece (Elt F) S4096x1024 .bf16)), Σ' (LT2 : List (View.Piece (Elt F) S256x4096 .f32)), { LT3 : List (View.Piece (Elt F) S3x256x512 .f32) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ owns (c : Thread nD τ) arg24 fullShare xo21 ∗ owns (c : Thread nD τ) arg25 fullShare xo22 ∗ owns (c : Thread nD τ) arg26 fullShare xo23 ∗ owns (c : Thread nD τ) arg27 fullShare xo24 ∗ owns (c : Thread nD τ) arg28 fullShare xo25 ∗ owns (c : Thread nD τ) arg29 fullShare xs0 ∗ owns (c : Thread nD τ) arg30 fullShare xs1 ∗ (∃ d, owns (c : Thread nD τ) arg31 fullShare d) ∗ (∃ d, owns (c : Thread nD τ) arg32 fullShare d) ∗ semVal ((c : Thread nD τ), SemLoc.dma 41) 0 ∗ semVal ((c : Thread nD τ), SemLoc.dma 42) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f L11) ∗ (∃ f, arg15.view.loc (c : Thread nD τ) ↦[arg15.view.set]{fullShare} arg15.view.writes (Elt F) f L12) ∗ (∃ f, arg16.view.loc (c : Thread nD τ) ↦[arg16.view.set]{fullShare} arg16.view.writes (Elt F) f L13) ∗ (∃ f, arg17.view.loc (c : Thread nD τ) ↦[arg17.view.set]{fullShare} arg17.view.writes (Elt F) f L14) ∗ (∃ f, arg18.view.loc (c : Thread nD τ) ↦[arg18.view.set]{fullShare} arg18.view.writes (Elt F) f L15) ∗ (∃ f, arg19.view.loc (c : Thread nD τ) ↦[arg19.view.set]{fullShare} arg19.view.writes (Elt F) f L16) ∗ (∃ f, arg20.view.loc (c : Thread nD τ) ↦[arg20.view.set]{fullShare} arg20.view.writes (Elt F) f L17) ∗ (∃ f, arg21.view.loc (c : Thread nD τ) ↦[arg21.view.set]{fullShare} arg21.view.writes (Elt F) f L18) ∗ (∃ f, arg22.view.loc (c : Thread nD τ) ↦[arg22.view.set]{fullShare} arg22.view.writes (Elt F) f L19) ∗ (∃ f, arg23.view.loc (c : Thread nD τ) ↦[arg23.view.set]{fullShare} arg23.view.writes (Elt F) f L20) ∗ (∃ f, arg24.view.loc (c : Thread nD τ) ↦[arg24.view.set]{fullShare} arg24.view.writes (Elt F) f L21) ∗ (∃ f, arg25.view.loc (c : Thread nD τ) ↦[arg25.view.set]{fullShare} arg25.view.writes (Elt F) f L22) ∗ (∃ f, arg26.view.loc (c : Thread nD τ) ↦[arg26.view.set]{fullShare} arg26.view.writes (Elt F) f L23) ∗ (∃ f, arg27.view.loc (c : Thread nD τ) ↦[arg27.view.set]{fullShare} arg27.view.writes (Elt F) f L24) ∗ (∃ f, arg28.view.loc (c : Thread nD τ) ↦[arg28.view.set]{fullShare} arg28.view.writes (Elt F) f L25) ∗ owns (c : Thread nD τ) arg29 fullShare xs0 ∗ owns (c : Thread nD τ) arg30 fullShare xs1 ∗ (∃ f, arg31.view.loc (c : Thread nD τ) ↦[arg31.view.set]{fullShare} arg31.view.writes (Elt F) f LT2) ∗ (∃ f, arg32.view.loc (c : Thread nD τ) ↦[arg32.view.set]{fullShare} arg32.view.writes (Elt F) f LT3) ∗ semVal ((c : Thread nD τ), SemLoc.dma 41) 0 ∗ semVal ((c : Thread nD τ), SemLoc.dma 42) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_mixer_mlp i arg1 harg1 arg2 harg2 arg3 harg3 arg4 harg4 arg5 harg5 arg6 harg6 arg7 harg7 arg8 harg8 arg9 harg9 arg10 harg10 (Memref.whole main_v6) (Memref.isWhole_whole _) (Memref.whole main_v7) (Memref.isWhole_whole _) arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 cc0_scratch4) K } := by
  refine ⟨?_, ?_, ?_, ?_, ?_, ?_, ?_, ?_, ?_, ?_, ?_, ?_, ?_, ?_, ?_, ?_, [], [], ?_, ?_, fun W K => ?run⟩
  case run =>
    simp only [cc0_mixer_mlp_eq_skeleton]; unfold cc0_mixer_mlp_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%f21, %hf21, H21⟩, ⟨%f22, %hf22, H22⟩, ⟨%f23, %hf23, H23⟩, ⟨%f24, %hf24, H24⟩, ⟨%f25, %hf25, H25⟩, ⟨%fs0, %hfs0, HS0⟩, ⟨%fs1, %hfs1, HS1⟩, ⟨%ds2, %fs2, -, HS2⟩, ⟨%ds3, %fs3, -, HS3⟩, Hq0, Hq1, Hh0, Hh1, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg24.eq_unread hf21; obtain rfl := harg25.eq_unread hf22; obtain rfl := harg26.eq_unread hf23; obtain rfl := harg27.eq_unread hf24; obtain rfl := harg28.eq_unread hf25; obtain rfl := harg29.eq_unread hfs0; obtain rfl := harg30.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [HS0]
    · iexists _; isplitr; · ipureintro; exact harg29.read_unread _
      iexact HS0
    isplitl [HS1]
    · iexists _; isplitr; · ipureintro; exact harg30.read_unread _
      iexact HS1
    isplitl [HS2]; · iexists _; iexact HS2
    isplitl [HS3]; · iexists _; iexact HS3
    isplitl [Hq0]; · iexact Hq0
    isplitl [Hq1]; · iexact Hq1
    isplitl [Hh0]; · iexact Hh0
    isplitl [Hh1]; · iexact Hh1
    iexists _; iexact HW

end Mixer

end
-- ==== Proof.Mixer.Left.lean ====
/-
  What the 16 outputs of the fused kernel hold after each point.  The first point copies the two large weights into scratch;
  every later point finds them there, so only the five sums run over the points.
-/
module

public import proofs.«01_k».proof.Proof.Mixer.RunB

@[expose] public section

set_option maxRecDepth 16384

noncomputable section

namespace Mixer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- What a point leaves in the 16 outputs. -/
structure Left (F : FTy → Type) where
  o10 : Vec F S256x1024 .f32
  o11 : Vec F S256x4096 .bf16
  o12 : Vec F S256x4096 .bf16
  o13 : Vec F S256x1024 .bf16
  o14 : Vec F S256x1024 .bf16
  o15 : Vec F S256x1024 .bf16
  o16 : Vec F S256x512 .bf16
  o17 : Vec F S256x512 .f32
  o18 : Vec F S256x512 .f32
  o19 : Vec F S256x1024 .bf16
  o20 : Vec F S256x512 .bf16
  o21 : Vec F S1x1024 .f32
  o22 : Vec F S1x128 .f32
  o23 : Vec F S1x512 .f32
  o24 : Vec F S1x512 .f32
  o25 : Vec F S1x512 .f32

/-- The run at the first point. -/
def atA (c : Dev nD) (t : Fin cfg0.N) (h0 : t.val % 64 = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (V m c main_v6) (V m c main_v7)

/-- The run at a later point, over what the point before left and the scratch weights. -/
def atB (c : Dev nD) (t : Fin cfg0.N) (h0 : ¬t.val % 64 = 0) (p : Left F) (wu : Vec F S1024x4096 .bf16) (wd : Vec F S4096x1024 .bf16) :=
  runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) p.o21 p.o22 p.o23 p.o24 p.o25 wu wd (V m c main_v6) (V m c main_v7)

/-- What a point stores, window by window and in the four scratch buffers. -/
structure Lists (F : FTy → Type) where
  l10 : List (View.Piece (Elt F) S256x1024 .f32)
  l11 : List (View.Piece (Elt F) S256x4096 .bf16)
  l12 : List (View.Piece (Elt F) S256x4096 .bf16)
  l13 : List (View.Piece (Elt F) S256x1024 .bf16)
  l14 : List (View.Piece (Elt F) S256x1024 .bf16)
  l15 : List (View.Piece (Elt F) S256x1024 .bf16)
  l16 : List (View.Piece (Elt F) S256x512 .bf16)
  l17 : List (View.Piece (Elt F) S256x512 .f32)
  l18 : List (View.Piece (Elt F) S256x512 .f32)
  l19 : List (View.Piece (Elt F) S256x1024 .bf16)
  l20 : List (View.Piece (Elt F) S256x512 .bf16)
  l21 : List (View.Piece (Elt F) S1x1024 .f32)
  l22 : List (View.Piece (Elt F) S1x128 .f32)
  l23 : List (View.Piece (Elt F) S1x512 .f32)
  l24 : List (View.Piece (Elt F) S1x512 .f32)
  l25 : List (View.Piece (Elt F) S1x512 .f32)
  l26 : List (View.Piece (Elt F) S1024x4096 .bf16)
  l27 : List (View.Piece (Elt F) S4096x1024 .bf16)
  l28 : List (View.Piece (Elt F) S256x4096 .f32)

set_option maxHeartbeats 2000000 in
/-- The lists of a run at the first point. -/
def listsOfA (c : Dev nD) (t : Fin cfg0.N) (h0 : t.val % 64 = 0) (R : type_of% (atA m c t h0)) : Lists F :=
  PSigma.casesOn (motive := fun _ => Lists F) R fun L10 R =>
    PSigma.casesOn (motive := fun _ => Lists F) (R) fun L11 R =>
    PSigma.casesOn (motive := fun _ => Lists F) (R) fun L12 R =>
    PSigma.casesOn (motive := fun _ => Lists F) (R) fun L13 R =>
    PSigma.casesOn (motive := fun _ => Lists F) (R) fun L14 R =>
    PSigma.casesOn (motive := fun _ => Lists F) (R) fun L15 R =>
    PSigma.casesOn (motive := fun _ => Lists F) (R) fun L16 R =>
    PSigma.casesOn (motive := fun _ => Lists F) (R) fun L17 R =>
    PSigma.casesOn (motive := fun _ => Lists F) (R) fun L18 R =>
    PSigma.casesOn (motive := fun _ => Lists F) (R) fun L19 R =>
    PSigma.casesOn (motive := fun _ => Lists F) (R) fun L20 R =>
    PSigma.casesOn (motive := fun _ => Lists F) (R) fun L21 R =>
    PSigma.casesOn (motive := fun _ => Lists F) (R) fun L22 R =>
    PSigma.casesOn (motive := fun _ => Lists F) (R) fun L23 R =>
    PSigma.casesOn (motive := fun _ => Lists F) (R) fun L24 R =>
    PSigma.casesOn (motive := fun _ => Lists F) (R) fun L25 R =>
    PSigma.casesOn (motive := fun _ => Lists F) (R) fun L26 R =>
    PSigma.casesOn (motive := fun _ => Lists F) (R) fun L27 R =>
    PSigma.casesOn (motive := fun _ => Lists F) (R) fun L28 R =>
    ⟨L10, L11, L12, L13, L14, L15, L16, L17, L18, L19, L20, L21, L22, L23, L24, L25, L26, L27, L28⟩

set_option maxHeartbeats 2000000 in
/-- What the first point stores. -/
def listsA (c : Dev nD) (t : Fin cfg0.N) (h0 : t.val % 64 = 0) : Lists F := listsOfA m c t h0 (atA m c t h0)

set_option maxHeartbeats 2000000 in
/-- The lists of a run at a later point. -/
def listsOfB (c : Dev nD) (t : Fin cfg0.N) (h0 : ¬t.val % 64 = 0) (p : Left F) (wu : Vec F S1024x4096 .bf16) (wd : Vec F S4096x1024 .bf16) (R : type_of% (atB m c t h0 p wu wd)) : Lists F :=
  PSigma.casesOn (motive := fun _ => Lists F) R fun L10 R =>
    PSigma.casesOn (motive := fun _ => Lists F) (R) fun L11 R =>
    PSigma.casesOn (motive := fun _ => Lists F) (R) fun L12 R =>
    PSigma.casesOn (motive := fun _ => Lists F) (R) fun L13 R =>
    PSigma.casesOn (motive := fun _ => Lists F) (R) fun L14 R =>
    PSigma.casesOn (motive := fun _ => Lists F) (R) fun L15 R =>
    PSigma.casesOn (motive := fun _ => Lists F) (R) fun L16 R =>
    PSigma.casesOn (motive := fun _ => Lists F) (R) fun L17 R =>
    PSigma.casesOn (motive := fun _ => Lists F) (R) fun L18 R =>
    PSigma.casesOn (motive := fun _ => Lists F) (R) fun L19 R =>
    PSigma.casesOn (motive := fun _ => Lists F) (R) fun L20 R =>
    PSigma.casesOn (motive := fun _ => Lists F) (R) fun L21 R =>
    PSigma.casesOn (motive := fun _ => Lists F) (R) fun L22 R =>
    PSigma.casesOn (motive := fun _ => Lists F) (R) fun L23 R =>
    PSigma.casesOn (motive := fun _ => Lists F) (R) fun L24 R =>
    PSigma.casesOn (motive := fun _ => Lists F) (R) fun L25 R =>
    PSigma.casesOn (motive := fun _ => Lists F) (R) fun L26 R =>
    PSigma.casesOn (motive := fun _ => Lists F) (R) fun L27 R =>
    PSigma.casesOn (motive := fun _ => Lists F) (R) fun L28 R =>
    ⟨L10, L11, L12, L13, L14, L15, L16, L17, L18, L19, L20, L21, L22, L23, L24, L25, L26, L27, L28⟩

/-- What a later point stores. -/
def listsB (c : Dev nD) (t : Fin cfg0.N) (h0 : ¬t.val % 64 = 0) (p : Left F) (wu : Vec F S1024x4096 .bf16) (wd : Vec F S4096x1024 .bf16) : Lists F :=
  listsOfB m c t h0 p wu wd (atB m c t h0 p wu wd)

/-- What the first point leaves. -/
def leftA (c : Dev nD) (t : Fin cfg0.N) (h0 : t.val % 64 = 0) : Left F where
  o10 := VO0_10.read (Elt F) (VO0_10.writes (Elt F) VO0_10.junk (listsA m c t h0).l10)
  o11 := VO0_11.read (Elt F) (VO0_11.writes (Elt F) VO0_11.junk (listsA m c t h0).l11)
  o12 := VO0_12.read (Elt F) (VO0_12.writes (Elt F) VO0_12.junk (listsA m c t h0).l12)
  o13 := VO0_13.read (Elt F) (VO0_13.writes (Elt F) VO0_13.junk (listsA m c t h0).l13)
  o14 := VO0_14.read (Elt F) (VO0_14.writes (Elt F) VO0_14.junk (listsA m c t h0).l14)
  o15 := VO0_15.read (Elt F) (VO0_15.writes (Elt F) VO0_15.junk (listsA m c t h0).l15)
  o16 := VO0_16.read (Elt F) (VO0_16.writes (Elt F) VO0_16.junk (listsA m c t h0).l16)
  o17 := VO0_17.read (Elt F) (VO0_17.writes (Elt F) VO0_17.junk (listsA m c t h0).l17)
  o18 := VO0_18.read (Elt F) (VO0_18.writes (Elt F) VO0_18.junk (listsA m c t h0).l18)
  o19 := VO0_19.read (Elt F) (VO0_19.writes (Elt F) VO0_19.junk (listsA m c t h0).l19)
  o20 := VO0_20.read (Elt F) (VO0_20.writes (Elt F) VO0_20.junk (listsA m c t h0).l20)
  o21 := VO0_21.read (Elt F) (VO0_21.writes (Elt F) VO0_21.junk (listsA m c t h0).l21)
  o22 := VO0_22.read (Elt F) (VO0_22.writes (Elt F) VO0_22.junk (listsA m c t h0).l22)
  o23 := VO0_23.read (Elt F) (VO0_23.writes (Elt F) VO0_23.junk (listsA m c t h0).l23)
  o24 := VO0_24.read (Elt F) (VO0_24.writes (Elt F) VO0_24.junk (listsA m c t h0).l24)
  o25 := VO0_25.read (Elt F) (VO0_25.writes (Elt F) VO0_25.junk (listsA m c t h0).l25)

/-- What a later point leaves. -/
def leftB (c : Dev nD) (t : Fin cfg0.N) (h0 : ¬t.val % 64 = 0) (p : Left F) (wu : Vec F S1024x4096 .bf16) (wd : Vec F S4096x1024 .bf16) : Left F where
  o10 := VO0_10.read (Elt F) (VO0_10.writes (Elt F) VO0_10.junk (listsB m c t h0 p wu wd).l10)
  o11 := VO0_11.read (Elt F) (VO0_11.writes (Elt F) VO0_11.junk (listsB m c t h0 p wu wd).l11)
  o12 := VO0_12.read (Elt F) (VO0_12.writes (Elt F) VO0_12.junk (listsB m c t h0 p wu wd).l12)
  o13 := VO0_13.read (Elt F) (VO0_13.writes (Elt F) VO0_13.junk (listsB m c t h0 p wu wd).l13)
  o14 := VO0_14.read (Elt F) (VO0_14.writes (Elt F) VO0_14.junk (listsB m c t h0 p wu wd).l14)
  o15 := VO0_15.read (Elt F) (VO0_15.writes (Elt F) VO0_15.junk (listsB m c t h0 p wu wd).l15)
  o16 := VO0_16.read (Elt F) (VO0_16.writes (Elt F) VO0_16.junk (listsB m c t h0 p wu wd).l16)
  o17 := VO0_17.read (Elt F) (VO0_17.writes (Elt F) VO0_17.junk (listsB m c t h0 p wu wd).l17)
  o18 := VO0_18.read (Elt F) (VO0_18.writes (Elt F) VO0_18.junk (listsB m c t h0 p wu wd).l18)
  o19 := VO0_19.read (Elt F) (VO0_19.writes (Elt F) VO0_19.junk (listsB m c t h0 p wu wd).l19)
  o20 := VO0_20.read (Elt F) (VO0_20.writes (Elt F) VO0_20.junk (listsB m c t h0 p wu wd).l20)
  o21 := VO0_21.read (Elt F) (VO0_21.writes (Elt F) VO0_21.junk (listsB m c t h0 p wu wd).l21)
  o22 := VO0_22.read (Elt F) (VO0_22.writes (Elt F) VO0_22.junk (listsB m c t h0 p wu wd).l22)
  o23 := VO0_23.read (Elt F) (VO0_23.writes (Elt F) VO0_23.junk (listsB m c t h0 p wu wd).l23)
  o24 := VO0_24.read (Elt F) (VO0_24.writes (Elt F) VO0_24.junk (listsB m c t h0 p wu wd).l24)
  o25 := VO0_25.read (Elt F) (VO0_25.writes (Elt F) VO0_25.junk (listsB m c t h0 p wu wd).l25)

/-- The first point. -/
def first : Fin cfg0.N := ⟨0, lt_of_lt_of_eq (by omega : 0 < 64) N_0.symm⟩

theorem first_of (t : Fin cfg0.N) (h : t.val % 64 = 0) : t = first := by
  have := lt_of_lt_of_eq t.isLt (show cfg0.N = 64 from N_0)
  refine Fin.ext ?_
  show t.val = 0
  omega

/-- The two scratch weights after the first point. -/
def wu (c : Dev nD) : Vec F S1024x4096 .bf16 :=
  VS0_0.read (Elt F) (VS0_0.writes (Elt F) VS0_0.junk (listsA m c first rfl).l26)
def wd (c : Dev nD) : Vec F S4096x1024 .bf16 :=
  VS0_1.read (Elt F) (VS0_1.writes (Elt F) VS0_1.junk (listsA m c first rfl).l27)

/-- What the points up to `n` leave. -/
def left (c : Dev nD) : (n : ℕ) → n < cfg0.N → Left F
  | 0, hn => leftA m c ⟨0, hn⟩ rfl
  | n + 1, hn => leftB m c ⟨n + 1, hn⟩ (by have := lt_of_lt_of_eq hn (show cfg0.N = 64 from N_0); dsimp only; omega)
      (left c n (by omega)) (wu m c) (wd m c)

theorem left_B (c : Dev nD) (t : Fin cfg0.N) (h0 : ¬t.val % 64 = 0) :
    left m c t.val t.isLt = leftB m c t h0 (left m c (t.val - 1) (Nat.lt_of_le_of_lt (Nat.sub_le _ _) t.isLt)) (wu m c) (wd m c) := by
  obtain ⟨n, hn⟩ := t
  cases n with
  | zero => exact absurd (Nat.zero_mod _) h0
  | succ n => rfl

/-- What holds between the points besides the windows: before the first what the launch hands over, then the scratch weights filled. -/
def between (c : Dev nD) : (n : ℕ) → sProp 𝕄
  | 0 => Pipeline.ΦD osem0 spec0 H0 (V m) c
  | _ + 1 => iprop(iprop(owns (c : Thread nD τ) scM0_0 fullShare (wu m c) ∗ owns (c : Thread nD τ) scM0_1 fullShare (wd m c) ∗ (∃ d, owns (c : Thread nD τ) scM0_2 fullShare d) ∗ (∃ d, owns (c : Thread nD τ) scM0_3 fullShare d)) ∗ (∃ r, prngReg c r) ∗ iprop(semVal ((c : Thread nD τ), SemLoc.dma 41) 0 ∗ semVal ((c : Thread nD τ), SemLoc.dma 42) 0) ∗ iprop(hbPt0 c hbM0_0 (V m c main_v6) ∗ hbPt0 c hbM0_1 (V m c main_v7)))

/-- The proof data: the arrays as found, each input's buffer at its block, each output's at what the point leaves. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (left m c t.val t.isLt).o10
    | ⟨11, _⟩ => (left m c t.val t.isLt).o11
    | ⟨12, _⟩ => (left m c t.val t.isLt).o12
    | ⟨13, _⟩ => (left m c t.val t.isLt).o13
    | ⟨14, _⟩ => (left m c t.val t.isLt).o14
    | ⟨15, _⟩ => (left m c t.val t.isLt).o15
    | ⟨16, _⟩ => (left m c t.val t.isLt).o16
    | ⟨17, _⟩ => (left m c t.val t.isLt).o17
    | ⟨18, _⟩ => (left m c t.val t.isLt).o18
    | ⟨19, _⟩ => (left m c t.val t.isLt).o19
    | ⟨20, _⟩ => (left m c t.val t.isLt).o20
    | ⟨21, _⟩ => (left m c t.val t.isLt).o21
    | ⟨22, _⟩ => (left m c t.val t.isLt).o22
    | ⟨23, _⟩ => (left m c t.val t.isLt).o23
    | ⟨24, _⟩ => (left m c t.val t.isLt).o24
    | ⟨25, _⟩ => (left m c t.val t.isLt).o25
    | ⟨_ + 26, h⟩ => absurd h (Nat.not_lt.2 (Nat.le_add_left _ _))
  Φ t := between m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = (left m c t.val t.isLt).o10 := by dsimp only [dats]
theorem after11 (c : Dev nD) (t : Fin cfg0.N) : (dats m 0 c).after 11 t = (left m c t.val t.isLt).o11 := by dsimp only [dats]
theorem after12 (c : Dev nD) (t : Fin cfg0.N) : (dats m 0 c).after 12 t = (left m c t.val t.isLt).o12 := by dsimp only [dats]
theorem after13 (c : Dev nD) (t : Fin cfg0.N) : (dats m 0 c).after 13 t = (left m c t.val t.isLt).o13 := by dsimp only [dats]
theorem after14 (c : Dev nD) (t : Fin cfg0.N) : (dats m 0 c).after 14 t = (left m c t.val t.isLt).o14 := by dsimp only [dats]
theorem after15 (c : Dev nD) (t : Fin cfg0.N) : (dats m 0 c).after 15 t = (left m c t.val t.isLt).o15 := by dsimp only [dats]
theorem after16 (c : Dev nD) (t : Fin cfg0.N) : (dats m 0 c).after 16 t = (left m c t.val t.isLt).o16 := by dsimp only [dats]
theorem after17 (c : Dev nD) (t : Fin cfg0.N) : (dats m 0 c).after 17 t = (left m c t.val t.isLt).o17 := by dsimp only [dats]
theorem after18 (c : Dev nD) (t : Fin cfg0.N) : (dats m 0 c).after 18 t = (left m c t.val t.isLt).o18 := by dsimp only [dats]
theorem after19 (c : Dev nD) (t : Fin cfg0.N) : (dats m 0 c).after 19 t = (left m c t.val t.isLt).o19 := by dsimp only [dats]
theorem after20 (c : Dev nD) (t : Fin cfg0.N) : (dats m 0 c).after 20 t = (left m c t.val t.isLt).o20 := by dsimp only [dats]
theorem after21 (c : Dev nD) (t : Fin cfg0.N) : (dats m 0 c).after 21 t = (left m c t.val t.isLt).o21 := by dsimp only [dats]
theorem after22 (c : Dev nD) (t : Fin cfg0.N) : (dats m 0 c).after 22 t = (left m c t.val t.isLt).o22 := by dsimp only [dats]
theorem after23 (c : Dev nD) (t : Fin cfg0.N) : (dats m 0 c).after 23 t = (left m c t.val t.isLt).o23 := by dsimp only [dats]
theorem after24 (c : Dev nD) (t : Fin cfg0.N) : (dats m 0 c).after 24 t = (left m c t.val t.isLt).o24 := by dsimp only [dats]
theorem after25 (c : Dev nD) (t : Fin cfg0.N) : (dats m 0 c).after 25 t = (left m c t.val t.isLt).o25 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before21 (c : Dev nD) (t : Fin cfg0.N) (h0 : ¬t.val % 64 = 0) (d) :
    (dats m 0 c).before 21 t d = (left m c (t.val - 1) (Nat.lt_of_le_of_lt (Nat.sub_le _ _) t.isLt)).o21 := by
  have hN : t.val < 64 := lt_of_lt_of_eq t.isLt (show cfg0.N = 64 from N_0)
  rw [Dat.before_out_kept _ 21 rfl t (by omega) (Bool.eq_false_iff.mpr fun h => by have := (flush0_21 _).mp h; dsimp only at this; omega)
    (fun _ => rfl) (fun _ _ => rfl)]
  dsimp only [dats]
theorem before22 (c : Dev nD) (t : Fin cfg0.N) (h0 : ¬t.val % 64 = 0) (d) :
    (dats m 0 c).before 22 t d = (left m c (t.val - 1) (Nat.lt_of_le_of_lt (Nat.sub_le _ _) t.isLt)).o22 := by
  have hN : t.val < 64 := lt_of_lt_of_eq t.isLt (show cfg0.N = 64 from N_0)
  rw [Dat.before_out_kept _ 22 rfl t (by omega) (Bool.eq_false_iff.mpr fun h => by have := (flush0_22 _).mp h; dsimp only at this; omega)
    (fun _ => rfl) (fun _ _ => rfl)]
  dsimp only [dats]
theorem before23 (c : Dev nD) (t : Fin cfg0.N) (h0 : ¬t.val % 64 = 0) (d) :
    (dats m 0 c).before 23 t d = (left m c (t.val - 1) (Nat.lt_of_le_of_lt (Nat.sub_le _ _) t.isLt)).o23 := by
  have hN : t.val < 64 := lt_of_lt_of_eq t.isLt (show cfg0.N = 64 from N_0)
  rw [Dat.before_out_kept _ 23 rfl t (by omega) (Bool.eq_false_iff.mpr fun h => by have := (flush0_23 _).mp h; dsimp only at this; omega)
    (fun _ => rfl) (fun _ _ => rfl)]
  dsimp only [dats]
theorem before24 (c : Dev nD) (t : Fin cfg0.N) (h0 : ¬t.val % 64 = 0) (d) :
    (dats m 0 c).before 24 t d = (left m c (t.val - 1) (Nat.lt_of_le_of_lt (Nat.sub_le _ _) t.isLt)).o24 := by
  have hN : t.val < 64 := lt_of_lt_of_eq t.isLt (show cfg0.N = 64 from N_0)
  rw [Dat.before_out_kept _ 24 rfl t (by omega) (Bool.eq_false_iff.mpr fun h => by have := (flush0_24 _).mp h; dsimp only at this; omega)
    (fun _ => rfl) (fun _ _ => rfl)]
  dsimp only [dats]
theorem before25 (c : Dev nD) (t : Fin cfg0.N) (h0 : ¬t.val % 64 = 0) (d) :
    (dats m 0 c).before 25 t d = (left m c (t.val - 1) (Nat.lt_of_le_of_lt (Nat.sub_le _ _) t.isLt)).o25 := by
  have hN : t.val < 64 := lt_of_lt_of_eq t.isLt (show cfg0.N = 64 from N_0)
  rw [Dat.before_out_kept _ 25 rfl t (by omega) (Bool.eq_false_iff.mpr fun h => by have := (flush0_25 _).mp h; dsimp only at this; omega)
    (fun _ => rfl) (fun _ _ => rfl)]
  dsimp only [dats]

/-- What the body is called with at a point, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t))

/-- Pieces that tile a buffer, written over anything, leave what they leave over any other buffer of that shape. -/
theorem owns_written (c : Dev nD) {S : Shape} {e : EltTy} (M : Memref sig .tc .vmem S e) (v : View sig .tc .vmem S e) (L : List (View.Piece (Elt F) S e)) (n : Fin S.rank → ℕ)
    (h : View.Piece.tiledL L n = true) (f : Buf (Elt F) (M.view.loc (c : Thread nD τ))) :
    (M.view.loc (c : Thread nD τ) ↦[M.view.set]{fullShare} M.view.writes (Elt F) f L : sProp 𝕄)
      ⊢ owns (c : Thread nD τ) M fullShare (v.read (Elt F) (v.writes (Elt F) v.junk L)) := by
  iintro H
  unfold owns; iexists _; isplitr
  swap; · iexact H
  ipureintro; exact View.read_writes_of_cover _ _ _ _ _ (View.cover_of_tiledL L n h)

/-- A buffer held at some contents is owned at what they read. -/
theorem owns_some (c : Dev nD) {S : Shape} {e : EltTy} (M : Memref sig .tc .vmem S e) (f : Buf (Elt F) (M.view.loc (c : Thread nD τ))) :
    (M.view.loc (c : Thread nD τ) ↦[M.view.set]{fullShare} f : sProp 𝕄) ⊢ iprop(∃ d, owns (c : Thread nD τ) M fullShare d) := by
  iintro H
  iexists _; unfold owns; iexists _; isplitr
  swap; · iexact H
  ipureintro; rfl

end Mixer

end
-- ==== Proof.Mixer.Holds.lean ====
/-
  What a point is given and what it leaves, in the model's terms.
-/
module

public import proofs.«01_k».proof.Proof.Mixer.Stage
public import proofs.«01_k».proof.Proof.Mixer.Left

@[expose] public section

set_option maxRecDepth 16384

noncomputable section

namespace Mixer

open Idealize.ShloMosaic Idealize.ShloMosaic.TcCoe Idealize.ShloMosaic.Tactic Idealize.SL.Sem
open Cert.KernelIdeal Cert.KernelIdeal.Gen

variable (m : (ℓ : Loc nD τ sig) → Buf (Elt Ideal) ℓ)

/-- The blocks of a point are the rows of its 256 tokens and the weights. -/
structure Given (c : Dev nD) (t : Fin cfg0.N) (W : Weights) (P : Fin 256 → Token) : Prop where
  a : iblk m c 0 t = rows Token.a P
  y : iblk m c 1 t = rows Token.y P
  x : iblk m c 2 t = rows Token.x P
  tg : iblk m c 3 t = rows Token.tg P
  b : iblk m c 4 t = row W.b
  ga : iblk m c 5 t = row W.ga
  gs : iblk m c 6 t = row W.gs
  g2 : iblk m c 7 t = row W.g2
  wg : iblk m c 8 t = rl W.wg
  wo : iblk m c 9 t = rl W.wo

/-- The outputs are the rows of the model's quantities and the five running sums. -/
structure Holds (L : Left Ideal) (W : Weights) (P : Fin 256 → Token) (l21 : Fin 1024 → ℝ) (l22 : ℝ) (l23 l24 l25 : Fin 512 → ℝ) : Prop where
  o10 : L.o10 = rows (dx2 W) P
  o11 : L.o11 = rows (hdn W) P
  o12 : L.o12 = rows (dup W) P
  o13 : L.o13 = rows (hh W) P
  o14 : L.o14 = rows (dy W) P
  o15 : L.o15 = rows (mix W) P
  o16 : L.o16 = rows z P
  o17 : L.o17 = rows (dattn W) P
  o18 : L.o18 = rows (dyv W) P
  o19 : L.o19 = rows (dx2 W) P
  o20 : L.o20 = rows (dgp W) P
  o21 : L.o21 = row l21
  o22 : L.o22 = row fun _ => l22
  o23 : L.o23 = row l23
  o24 : L.o24 = row l24
  o25 : L.o25 = row l25

theorem whole_u (X : S1024x4096.Idx → EReal) : View.read (s := S1024x4096) (e := .bf16) (Elt Ideal) (View.whole main_v6) X = X := rfl
theorem back_u' (h : (Memref.whole cc0_scratch0).IsWhole) (X : S1024x4096.Idx → EReal) :
    View.read (s := S1024x4096) (e := .bf16) (Elt Ideal) (View.whole cc0_scratch0) (h.unread X) = X := read_unread_whole (Val := Elt Ideal) _ h X
theorem whole_d (X : S4096x1024.Idx → EReal) : View.read (s := S4096x1024) (e := .bf16) (Elt Ideal) (View.whole main_v7) X = X := rfl
theorem back_d' (h : (Memref.whole cc0_scratch1).IsWhole) (X : S4096x1024.Idx → EReal) :
    View.read (s := S4096x1024) (e := .bf16) (Elt Ideal) (View.whole cc0_scratch1) (h.unread X) = X := read_unread_whole (Val := Elt Ideal) _ h X

end Mixer

end
-- ==== Proof.Mixer.Reference.lean ====
/-
  What each step of the reference computes on real arrays, element by element, and that its results are the token-wise
  mathematics of `Model`.
-/
module

public import proofs.«01_k».proof.Proof.Mixer.Lift
public import proofs.«01_k».proof.Proof.Gen.ReferenceIdeal.Run

@[expose] public section

set_option maxRecDepth 16384

noncomputable section

namespace Mixer.Ref

open Idealize.ShloMosaic Idealize.ShloMosaic.TcCoe Idealize.SL.Sem
open Idealize.ShloMosaic.StableHlo
open Cert.ReferenceIdeal Cert.ReferenceIdeal.Gen Cert.ReferenceIdeal.Value Mixer

/-- A rank-one array of extended reals whose elements are real. -/
def r1 {a : ℕ} (f : Fin a → ℝ) : (⟨1, ![a]⟩ : Shape).Idx → EReal := fun i => ((f (i 0) : ℝ) : EReal)

theorem r1_at {a : ℕ} (f : Fin a → ℝ) (i : Fin a) : r1 f (ix1 i) = ((f i : ℝ) : EReal) := rfl

theorem r1_ext {a : ℕ} {X : (⟨1, ![a]⟩ : Shape).Idx → EReal} {f : Fin a → ℝ}
    (h : ∀ i, X (ix1 i) = ((f i : ℝ) : EReal)) : X = r1 f := by
  funext i; rw [eq_ix1 i]; exact h _

/-- What the reference's gradient of a norm adds twice: `e` is the gradient times the gain. -/
def back {n : ℕ} (e v : Fin n → ℝ) : ℝ := (∑ k, v k * e k) * (-(1 / 2) * (rms v / msq v)) / n

theorem rms_cube {n : ℕ} (v : Fin n → ℝ) : rms v / msq v = rms v * (rms v * rms v) := by
  have h := msq_pos v
  have : rms v * rms v = (msq v)⁻¹ := by rw [rms, ← mul_inv, Real.mul_self_sqrt h.le]
  rw [this, div_eq_mul_inv]

theorem bwd_eq {n : ℕ} (d v g : Fin n → ℝ) (j : Fin n) :
    nrmBwd d v g j = d j * g j * rms v + v j * back (fun k => d k * g k) v + back (fun k => d k * g k) v * v j := by
  have hs : ∑ k, d k * g k * (v k * rms v) = rms v * ∑ k, v k * (d k * g k) := by
    rw [Finset.mul_sum]; exact Finset.sum_congr rfl fun k _ => by ring
  rw [nrmBwd, back, rms_cube, hs]; ring

variable (V0 : Valuation τ sig (Elt Ideal)) (W : Weights) (T : Fin 16384 → Token)

/-- The arguments are these real arrays. -/
structure Inputs : Prop where
  a : V0 (Proc.devRef .tc main_arg0) = rl fun i j => (T i).a j
  y : V0 (Proc.devRef .tc main_arg1) = rl fun i j => (T i).y j
  x : V0 (Proc.devRef .tc main_arg2) = rl fun i j => (T i).x j
  tg : V0 (Proc.devRef .tc main_arg3) = rl fun i j => (T i).tg j
  wg : V0 (Proc.devRef .tc main_arg4) = rl W.wg
  b : V0 (Proc.devRef .tc main_arg5) = r1 W.b
  ga : V0 (Proc.devRef .tc main_arg6) = r1 W.ga
  gs : V0 (Proc.devRef .tc main_arg7) = r1 W.gs
  wo : V0 (Proc.devRef .tc main_arg8) = rl W.wo
  g2 : V0 (Proc.devRef .tc main_arg9) = r1 W.g2
  wu : V0 (Proc.devRef .tc main_arg10) = rl W.wu
  wd : V0 (Proc.devRef .tc main_arg11) = rl W.wd

variable {V0 W T}
variable (H : Inputs V0 W T)
include H

theorem v12 : res_main_v12 V0 = rl (fun i j => gelT ((T i).y j)) := by
  refine rl_ext fun i j => ?_
  simp only [res_main_v12, H.y, res_main_v1]
  pointwise
  simp only [rl_at, r1_at, lits, lift, coe_sum, zero_add]
  simp only [gelT]; norm_num

theorem v21 : res_main_v21 V0 = rl (fun i j => 1 / 2 * (1 + gelT ((T i).y j))) := by
  refine rl_ext fun i j => ?_
  simp only [res_main_v21, v12 H]
  pointwise
  simp only [rl_at, r1_at, lits, lift, coe_sum, zero_add]

theorem v22 : res_main_v22 V0 = rl (fun i j => z (T i) j) := by
  refine rl_ext fun i j => ?_
  simp only [res_main_v22, v21 H, H.y]
  pointwise
  simp only [rl_at, r1_at, lits, lift, coe_sum, zero_add]
  rfl

theorem v30 : res_main_v30 V0 = rl (fun i j => sg W (T i) j) := by
  refine rl_ext fun i j => ?_
  simp only [res_main_v30, v22 H, H.wg, H.b]
  pointwise
  simp only [rl_at, r1_at, lits, lift, coe_sum, zero_add]
  simp only [sg, one_div]

theorem v34 : res_main_v34 V0 = rl (fun i j => s W (T i) j) := by
  refine rl_ext fun i j => ?_
  simp only [res_main_v34, v22 H, v30 H]
  pointwise
  simp only [rl_at, r1_at, lits, lift, coe_sum, zero_add]
  rfl

theorem v41 : res_main_v41 V0 = rl (fun i (_ : Fin 1) => msq (T i).a) := by
  refine rl_ext fun i j => ?_
  simp only [res_main_v41, H.a]
  pointwise
  simp only [rl_at, r1_at, lits, lift, coe_sum, zero_add]
  simp only [msq]; norm_num

theorem v42 : res_main_v42 V0 = rl (fun i (_ : Fin 1) => rms (T i).a) := by
  refine rl_ext fun i j => ?_
  simp only [res_main_v42, v41 H]
  pointwise
  simp only [rl_at, r1_at, lits, lift, coe_sum, zero_add]
  exact rsqrt_msq _

theorem v47 : res_main_v47 V0 = rl (fun i j => (T i).a j * rms (T i).a) := by
  refine rl_ext fun i j => ?_
  simp only [res_main_v47, v42 H, H.a]
  pointwise
  simp only [rl_at, r1_at, lits, lift, coe_sum, zero_add]

theorem v48 : res_main_v48 V0 = rl (fun (_ : Fin 1) j => W.ga j) := by
  refine rl_ext fun i j => ?_
  simp only [res_main_v48, H.ga]
  pointwise
  simp only [rl_at, r1_at, lits, lift, coe_sum, zero_add]

theorem v57 : res_main_v57 V0 = rl (fun i (_ : Fin 1) => msq (s W (T i))) := by
  refine rl_ext fun i j => ?_
  simp only [res_main_v57, v34 H]
  pointwise
  simp only [rl_at, r1_at, lits, lift, coe_sum, zero_add]
  simp only [msq]; norm_num

theorem v58 : res_main_v58 V0 = rl (fun i (_ : Fin 1) => rms (s W (T i))) := by
  refine rl_ext fun i j => ?_
  simp only [res_main_v58, v57 H]
  pointwise
  simp only [rl_at, r1_at, lits, lift, coe_sum, zero_add]
  exact rsqrt_msq _

theorem v63 : res_main_v63 V0 = rl (fun i j => s W (T i) j * rms (s W (T i))) := by
  refine rl_ext fun i j => ?_
  simp only [res_main_v63, v58 H, v34 H]
  pointwise
  simp only [rl_at, r1_at, lits, lift, coe_sum, zero_add]

theorem v64 : res_main_v64 V0 = rl (fun (_ : Fin 1) j => W.gs j) := by
  refine rl_ext fun i j => ?_
  simp only [res_main_v64, H.gs]
  pointwise
  simp only [rl_at, r1_at, lits, lift, coe_sum, zero_add]

theorem v67 : res_main_v67 V0 = rl (fun i j => mix W (T i) j) := by
  refine rl_ext fun i j => ?_
  simp only [res_main_v67, v47 H, v48 H, v63 H, v64 H]
  pointwise
  simp only [rl_at, r1_at, lits, lift, coe_sum, zero_add]
  unfold mix; split <;> rfl

theorem v69 : res_main_v69 V0 = rl (fun i j => x2 W (T i) j) := by
  refine rl_ext fun i j => ?_
  simp only [res_main_v69, v67 H, H.x, H.wo]
  pointwise
  simp only [rl_at, r1_at, lits, lift, coe_sum, zero_add]
  rfl

theorem v76 : res_main_v76 V0 = rl (fun i (_ : Fin 1) => msq (x2 W (T i))) := by
  refine rl_ext fun i j => ?_
  simp only [res_main_v76, v69 H]
  pointwise
  simp only [rl_at, r1_at, lits, lift, coe_sum, zero_add]
  simp only [msq]; norm_num

theorem v77 : res_main_v77 V0 = rl (fun i (_ : Fin 1) => rms (x2 W (T i))) := by
  refine rl_ext fun i j => ?_
  simp only [res_main_v77, v76 H]
  pointwise
  simp only [rl_at, r1_at, lits, lift, coe_sum, zero_add]
  exact rsqrt_msq _

theorem v82 : res_main_v82 V0 = rl (fun i j => x2 W (T i) j * rms (x2 W (T i))) := by
  refine rl_ext fun i j => ?_
  simp only [res_main_v82, v77 H, v69 H]
  pointwise
  simp only [rl_at, r1_at, lits, lift, coe_sum, zero_add]

theorem v83 : res_main_v83 V0 = rl (fun (_ : Fin 1) j => W.g2 j) := by
  refine rl_ext fun i j => ?_
  simp only [res_main_v83, H.g2]
  pointwise
  simp only [rl_at, r1_at, lits, lift, coe_sum, zero_add]

theorem v85 : res_main_v85 V0 = rl (fun i j => hh W (T i) j) := by
  refine rl_ext fun i j => ?_
  simp only [res_main_v85, v82 H, v83 H]
  pointwise
  simp only [rl_at, r1_at, lits, lift, coe_sum, zero_add]
  rfl

theorem v86 : res_main_v86 V0 = rl (fun i j => up W (T i) j) := by
  refine rl_ext fun i j => ?_
  simp only [res_main_v86, v85 H, H.wu]
  pointwise
  simp only [rl_at, r1_at, lits, lift, coe_sum, zero_add]
  rfl

theorem v87 : res_main_v87 V0 = rl (fun i j => ru W (T i) j) := by
  refine rl_ext fun i j => ?_
  simp only [res_main_v87, v86 H]
  pointwise
  simp only [rl_at, r1_at, lits, lift, coe_sum, zero_add]
  rfl

theorem v91 : res_main_v91 V0 = rl (fun i j => hdn W (T i) j) := by
  refine rl_ext fun i j => ?_
  simp only [res_main_v91, v87 H]
  pointwise
  simp only [rl_at, r1_at, lits, lift, coe_sum, zero_add]
  rfl

theorem v96 : res_main_v96 V0 = rl (fun i j => err W (T i) j) := by
  refine rl_ext fun i j => ?_
  simp only [res_main_v96, v91 H, v69 H, H.wd, H.tg]
  pointwise
  simp only [rl_at, r1_at, lits, lift, coe_sum, zero_add]
  rfl

theorem v110 : res_main_v110 V0 = rl (fun i j => dy W (T i) j) := by
  refine rl_ext fun i j => ?_
  simp only [res_main_v110, v96 H]
  pointwise
  simp only [rl_at, r1_at, lits, lift, coe_sum, zero_add]
  rw [dy]; congr 1; ring

theorem v114 : res_main_v114 V0 = rl (fun i j => dup W (T i) j) := by
  refine rl_ext fun i j => ?_
  simp only [res_main_v114, v110 H, v86 H, v87 H, H.wd]
  pointwise
  simp only [rl_at, r1_at, lits, lift, coe_sum, zero_add]
  by_cases h : 0 < up W (T i) j
  · rw [if_pos (EReal.coe_lt_coe_iff.mpr h)]; rfl
  · rw [if_neg fun h' => h (EReal.coe_lt_coe_iff.mp h'), dup, ru, max_eq_right (not_lt.mp h)]; norm_num

theorem v115 : res_main_v115 V0 = rl (fun i j => dh W (T i) j) := by
  refine rl_ext fun i j => ?_
  simp only [res_main_v115, v114 H, H.wu]
  pointwise
  simp only [rl_at, r1_at, lits, lift, coe_sum, zero_add]
  rfl

theorem v120 : res_main_v120 V0 = rl (fun i j => dh W (T i) j * W.g2 j) := by
  refine rl_ext fun i j => ?_
  simp only [res_main_v120, v115 H, v83 H]
  pointwise
  simp only [rl_at, r1_at, lits, lift, coe_sum, zero_add]

theorem v131 : res_main_v131 V0 = rl (fun i j => back (fun k => dh W (T i) k * W.g2 k) (x2 W (T i))) := by
  refine rl_ext fun i j => ?_
  simp only [res_main_v131, v69 H, v120 H, v77 H, v76 H]
  pointwise
  simp only [rl_at, r1_at, lits, lift, coe_sum, zero_add]
  rw [div_real (msq_pos _).ne']
  simp only [lift, back]
  norm_num

theorem v136 : res_main_v136 V0 = rl (fun i j => dx2 W (T i) j) := by
  refine rl_ext fun i j => ?_
  simp only [res_main_v136, v110 H, v120 H, v77 H, v69 H, v131 H]
  pointwise
  simp only [rl_at, r1_at, lits, lift, coe_sum, zero_add]
  rw [dx2, bwd_eq]

theorem v137 : res_main_v137 V0 = rl (fun i j => dmix W (T i) j) := by
  refine rl_ext fun i j => ?_
  simp only [res_main_v137, v136 H, H.wo]
  pointwise
  simp only [rl_at, r1_at, lits, lift, coe_sum, zero_add]
  rfl

theorem v138 : res_main_v138 V0 = rl (fun i j => dan W (T i) j) := by
  refine rl_ext fun i j => ?_
  simp only [res_main_v138, v137 H]
  pointwise
  simp only [rl_at, r1_at, lits, lift, coe_sum, zero_add]
  rfl

theorem v139 : res_main_v139 V0 = rl (fun i j => dsn W (T i) j) := by
  refine rl_ext fun i j => ?_
  simp only [res_main_v139, v137 H]
  pointwise
  simp only [rl_at, r1_at, lits, lift, coe_sum, zero_add]
  rfl

theorem v144 : res_main_v144 V0 = rl (fun i j => dsn W (T i) j * W.gs j) := by
  refine rl_ext fun i j => ?_
  simp only [res_main_v144, v139 H, v64 H]
  pointwise
  simp only [rl_at, r1_at, lits, lift, coe_sum, zero_add]

theorem v155 : res_main_v155 V0 = rl (fun i j => back (fun k => dsn W (T i) k * W.gs k) (s W (T i))) := by
  refine rl_ext fun i j => ?_
  simp only [res_main_v155, v34 H, v144 H, v58 H, v57 H]
  pointwise
  simp only [rl_at, r1_at, lits, lift, coe_sum, zero_add]
  rw [div_real (msq_pos _).ne']
  simp only [lift, back]
  norm_num

theorem v159 : res_main_v159 V0 = rl (fun i j => ds W (T i) j) := by
  refine rl_ext fun i j => ?_
  simp only [res_main_v159, v144 H, v58 H, v34 H, v155 H]
  pointwise
  simp only [rl_at, r1_at, lits, lift, coe_sum, zero_add]
  rw [ds, bwd_eq]

theorem v164 : res_main_v164 V0 = rl (fun i j => dan W (T i) j * W.ga j) := by
  refine rl_ext fun i j => ?_
  simp only [res_main_v164, v138 H, v48 H]
  pointwise
  simp only [rl_at, r1_at, lits, lift, coe_sum, zero_add]

theorem v175 : res_main_v175 V0 = rl (fun i j => back (fun k => dan W (T i) k * W.ga k) (T i).a) := by
  refine rl_ext fun i j => ?_
  simp only [res_main_v175, H.a, v164 H, v42 H, v41 H]
  pointwise
  simp only [rl_at, r1_at, lits, lift, coe_sum, zero_add]
  rw [div_real (msq_pos _).ne']
  simp only [lift, back]
  norm_num

theorem v182 : res_main_v182 V0 = rl (fun i j => dgp W (T i) j) := by
  refine rl_ext fun i j => ?_
  simp only [res_main_v182, v22 H, v159 H, v30 H]
  pointwise
  simp only [rl_at, r1_at, lits, lift, coe_sum, zero_add]
  rw [dgp]; congr 1; ring

theorem v184 : res_main_v184 V0 = rl (fun i j => ds W (T i) j * sg W (T i) j + ∑ k, dgp W (T i) k * W.wg j k) := by
  refine rl_ext fun i j => ?_
  simp only [res_main_v184, v159 H, v30 H, v182 H, H.wg]
  pointwise
  simp only [rl_at, r1_at, lits, lift, coe_sum, zero_add]

theorem v191 : res_main_v191 V0 = rl (fun i j => geluC * (1 / 2 * ((T i).y j * (ds W (T i) j * sg W (T i) j + ∑ k, dgp W (T i) k * W.wg j k)) * ((1 + gelT ((T i).y j)) * (1 - gelT ((T i).y j))))) := by
  refine rl_ext fun i j => ?_
  simp only [res_main_v191, H.y, v184 H, v12 H]
  pointwise
  simp only [rl_at, r1_at, lits, lift, coe_sum, zero_add]

theorem v179 : (addf (addf (mulf (res_main_v164 V0) (broadcastInDim S16384x512 ![0, 1] bcast_S16384x1_S16384x512_0_1 (res_main_v42 V0))) (mulf (V0 (Proc.devRef .tc main_arg0)) (res_main_v175 V0))) (mulf (res_main_v175 V0) (V0 (Proc.devRef .tc main_arg0))) : S16384x512.Idx → EReal) = rl (fun i j => dattn W (T i) j) := by
  refine rl_ext fun i j => ?_
  simp only [v164 H, v42 H, H.a, v175 H]
  pointwise
  simp only [rl_at, r1_at, lits, lift, coe_sum, zero_add]
  rw [dattn, bwd_eq]

theorem v196 : (addf (addf (mulf (res_main_v184 V0) (res_main_v21 V0)) (res_main_v191 V0)) (mulf (mulf (broadcastInDim S16384x512 ![] bcast_S_S16384x512 (res_main_v1 V0)) (res_main_v191 V0)) (mulf (broadcastInDim S16384x512 ![] bcast_S_S16384x512 (constant S_ .f32 0x40400000#32)) (mulf (V0 (Proc.devRef .tc main_arg1)) (V0 (Proc.devRef .tc main_arg1))))) : S16384x512.Idx → EReal) = rl (fun i j => dyv W (T i) j) := by
  refine rl_ext fun i j => ?_
  simp only [v184 H, v21 H, v191 H, H.y, res_main_v1]
  pointwise
  simp only [rl_at, r1_at, lits, lift, coe_sum, zero_add]
  rw [dyv, gelD]; congr 1; ring

theorem v206 : (shapeCast _ (Host.reduceAdd (shapeCast _ (Host.reduceAdd (mulf (res_main_v82 V0) (res_main_v115 V0)) (constant S_ .f32 0x00000000#32) reducesTo_S16384x1024_S1024_d0 h_S_) shapeCasts_S1024_S1x1024) (constant S_ .f32 0x00000000#32) reducesTo_S1x1024_S1024_d0 h_S_) shapeCasts_S1024_S1x1024 : S1x1024.Idx → EReal) = rl (fun (_ : Fin 1) j => ∑ i, tg2 W (T i) j) := by
  refine rl_ext fun i j => ?_
  simp only [v82 H, v115 H]
  pointwise
  simp only [rl_at, r1_at, lits, lift, coe_sum, zero_add]
  rw [Fin.sum_univ_one]; exact congrArg Real.toEReal (Finset.sum_congr rfl fun i _ => by rw [tg2]; ring)

theorem v207 : (broadcastInDim S1x128 ![] bcast_S_S1x128 (mulf (constant S_ .f32 0x3F000000#32) (Host.reduceAdd (Host.divf (Host.reduceAdd (mulf (res_main_v96 V0) (res_main_v96 V0)) (constant S_ .f32 0x00000000#32) reducesTo_S16384x1024_S16384_d1 h_S_) (broadcastInDim S16384 ![] bcast_S_S16384 (constant S_ .f32 0x44800000#32))) (constant S_ .f32 0x00000000#32) reducesTo_S16384_S_d0 h_S_)) : S1x128.Idx → EReal) = rl (fun (_ : Fin 1) j => ∑ i, loss W (T i)) := by
  refine rl_ext fun i j => ?_
  simp only [v96 H]
  pointwise
  simp only [rl_at, r1_at, lits, lift, coe_sum, zero_add]
  rw [Finset.mul_sum]; exact congrArg Real.toEReal (Finset.sum_congr rfl fun i _ => by rw [loss]; ring)

theorem v208 : (shapeCast _ (Host.reduceAdd (shapeCast _ (Host.reduceAdd (mulf (res_main_v47 V0) (res_main_v138 V0)) (constant S_ .f32 0x00000000#32) reducesTo_S16384x512_S512_d0 h_S_) shapeCasts_S512_S1x512) (constant S_ .f32 0x00000000#32) reducesTo_S1x512_S512_d0 h_S_) shapeCasts_S512_S1x512 : S1x512.Idx → EReal) = rl (fun (_ : Fin 1) j => ∑ i, tga W (T i) j) := by
  refine rl_ext fun i j => ?_
  simp only [v47 H, v138 H]
  pointwise
  simp only [rl_at, r1_at, lits, lift, coe_sum, zero_add]
  rw [Fin.sum_univ_one]; exact congrArg Real.toEReal (Finset.sum_congr rfl fun i _ => by rw [tga]; ring)

theorem v209 : (shapeCast _ (Host.reduceAdd (shapeCast _ (Host.reduceAdd (mulf (res_main_v63 V0) (res_main_v139 V0)) (constant S_ .f32 0x00000000#32) reducesTo_S16384x512_S512_d0 h_S_) shapeCasts_S512_S1x512) (constant S_ .f32 0x00000000#32) reducesTo_S1x512_S512_d0 h_S_) shapeCasts_S512_S1x512 : S1x512.Idx → EReal) = rl (fun (_ : Fin 1) j => ∑ i, tgs W (T i) j) := by
  refine rl_ext fun i j => ?_
  simp only [v63 H, v139 H]
  pointwise
  simp only [rl_at, r1_at, lits, lift, coe_sum, zero_add]
  rw [Fin.sum_univ_one]; exact congrArg Real.toEReal (Finset.sum_congr rfl fun i _ => by rw [tgs]; ring)

theorem v210 : (shapeCast _ (Host.reduceAdd (res_main_v182 V0) (constant S_ .f32 0x00000000#32) reducesTo_S16384x512_S512_d0 h_S_) shapeCasts_S512_S1x512 : S1x512.Idx → EReal) = rl (fun (_ : Fin 1) j => ∑ i, dgp W (T i) j) := by
  refine rl_ext fun i j => ?_
  simp only [v182 H]
  pointwise
  simp only [rl_at, r1_at, lits, lift, coe_sum, zero_add]

set_option maxHeartbeats 1000000 in
omit H in
/-- The run of the reference on real arrays. -/
theorem run (m : (ℓ : Loc nD τ sig) → Buf (Elt Ideal) ℓ) (ρ : Dev nD → PrngReg) (W : Dev nD → Weights) (T : Dev nD → Fin 16384 → Token)
    (H : ∀ c, Inputs (launchContents m c) (W c) (T c)) :
    θ_run defs (onTc (τ := τ) (main (F := Ideal))) ⟨m, fun _ => 0, ρ⟩ fun r => ∀ c : Dev nD,
      r.2.mem ((c.tc : Thread nD τ).loc main_v136) = (rl fun i j => dx2 (W c) (T c i) j)
      ∧ r.2.mem ((c.tc : Thread nD τ).loc main_v198) = (rl fun i j => hdn (W c) (T c i) j)
      ∧ r.2.mem ((c.tc : Thread nD τ).loc main_v199) = (rl fun i j => dup (W c) (T c i) j)
      ∧ r.2.mem ((c.tc : Thread nD τ).loc main_v200) = (rl fun i j => hh (W c) (T c i) j)
      ∧ r.2.mem ((c.tc : Thread nD τ).loc main_v201) = (rl fun i j => dy (W c) (T c i) j)
      ∧ r.2.mem ((c.tc : Thread nD τ).loc main_v202) = (rl fun i j => mix (W c) (T c i) j)
      ∧ r.2.mem ((c.tc : Thread nD τ).loc main_v203) = (rl fun i j => z (T c i) j)
      ∧ r.2.mem ((c.tc : Thread nD τ).loc main_v179) = (rl fun i j => dattn (W c) (T c i) j)
      ∧ r.2.mem ((c.tc : Thread nD τ).loc main_v196) = (rl fun i j => dyv (W c) (T c i) j)
      ∧ r.2.mem ((c.tc : Thread nD τ).loc main_v204) = (rl fun i j => dx2 (W c) (T c i) j)
      ∧ r.2.mem ((c.tc : Thread nD τ).loc main_v205) = (rl fun i j => dgp (W c) (T c i) j)
      ∧ r.2.mem ((c.tc : Thread nD τ).loc main_v206) = (rl fun (_ : Fin 1) j => ∑ i, tg2 (W c) (T c i) j)
      ∧ r.2.mem ((c.tc : Thread nD τ).loc main_v207) = (rl fun (_ : Fin 1) j => ∑ i, loss (W c) (T c i))
      ∧ r.2.mem ((c.tc : Thread nD τ).loc main_v208) = (rl fun (_ : Fin 1) j => ∑ i, tga (W c) (T c i) j)
      ∧ r.2.mem ((c.tc : Thread nD τ).loc main_v209) = (rl fun (_ : Fin 1) j => ∑ i, tgs (W c) (T c i) j)
      ∧ r.2.mem ((c.tc : Thread nD τ).loc main_v210) = (rl fun (_ : Fin 1) j => ∑ i, dgp (W c) (T c i) j) := by
  refine (θ_run defs _ _).mono (fun r h c => ?_) (Value.run m ρ)
  obtain ⟨h0, h1, h2, h3, h4, h5, h6, h7, h8, h9, h10, h11, h12, h13, h14, h15, -⟩ := h c
  have H := H c
  generalize launchContents m c = V0 at *
  exact ⟨h0.trans (v136 H), h1.trans (v91 H), h2.trans (v114 H), h3.trans (v85 H), h4.trans (v110 H), h5.trans (v67 H), h6.trans (v22 H), h7.trans (v179 H), h8.trans (v196 H), h9.trans (v136 H), h10.trans (v182 H), h11.trans (v206 H), h12.trans (v207 H), h13.trans (v208 H), h14.trans (v209 H), h15.trans (v210 H)⟩

end Mixer.Ref

end
-- ==== Proof.Mixer.Given.lean ====
/-
  The blocks of every point, from real launched arrays.
-/
module

public import proofs.«01_k».proof.Proof.Mixer.Holds
public import proofs.«01_k».proof.Proof.Mixer.Reference
public import Idealize.ShloMosaic.Lib.Pipeline.ValueKit

@[expose] public section

set_option maxRecDepth 16384

noncomputable section

namespace Mixer

open Idealize.ShloMosaic Idealize.ShloMosaic.TcCoe Idealize.ShloMosaic.Tactic Idealize.SL.Sem
open Idealize.ShloMosaic.Pipeline (Dat Cfg Window BodyObligation cellOf)
open Cert.KernelIdeal Cert.KernelIdeal.Gen

variable (m : (ℓ : Loc nD τ sig) → Buf (Elt Ideal) ℓ)

/-- The launched arrays are real: the weights and the 16384 tokens. -/
structure Launched (c : Dev nD) (W : Weights) (T : Fin 16384 → Token) : Prop where
  a : m ((c : Thread nD τ).loc main_arg0) = rl fun i j => (T i).a j
  y : m ((c : Thread nD τ).loc main_arg1) = rl fun i j => (T i).y j
  x : m ((c : Thread nD τ).loc main_arg2) = rl fun i j => (T i).x j
  tg : m ((c : Thread nD τ).loc main_arg3) = rl fun i j => (T i).tg j
  wg : m ((c : Thread nD τ).loc main_arg4) = rl W.wg
  b : m ((c : Thread nD τ).loc main_arg5) = Mixer.Ref.r1 W.b
  ga : m ((c : Thread nD τ).loc main_arg6) = Mixer.Ref.r1 W.ga
  gs : m ((c : Thread nD τ).loc main_arg7) = Mixer.Ref.r1 W.gs
  wo : m ((c : Thread nD τ).loc main_arg8) = rl W.wo
  g2 : m ((c : Thread nD τ).loc main_arg9) = Mixer.Ref.r1 W.g2
  wu : m ((c : Thread nD τ).loc main_arg10) = rl W.wu
  wd : m ((c : Thread nD τ).loc main_arg11) = rl W.wd

/-- The tokens of a point. -/
def toks (T : Fin 16384 → Token) (t : Fin cfg0.N) (i : Fin 256) : Token :=
  T ⟨t.val * 256 + i.val, by have := lt_of_lt_of_eq t.isLt (show cfg0.N = 64 from N_0); omega⟩

/-- Where each point's blocks lie. -/
theorem blocks : ∀ t : Fin cfg0.N, win0_0.index t = ![t.val, 0] ∧ win0_1.index t = ![t.val, 0] ∧ win0_2.index t = ![t.val, 0] ∧ win0_3.index t = ![t.val, 0] ∧ win0_4.index t = ![0, 0] ∧ win0_5.index t = ![0, 0] ∧ win0_6.index t = ![0, 0] ∧ win0_7.index t = ![0, 0] ∧ win0_8.index t = ![0, 0] ∧ win0_9.index t = ![0, 0] :=
  (by decide +kernel : ∀ t : Fin grid0.N, _)

variable {m} {c : Dev nD} {W : Weights} {T : Fin 16384 → Token} (h : Launched m c W T)
include h

theorem wide_u : V m c main_v6 = rl W.wu := by
  refine rl_ext (a := 1024) (b := 4096) fun i j => ?_
  rw [← rl_at, ← h.wu]
  blk_point [V]
theorem wide_d : V m c main_v7 = rl W.wd := by
  refine rl_ext (a := 4096) (b := 1024) fun i j => ?_
  rw [← rl_at, ← h.wd]
  blk_point [V]

theorem blk_a (t : Fin cfg0.N) : iblk m c 0 t = rows Token.a (toks T t) := by
  refine rl_ext (a := 256) (b := 512) fun i j => ?_
  refine Eq.trans ?_ (congrFun h.a (ix2 ⟨t.val * 256 + i.val, by have := lt_of_lt_of_eq t.isLt (show cfg0.N = 64 from N_0); omega⟩ j))
  blk_point [iblk, V, blocks t]
theorem blk_y (t : Fin cfg0.N) : iblk m c 1 t = rows Token.y (toks T t) := by
  refine rl_ext (a := 256) (b := 512) fun i j => ?_
  refine Eq.trans ?_ (congrFun h.y (ix2 ⟨t.val * 256 + i.val, by have := lt_of_lt_of_eq t.isLt (show cfg0.N = 64 from N_0); omega⟩ j))
  blk_point [iblk, V, blocks t]
theorem blk_x (t : Fin cfg0.N) : iblk m c 2 t = rows Token.x (toks T t) := by
  refine rl_ext (a := 256) (b := 1024) fun i j => ?_
  refine Eq.trans ?_ (congrFun h.x (ix2 ⟨t.val * 256 + i.val, by have := lt_of_lt_of_eq t.isLt (show cfg0.N = 64 from N_0); omega⟩ j))
  blk_point [iblk, V, blocks t]
theorem blk_tg (t : Fin cfg0.N) : iblk m c 3 t = rows Token.tg (toks T t) := by
  refine rl_ext (a := 256) (b := 1024) fun i j => ?_
  refine Eq.trans ?_ (congrFun h.tg (ix2 ⟨t.val * 256 + i.val, by have := lt_of_lt_of_eq t.isLt (show cfg0.N = 64 from N_0); omega⟩ j))
  blk_point [iblk, V, blocks t]
theorem blk_b (t : Fin cfg0.N) : iblk m c 4 t = row W.b := by
  refine rl_ext (a := 1) (b := 512) fun i j => ?_
  refine Eq.trans ?_ (congrFun h.b (ix1 j))
  blk_point [iblk, V, blocks t]
theorem blk_ga (t : Fin cfg0.N) : iblk m c 5 t = row W.ga := by
  refine rl_ext (a := 1) (b := 512) fun i j => ?_
  refine Eq.trans ?_ (congrFun h.ga (ix1 j))
  blk_point [iblk, V, blocks t]
theorem blk_gs (t : Fin cfg0.N) : iblk m c 6 t = row W.gs := by
  refine rl_ext (a := 1) (b := 512) fun i j => ?_
  refine Eq.trans ?_ (congrFun h.gs (ix1 j))
  blk_point [iblk, V, blocks t]
theorem blk_g2 (t : Fin cfg0.N) : iblk m c 7 t = row W.g2 := by
  refine rl_ext (a := 1) (b := 1024) fun i j => ?_
  refine Eq.trans ?_ (congrFun h.g2 (ix1 j))
  blk_point [iblk, V, blocks t]
theorem blk_wg (t : Fin cfg0.N) : iblk m c 8 t = rl W.wg := by
  refine rl_ext (a := 512) (b := 512) fun i j => ?_
  refine Eq.trans ?_ (congrFun h.wg (ix2 i j))
  blk_point [iblk, V, blocks t]
theorem blk_wo (t : Fin cfg0.N) : iblk m c 9 t = rl W.wo := by
  refine rl_ext (a := 1024) (b := 1024) fun i j => ?_
  refine Eq.trans ?_ (congrFun h.wo (ix2 i j))
  blk_point [iblk, V, blocks t]

/-- A point is given its tokens' rows and the weights. -/
theorem given (t : Fin cfg0.N) : Given m c t W (toks T t) :=
  ⟨blk_a h t, blk_y h t, blk_x h t, blk_tg h t, blk_b h t, blk_ga h t, blk_gs h t, blk_g2 h t, blk_wg h t, blk_wo h t⟩

end Mixer

end
-- ==== Proof.Mixer.PointA.lean ====
/-
  What the first point leaves: it starts the five sums at zero.
-/
module

public import proofs.«01_k».proof.Proof.Mixer.Holds

@[expose] public section

set_option maxRecDepth 16384

noncomputable section

namespace Mixer

open Idealize.ShloMosaic Idealize.ShloMosaic.TcCoe Idealize.ShloMosaic.Tactic Idealize.SL.Sem
open Cert.KernelIdeal Cert.KernelIdeal.Gen

variable (m : (ℓ : Loc nD τ sig) → Buf (Elt Ideal) ℓ)

set_option maxHeartbeats 16000000 in
theorem pointA (c : Dev nD) (t : Fin cfg0.N) (h0 : t.val % 64 = 0) (W : Weights) (P : Fin 256 → Token) (g : Given m c t W P)
    (hu : V m c main_v6 = rl W.wu) (hd : V m c main_v7 = rl W.wd) :
    Holds (leftA m c t h0) W P (fun j => 0 + ∑ i, tg2 W (P i) j) (0 + ∑ i, loss W (P i)) (fun j => 0 + ∑ i, tga W (P i) j)
      (fun j => 0 + ∑ i, tgs W (P i) j) (fun j => 0 + ∑ i, dgp W (P i) j) := by
  constructor
  all_goals unfold leftA; dsimp only
  on_goal 1 => conv in (listsA m c t h0).l10 => whnf
  on_goal 2 => conv in (listsA m c t h0).l11 => whnf
  on_goal 3 => conv in (listsA m c t h0).l12 => whnf
  on_goal 4 => conv in (listsA m c t h0).l13 => whnf
  on_goal 5 => conv in (listsA m c t h0).l14 => whnf
  on_goal 6 => conv in (listsA m c t h0).l15 => whnf
  on_goal 7 => conv in (listsA m c t h0).l16 => whnf
  on_goal 8 => conv in (listsA m c t h0).l17 => whnf
  on_goal 9 => conv in (listsA m c t h0).l18 => whnf
  on_goal 10 => conv in (listsA m c t h0).l19 => whnf
  on_goal 11 => conv in (listsA m c t h0).l20 => whnf
  on_goal 12 => conv in (listsA m c t h0).l21 => whnf
  on_goal 13 => conv in (listsA m c t h0).l22 => whnf
  on_goal 14 => conv in (listsA m c t h0).l23 => whnf
  on_goal 15 => conv in (listsA m c t h0).l24 => whnf
  on_goal 16 => conv in (listsA m c t h0).l25 => whnf
  all_goals frame_out
  all_goals simp only [g.a, g.y, g.x, g.tg, g.b, g.ga, g.gs, g.g2, g.wg, g.wo, ReadAs.apply_same, whole_u, whole_d, hu, hd, back_u, back_d,
    ld_u0, ld_d0, ld_u1, ld_d1, ld_u2, ld_d2, ld_u3, ld_d3, ld_lo, ld_hi, back4_0, back4_1, back4_2, back4_3, back3_0,
    back3_1, back3_2, canon4, canon2, s17, s11, s12, s18, s19, s20, s21, s22, s23, s25, s28, s31, s35, s26, s29, s36, s32,
    s33, s30, s37, s38, s39, s40, s41, s42, s43, s44, s45, s46, s47, s48, s49, s51, s52, s53, s58, s62, s15, s14, s13, s16,
    s54, s56, s57, s55, s65, s66, s67, s68, s71, s72, s73, s74, s1, s63, s64, s70, s2, s3, s4, s5, s6, s7, s8, s9]

end Mixer

end
-- ==== Proof.Mixer.PointB.lean ====
/-
  What a later point leaves: it adds its tokens to the five sums.
-/
module

public import proofs.«01_k».proof.Proof.Mixer.Holds

@[expose] public section

set_option maxRecDepth 16384

noncomputable section

namespace Mixer

open Idealize.ShloMosaic Idealize.ShloMosaic.TcCoe Idealize.ShloMosaic.Tactic Idealize.SL.Sem
open Cert.KernelIdeal Cert.KernelIdeal.Gen

variable (m : (ℓ : Loc nD τ sig) → Buf (Elt Ideal) ℓ)

set_option maxHeartbeats 16000000 in
theorem pointB (c : Dev nD) (t : Fin cfg0.N) (h0 : ¬t.val % 64 = 0) (W : Weights) (P : Fin 256 → Token) (g : Given m c t W P)
    (p : Left Ideal) (W' : Weights) (P' : Fin 256 → Token) (l21 : Fin 1024 → ℝ) (l22 : ℝ) (l23 l24 l25 : Fin 512 → ℝ)
    (q : Holds p W' P' l21 l22 l23 l24 l25) :
    Holds (leftB m c t h0 p (rl W.wu) (rl W.wd)) W P (fun j => l21 j + ∑ i, tg2 W (P i) j) (l22 + ∑ i, loss W (P i))
      (fun j => l23 j + ∑ i, tga W (P i) j) (fun j => l24 j + ∑ i, tgs W (P i) j) (fun j => l25 j + ∑ i, dgp W (P i) j) := by
  constructor
  all_goals unfold leftB; dsimp only
  on_goal 1 => conv in (listsB m c t h0 p (rl W.wu) (rl W.wd)).l10 => whnf
  on_goal 2 => conv in (listsB m c t h0 p (rl W.wu) (rl W.wd)).l11 => whnf
  on_goal 3 => conv in (listsB m c t h0 p (rl W.wu) (rl W.wd)).l12 => whnf
  on_goal 4 => conv in (listsB m c t h0 p (rl W.wu) (rl W.wd)).l13 => whnf
  on_goal 5 => conv in (listsB m c t h0 p (rl W.wu) (rl W.wd)).l14 => whnf
  on_goal 6 => conv in (listsB m c t h0 p (rl W.wu) (rl W.wd)).l15 => whnf
  on_goal 7 => conv in (listsB m c t h0 p (rl W.wu) (rl W.wd)).l16 => whnf
  on_goal 8 => conv in (listsB m c t h0 p (rl W.wu) (rl W.wd)).l17 => whnf
  on_goal 9 => conv in (listsB m c t h0 p (rl W.wu) (rl W.wd)).l18 => whnf
  on_goal 10 => conv in (listsB m c t h0 p (rl W.wu) (rl W.wd)).l19 => whnf
  on_goal 11 => conv in (listsB m c t h0 p (rl W.wu) (rl W.wd)).l20 => whnf
  on_goal 12 => conv in (listsB m c t h0 p (rl W.wu) (rl W.wd)).l21 => whnf
  on_goal 13 => conv in (listsB m c t h0 p (rl W.wu) (rl W.wd)).l22 => whnf
  on_goal 14 => conv in (listsB m c t h0 p (rl W.wu) (rl W.wd)).l23 => whnf
  on_goal 15 => conv in (listsB m c t h0 p (rl W.wu) (rl W.wd)).l24 => whnf
  on_goal 16 => conv in (listsB m c t h0 p (rl W.wu) (rl W.wd)).l25 => whnf
  all_goals frame_out
  all_goals simp only [g.a, g.y, g.x, g.tg, g.b, g.ga, g.gs, g.g2, g.wg, g.wo, back_u', back_d', q.o21, q.o22, q.o23, q.o24, q.o25, back_u,
    back_d, ld_u0, ld_d0, ld_u1, ld_d1, ld_u2, ld_d2, ld_u3, ld_d3, ld_lo, ld_hi, back4_0, back4_1, back4_2, back4_3,
    back3_0, back3_1, back3_2, canon4, canon2, s17, s11, s12, s18, s19, s20, s21, s22, s23, s25, s28, s31, s35, s26, s29,
    s36, s32, s33, s30, s37, s38, s39, s40, s41, s42, s43, s44, s45, s46, s47, s48, s49, s51, s52, s53, s58, s62, s15, s14,
    s13, s16, s54, s56, s57, s55, s65, s66, s67, s68, s71, s72, s73, s74, s1, s63, s64, s70, s2, s3, s4, s5, s6, s7, s8, s9]

end Mixer

end
-- ==== Proof.Mixer.TiledA.lean ====
/-
  The stores of the first point fill every output and the two scratch weights.
-/
module

public import proofs.«01_k».proof.Proof.Mixer.Left

@[expose] public section

set_option maxRecDepth 16384

noncomputable section

namespace Mixer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

set_option maxHeartbeats 2000000 in
/-- Whether they do. -/
def fillsOfA (c : Dev nD) (t : Fin cfg0.N) (h0 : t.val % 64 = 0) (R : type_of% (atA m c t h0)) : Bool :=
  PSigma.casesOn (motive := fun _ => Bool) R fun L10 R => View.Piece.tiledL L10 S256x1024.size &&
    PSigma.casesOn (motive := fun _ => Bool) (R) fun L11 R => View.Piece.tiledL L11 S256x1024.size &&
    PSigma.casesOn (motive := fun _ => Bool) (R) fun L12 R => View.Piece.tiledL L12 S256x1024.size &&
    PSigma.casesOn (motive := fun _ => Bool) (R) fun L13 R => View.Piece.tiledL L13 S256x1024.size &&
    PSigma.casesOn (motive := fun _ => Bool) (R) fun L14 R => View.Piece.tiledL L14 S256x1024.size &&
    PSigma.casesOn (motive := fun _ => Bool) (R) fun L15 R => View.Piece.tiledL L15 S256x512.size &&
    PSigma.casesOn (motive := fun _ => Bool) (R) fun L16 R => View.Piece.tiledL L16 S256x512.size &&
    PSigma.casesOn (motive := fun _ => Bool) (R) fun L17 R => View.Piece.tiledL L17 S256x512.size &&
    PSigma.casesOn (motive := fun _ => Bool) (R) fun L18 R => View.Piece.tiledL L18 S256x512.size &&
    PSigma.casesOn (motive := fun _ => Bool) (R) fun L19 R => View.Piece.tiledL L19 S256x1024.size &&
    PSigma.casesOn (motive := fun _ => Bool) (R) fun L20 R => View.Piece.tiledL L20 S256x512.size &&
    PSigma.casesOn (motive := fun _ => Bool) (R) fun L21 R => View.Piece.tiledL L21 S1x1024.size &&
    PSigma.casesOn (motive := fun _ => Bool) (R) fun L22 R => View.Piece.tiledL L22 S1x128.size &&
    PSigma.casesOn (motive := fun _ => Bool) (R) fun L23 R => View.Piece.tiledL L23 S1x512.size &&
    PSigma.casesOn (motive := fun _ => Bool) (R) fun L24 R => View.Piece.tiledL L24 S1x512.size &&
    PSigma.casesOn (motive := fun _ => Bool) (R) fun L25 R => View.Piece.tiledL L25 S1x512.size &&
    PSigma.casesOn (motive := fun _ => Bool) (R) fun L26 R => View.Piece.tiledL L26 S1024x4096.size &&
    PSigma.casesOn (motive := fun _ => Bool) (R) fun L27 R => View.Piece.tiledL L27 S4096x1024.size &&
    true

theorem fillsA_true (c : Dev nD) (t : Fin cfg0.N) (h0 : t.val % 64 = 0) : fillsOfA m c t h0 (atA m c t h0) = true := by sl_kernel_rfl

end Mixer

end
-- ==== Proof.Mixer.TiledB.lean ====
/-
  The stores of a later point fill every output.
-/
module

public import proofs.«01_k».proof.Proof.Mixer.Left

@[expose] public section

set_option maxRecDepth 16384

noncomputable section

namespace Mixer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

set_option maxHeartbeats 2000000 in
/-- Whether they do. -/
def fillsOfB (c : Dev nD) (t : Fin cfg0.N) (h0 : ¬t.val % 64 = 0) (p : Left F) (wu : Vec F S1024x4096 .bf16) (wd : Vec F S4096x1024 .bf16) (R : type_of% (atB m c t h0 p wu wd)) : Bool :=
  PSigma.casesOn (motive := fun _ => Bool) R fun L10 R => View.Piece.tiledL L10 S256x1024.size &&
    PSigma.casesOn (motive := fun _ => Bool) (R) fun L11 R => View.Piece.tiledL L11 S256x1024.size &&
    PSigma.casesOn (motive := fun _ => Bool) (R) fun L12 R => View.Piece.tiledL L12 S256x1024.size &&
    PSigma.casesOn (motive := fun _ => Bool) (R) fun L13 R => View.Piece.tiledL L13 S256x1024.size &&
    PSigma.casesOn (motive := fun _ => Bool) (R) fun L14 R => View.Piece.tiledL L14 S256x1024.size &&
    PSigma.casesOn (motive := fun _ => Bool) (R) fun L15 R => View.Piece.tiledL L15 S256x512.size &&
    PSigma.casesOn (motive := fun _ => Bool) (R) fun L16 R => View.Piece.tiledL L16 S256x512.size &&
    PSigma.casesOn (motive := fun _ => Bool) (R) fun L17 R => View.Piece.tiledL L17 S256x512.size &&
    PSigma.casesOn (motive := fun _ => Bool) (R) fun L18 R => View.Piece.tiledL L18 S256x512.size &&
    PSigma.casesOn (motive := fun _ => Bool) (R) fun L19 R => View.Piece.tiledL L19 S256x1024.size &&
    PSigma.casesOn (motive := fun _ => Bool) (R) fun L20 R => View.Piece.tiledL L20 S256x512.size &&
    PSigma.casesOn (motive := fun _ => Bool) (R) fun L21 R => View.Piece.tiledL L21 S1x1024.size &&
    PSigma.casesOn (motive := fun _ => Bool) (R) fun L22 R => View.Piece.tiledL L22 S1x128.size &&
    PSigma.casesOn (motive := fun _ => Bool) (R) fun L23 R => View.Piece.tiledL L23 S1x512.size &&
    PSigma.casesOn (motive := fun _ => Bool) (R) fun L24 R => View.Piece.tiledL L24 S1x512.size &&
    PSigma.casesOn (motive := fun _ => Bool) (R) fun L25 R => View.Piece.tiledL L25 S1x512.size &&
    true

theorem fillsB_true (c : Dev nD) (t : Fin cfg0.N) (h0 : ¬t.val % 64 = 0) (p : Left F) (wu : Vec F S1024x4096 .bf16) (wd : Vec F S4096x1024 .bf16) : fillsOfB m c t h0 p wu wd (atB m c t h0 p wu wd) = true := by sl_kernel_rfl

end Mixer

end
-- ==== Proof.Mixer.Frame.lean ====
/-
  The frame of the fused kernel: its body at the first and at a later point, its proof data, and its run.
-/
module

public import proofs.«01_k».proof.Proof.Mixer.TiledA
public import proofs.«01_k».proof.Proof.Mixer.TiledB
public import Idealize.ShloMosaic.Lib.Claim

@[expose] public section

set_option maxRecDepth 16384

noncomputable section

namespace Mixer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in
/-- The body at the first point. -/
theorem body_first (c : Dev nD) (t : Fin cfg0.N) (hz : t = first) :
    bodyPre m c t ⊢ wp frame (wpE (defs₀ (F := F)) Variants.none c none) Set.univ (bodyAt0 t) (fun _ => bodyPost m c t) := by
  have h0 : t.val % 64 = 0 := by subst hz; rfl
  unfold bodyPre bodyPost bodyAt0
  simp only [before0, before1, before2, before3, before4, before5, before6, before7, before8, before9]
  rw [after0, after1, after2, after3, after4, after5, after6, after7, after8, after9, after10, after11, after12, after13, after14, after15, after16, after17, after18, after19, after20, after21, after22, after23, after24, after25]
  unfold Dat.owesAt Pipeline.owesWithin
  rw [show (dats m 0 c).owed t.castSucc = 0 from rfl, show (dats m 0 c).owed t.succ = 0 from rfl]
  rw [show left m c t.val t.isLt = leftA m c t h0 by subst hz; rfl,
    show (dats m 0 c).Φ t.castSucc = Pipeline.ΦD osem0 spec0 H0 (V m) c by subst hz; rfl,
    show (dats m 0 c).Φ t.succ = between m c 1 by subst hz; rfl, PhiD0_eq]
  unfold between wu wd
  subst hz
  unfold leftA; dsimp only
  obtain ⟨R, hR⟩ : ∃ R, R = atA m c first rfl := ⟨_, rfl⟩
  have tiled : fillsOfA m c first rfl R = true := by rw [hR]; exact fillsA_true m c first rfl
  obtain ⟨Ls, hL⟩ : ∃ Ls, Ls = listsA m c first rfl := ⟨_, rfl⟩
  rw [← hL]
  have hL' : Ls = listsOfA m c first rfl R := by rw [hR]; exact hL
  clear hL hR
  obtain ⟨L10, L11, L12, L13, L14, L15, L16, L17, L18, L19, L20, L21, L22, L23, L24, L25, L26, L27, L28, L29, hrun⟩ := R
  have hE : Ls = ⟨L10, L11, L12, L13, L14, L15, L16, L17, L18, L19, L20, L21, L22, L23, L24, L25, L26, L27, L28⟩ := hL'
  have tiled' : (View.Piece.tiledL L10 S256x1024.size && (View.Piece.tiledL L11 S256x1024.size && (View.Piece.tiledL L12 S256x1024.size && (View.Piece.tiledL L13 S256x1024.size && (View.Piece.tiledL L14 S256x1024.size && (View.Piece.tiledL L15 S256x512.size && (View.Piece.tiledL L16 S256x512.size && (View.Piece.tiledL L17 S256x512.size && (View.Piece.tiledL L18 S256x512.size && (View.Piece.tiledL L19 S256x1024.size && (View.Piece.tiledL L20 S256x512.size && (View.Piece.tiledL L21 S1x1024.size && (View.Piece.tiledL L22 S1x128.size && (View.Piece.tiledL L23 S1x512.size && (View.Piece.tiledL L24 S1x512.size && (View.Piece.tiledL L25 S1x512.size && (View.Piece.tiledL L26 S1024x4096.size && (View.Piece.tiledL L27 S4096x1024.size && true)))))))))))))))))) = true := tiled
  clear hL' tiled
  subst hE
  simp only [Bool.and_eq_true] at tiled'
  obtain ⟨t10, t11, t12, t13, t14, t15, t16, t17, t18, t19, t20, t21, t22, t23, t24, t25, t26, t27, -⟩ := tiled'
  dsimp only
  iintro ⟨⟨⟨HS0, HS1, HS2, HS3⟩, Hg, ⟨Hq0, Hq1⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  iapply (hrun W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [HS0]; · iexact HS0
  isplitl [HS1]; · iexact HS1
  isplitl [HS2]; · iexact HS2
  isplitl [HS3]; · iexact HS3
  isplitl [Hq0]; · iexact Hq0
  isplitl [Hq1]; · iexact Hq1
  isplitl [Hh0]; · iexact Hh0
  isplitl [Hh1]; · iexact Hh1
  isplitl [HW]; · iexact HW
  iintro ⟨H0, H1, H2, H3, H4, H5, H6, H7, H8, H9, ⟨%e10, H10⟩, ⟨%e11, H11⟩, ⟨%e12, H12⟩, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%es0, HS0⟩, ⟨%es1, HS1⟩, ⟨%fT2, HS2⟩, ⟨%fT3, HS3⟩, Hq0, Hq1, Hh0, Hh1, ⟨%W', HW'⟩⟩
  isplitl [HS0 HS1 HS2 HS3 Hg Hq0 Hq1 Hh0 Hh1]
  · isplitl [HS0 HS1 HS2 HS3]
    · isplitl [HS0]; · iapply (owns_written c _ VS0_0 _ _ t26 _); iexact HS0
      isplitl [HS1]; · iapply (owns_written c _ VS0_1 _ _ t27 _); iexact HS1
      isplitl [HS2]; · iapply (owns_some c _ _); iexact HS2
      iapply (owns_some c _ _); iexact HS3
    isplitl [Hg]; · iexact Hg
    isplitl [Hq0 Hq1]
    · isplitl [Hq0]; · iexact Hq0
      iexact Hq1
    isplitl [Hh0]; · iexact Hh0
    iexact Hh1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iapply (owns_written c _ VO0_10 _ _ t10 _); iexact H10
  isplitl [H11]; · iapply (owns_written c _ VO0_11 _ _ t11 _); iexact H11
  isplitl [H12]; · iapply (owns_written c _ VO0_12 _ _ t12 _); iexact H12
  isplitl [H13]; · iapply (owns_written c _ VO0_13 _ _ t13 _); iexact H13
  isplitl [H14]; · iapply (owns_written c _ VO0_14 _ _ t14 _); iexact H14
  isplitl [H15]; · iapply (owns_written c _ VO0_15 _ _ t15 _); iexact H15
  isplitl [H16]; · iapply (owns_written c _ VO0_16 _ _ t16 _); iexact H16
  isplitl [H17]; · iapply (owns_written c _ VO0_17 _ _ t17 _); iexact H17
  isplitl [H18]; · iapply (owns_written c _ VO0_18 _ _ t18 _); iexact H18
  isplitl [H19]; · iapply (owns_written c _ VO0_19 _ _ t19 _); iexact H19
  isplitl [H20]; · iapply (owns_written c _ VO0_20 _ _ t20 _); iexact H20
  isplitl [H21]; · iapply (owns_written c _ VO0_21 _ _ t21 _); iexact H21
  isplitl [H22]; · iapply (owns_written c _ VO0_22 _ _ t22 _); iexact H22
  isplitl [H23]; · iapply (owns_written c _ VO0_23 _ _ t23 _); iexact H23
  isplitl [H24]; · iapply (owns_written c _ VO0_24 _ _ t24 _); iexact H24
  iapply (owns_written c _ VO0_25 _ _ t25 _); iexact H25

set_option maxHeartbeats 4000000 in
/-- The body at a later point. -/
theorem body_later (c : Dev nD) (t : Fin cfg0.N) (h0 : ¬t.val % 64 = 0) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [after0, after1, after2, after3, after4, after5, after6, after7, after8, after9, after10, after11, after12, after13, after14, after15, after16, after17, after18, after19, after20, after21, after22, after23, after24, after25]
  unfold Dat.owesAt Pipeline.owesWithin
  rw [show (dats m 0 c).owed t.castSucc = 0 from rfl, show (dats m 0 c).owed t.succ = 0 from rfl]
  have hs : ∀ n, n ≠ 0 → between m c n = between m c 1 := fun n hn => by cases n with
    | zero => exact absurd rfl hn
    | succ n => rfl
  rw [show (dats m 0 c).Φ t.castSucc = between m c t.val from rfl, show (dats m 0 c).Φ t.succ = between m c (t.val + 1) from rfl,
    hs _ (fun h => h0 (by rw [h])), hs _ (Nat.succ_ne_zero _), left_B m c t h0]
  simp only [before21 m c t h0, before22 m c t h0, before23 m c t h0, before24 m c t h0, before25 m c t h0]
  generalize left m c (t.val - 1) _ = p
  unfold between leftB; dsimp only
  obtain ⟨R, hR⟩ : ∃ R, R = atB m c t h0 p (wu m c) (wd m c) := ⟨_, rfl⟩
  have tiled : fillsOfB m c t h0 p (wu m c) (wd m c) R = true := by rw [hR]; exact fillsB_true m c t h0 p (wu m c) (wd m c)
  obtain ⟨Ls, hL⟩ : ∃ Ls, Ls = listsB m c t h0 p (wu m c) (wd m c) := ⟨_, rfl⟩
  rw [← hL]
  have hL' : Ls = listsOfB m c t h0 p (wu m c) (wd m c) R := by rw [hR]; exact hL
  clear hL hR
  obtain ⟨L10, L11, L12, L13, L14, L15, L16, L17, L18, L19, L20, L21, L22, L23, L24, L25, L26, L27, L28, L29, hrun⟩ := R
  have hE : Ls = ⟨L10, L11, L12, L13, L14, L15, L16, L17, L18, L19, L20, L21, L22, L23, L24, L25, L26, L27, L28⟩ := hL'
  have tiled' : (View.Piece.tiledL L10 S256x1024.size && (View.Piece.tiledL L11 S256x1024.size && (View.Piece.tiledL L12 S256x1024.size && (View.Piece.tiledL L13 S256x1024.size && (View.Piece.tiledL L14 S256x1024.size && (View.Piece.tiledL L15 S256x512.size && (View.Piece.tiledL L16 S256x512.size && (View.Piece.tiledL L17 S256x512.size && (View.Piece.tiledL L18 S256x512.size && (View.Piece.tiledL L19 S256x1024.size && (View.Piece.tiledL L20 S256x512.size && (View.Piece.tiledL L21 S1x1024.size && (View.Piece.tiledL L22 S1x128.size && (View.Piece.tiledL L23 S1x512.size && (View.Piece.tiledL L24 S1x512.size && (View.Piece.tiledL L25 S1x512.size && true)))))))))))))))) = true := tiled
  clear hL' tiled
  subst hE
  simp only [Bool.and_eq_true] at tiled'
  obtain ⟨t10, t11, t12, t13, t14, t15, t16, t17, t18, t19, t20, t21, t22, t23, t24, t25, -⟩ := tiled'
  dsimp only
  iintro ⟨⟨⟨HS0, HS1, HS2, HS3⟩, Hg, ⟨Hq0, Hq1⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  iapply (hrun W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexact H21
  isplitl [H22]; · iexact H22
  isplitl [H23]; · iexact H23
  isplitl [H24]; · iexact H24
  isplitl [H25]; · iexact H25
  isplitl [HS0]; · iexact HS0
  isplitl [HS1]; · iexact HS1
  isplitl [HS2]; · iexact HS2
  isplitl [HS3]; · iexact HS3
  isplitl [Hq0]; · iexact Hq0
  isplitl [Hq1]; · iexact Hq1
  isplitl [Hh0]; · iexact Hh0
  isplitl [Hh1]; · iexact Hh1
  isplitl [HW]; · iexact HW
  iintro ⟨H0, H1, H2, H3, H4, H5, H6, H7, H8, H9, ⟨%e10, H10⟩, ⟨%e11, H11⟩, ⟨%e12, H12⟩, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, HS0, HS1, ⟨%fT2, HS2⟩, ⟨%fT3, HS3⟩, Hq0, Hq1, Hh0, Hh1, ⟨%W', HW'⟩⟩
  isplitl [HS0 HS1 HS2 HS3 Hg Hq0 Hq1 Hh0 Hh1]
  · isplitl [HS0 HS1 HS2 HS3]
    · isplitl [HS0]; · iexact HS0
      isplitl [HS1]; · iexact HS1
      isplitl [HS2]; · iapply (owns_some c _ _); iexact HS2
      iapply (owns_some c _ _); iexact HS3
    isplitl [Hg]; · iexact Hg
    isplitl [Hq0 Hq1]
    · isplitl [Hq0]; · iexact Hq0
      iexact Hq1
    isplitl [Hh0]; · iexact Hh0
    iexact Hh1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iapply (owns_written c _ VO0_10 _ _ t10 _); iexact H10
  isplitl [H11]; · iapply (owns_written c _ VO0_11 _ _ t11 _); iexact H11
  isplitl [H12]; · iapply (owns_written c _ VO0_12 _ _ t12 _); iexact H12
  isplitl [H13]; · iapply (owns_written c _ VO0_13 _ _ t13 _); iexact H13
  isplitl [H14]; · iapply (owns_written c _ VO0_14 _ _ t14 _); iexact H14
  isplitl [H15]; · iapply (owns_written c _ VO0_15 _ _ t15 _); iexact H15
  isplitl [H16]; · iapply (owns_written c _ VO0_16 _ _ t16 _); iexact H16
  isplitl [H17]; · iapply (owns_written c _ VO0_17 _ _ t17 _); iexact H17
  isplitl [H18]; · iapply (owns_written c _ VO0_18 _ _ t18 _); iexact H18
  isplitl [H19]; · iapply (owns_written c _ VO0_19 _ _ t19 _); iexact H19
  isplitl [H20]; · iapply (owns_written c _ VO0_20 _ _ t20 _); iexact H20
  isplitl [H21]; · iapply (owns_written c _ VO0_21 _ _ t21 _); iexact H21
  isplitl [H22]; · iapply (owns_written c _ VO0_22 _ _ t22 _); iexact H22
  isplitl [H23]; · iapply (owns_written c _ VO0_23 _ _ t23 _); iexact H23
  isplitl [H24]; · iapply (owns_written c _ VO0_24 _ _ t24 _); iexact H24
  iapply (owns_written c _ VO0_25 _ _ t25 _); iexact H25

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body's triple at every point. -/
theorem body_any (c : Dev nD) (t : Fin cfg0.N) :
    bodyPre m c t ⊢ wp frame (wpE (defs₀ (F := F)) Variants.none c none) Set.univ (bodyAt0 t) (fun _ => bodyPost m c t) := by
  by_cases h : t.val % 64 = 0
  · exact body_first m c t (first_of t h)
  · exact body_later m c t h

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (body_any m c t) rfl .rfl fun _ => .rfl

theorem hin (c : Dev nD) : Pipeline.ΦD osem0 spec0 H0 (V m) c ⊢ (dats m 0 c).Φ 0 := Idealize.SL.BI.Entails.refl _

/-- After the last point the scratch weights' contents are forgotten. -/
theorem hout (c : Dev nD) : (dats m 0 c).Φ (Fin.last cfg0.N) ⊢ Pipeline.ΦD osem0 spec0 H0 (V m) c := by
  rw [show (dats m 0 c).Φ (Fin.last cfg0.N) = between m c cfg0.N from rfl, show cfg0.N = 63 + 1 from N_0, PhiD0_eq]
  unfold between
  iintro ⟨⟨HS0, HS1, HS2, HS3⟩, Hg, Hq, Hh⟩
  isplitl [HS0 HS1 HS2 HS3]
  · isplitl [HS0]; · iexists _; iexact HS0
    isplitl [HS1]; · iexists _; iexact HS1
    isplitl [HS2]; · iexact HS2
    iexact HS3
  isplitl [Hg]; · iexact Hg
  isplitl [Hq]; · iexact Hq
  iexact Hh

set_option backward.isDefEq.respectTransparency.types false in
/-- The run, with every semaphore counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

/-- The arguments end unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Mixer

end
-- ==== Proof.Mixer.Final.lean ====
/-
  The result arrays of the fused kernel, from real launched arrays: every token's rows, and the sums over all tokens.
-/
module

public import proofs.«01_k».proof.Proof.Mixer.Given
public import proofs.«01_k».proof.Proof.Mixer.PointA
public import proofs.«01_k».proof.Proof.Mixer.PointB
public import proofs.«01_k».proof.Proof.Mixer.Frame

@[expose] public section

set_option maxRecDepth 16384

noncomputable section

namespace Mixer

open Idealize.ShloMosaic Idealize.ShloMosaic.TcCoe Idealize.ShloMosaic.Tactic Idealize.SL.Sem
open Idealize.ShloMosaic.Pipeline (Dat Cfg Window BodyObligation cellOf)
open Cert.KernelIdeal Cert.KernelIdeal.Gen

variable (m : (ℓ : Loc nD τ sig) → Buf (Elt Ideal) ℓ)

/-- What a sum holds after point `n`. -/
def upTo (T : Fin 16384 → Token) (f : Token → ℝ) : (n : ℕ) → n < cfg0.N → ℝ
  | 0, hn => 0 + ∑ i, f (toks T ⟨0, hn⟩ i)
  | n + 1, hn => upTo T f n (Nat.lt_of_succ_lt hn) + ∑ i, f (toks T ⟨n + 1, hn⟩ i)

/-- A point that ends a run of 64 points is the last. -/
theorem last_of (t : Fin cfg0.N) (h : t.val % 64 = 63) : t.val + 1 = cfg0.N := by
  have hN := lt_of_lt_of_eq t.isLt (show cfg0.N = 64 from N_0)
  exact (show t.val + 1 = 64 by omega).trans (show cfg0.N = 64 from N_0).symm

/-- After the last point a sum runs over every token. -/
theorem upTo_last (T : Fin 16384 → Token) (f : Token → ℝ) (t : Fin cfg0.N) (ht : t.val + 1 = cfg0.N) :
    upTo T f t.val t.isLt = ∑ i, f (T i) := by
  have e := Pipeline.eq_sum_fin_of_reset_step_apply_last (N := cfg0.N) (fun n hn (_ : Unit) => upTo T f n hn) 64 (fun _ => 0)
    (fun t _ => ∑ i, f (toks T t i))
    (fun t h _ => by
      have hN := lt_of_lt_of_eq t.isLt (show cfg0.N = 64 from N_0)
      obtain ⟨n, hn⟩ := t
      have : n = 0 := by dsimp only at h hN; omega
      subst this; rfl)
    (fun t h _ => by
      obtain ⟨n, hn⟩ := t
      cases n with
      | zero => exact absurd (Nat.zero_mod _) h
      | succ n => rfl)
    (le_of_eq (show cfg0.N = 64 from N_0)) t ht ()
  rw [show upTo T f t.val t.isLt = _ from e, zero_add]
  exact Fin.sum_mul_add_congr (L := 16384) (S := 64) (n := 256) (F := fun s k => f (toks T s k)) (f := fun i => f (T i)) fun s k hl => rfl

/-- Where each point's results lie. -/
theorem outs : ∀ t : Fin cfg0.N, win0_10.index t = ![t.val, 0] ∧ win0_11.index t = ![t.val, 0] ∧ win0_12.index t = ![t.val, 0] ∧ win0_13.index t = ![t.val, 0] ∧ win0_14.index t = ![t.val, 0] ∧ win0_15.index t = ![t.val, 0] ∧ win0_16.index t = ![t.val, 0] ∧ win0_17.index t = ![t.val, 0] ∧ win0_18.index t = ![t.val, 0] ∧ win0_19.index t = ![t.val, 0] ∧ win0_20.index t = ![t.val, 0] ∧ win0_21.index t = ![0, 0] ∧ win0_22.index t = ![0, 0] ∧ win0_23.index t = ![0, 0] ∧ win0_24.index t = ![0, 0] ∧ win0_25.index t = ![0, 0] :=
  (by decide +kernel : ∀ t : Fin grid0.N, _)

variable {m} {c : Dev nD} {W : Weights} {T : Fin 16384 → Token} (h : Launched m c W T)
include h

theorem wu_eq : wu m c = rl W.wu := by
  unfold wu
  conv in (listsA m c first rfl).l26 => whnf
  frame_out
  simp only [ReadAs.apply_same, whole_u, wide_u h]
  exact View.canon_cons_unit_lit (Val := Elt Ideal) (e := .bf16) (S := S1024x4096) (off := fun _ => 0) _ (rl W.wu) [] fun _ => rfl
theorem wd_eq : wd m c = rl W.wd := by
  unfold wd
  conv in (listsA m c first rfl).l27 => whnf
  frame_out
  simp only [ReadAs.apply_same, whole_d, wide_d h]
  exact View.canon_cons_unit_lit (Val := Elt Ideal) (e := .bf16) (S := S4096x1024) (off := fun _ => 0) _ (rl W.wd) [] fun _ => rfl

/-- What every point leaves. -/
theorem holds : ∀ (n : ℕ) (hn : n < cfg0.N), Holds (left m c n hn) W (toks T ⟨n, hn⟩) (fun j => upTo T (fun t => tg2 W t j) n hn)
    (upTo T (loss W) n hn) (fun j => upTo T (fun t => tga W t j) n hn) (fun j => upTo T (fun t => tgs W t j) n hn)
    (fun j => upTo T (fun t => dgp W t j) n hn)
  | 0, hn => pointA m c ⟨0, hn⟩ rfl W _ (given h _) (wide_u h) (wide_d h)
  | n + 1, hn => by
    have q := holds n (Nat.lt_of_succ_lt hn)
    have r := pointB m c ⟨n + 1, hn⟩ (by have := lt_of_lt_of_eq hn (show cfg0.N = 64 from N_0); dsimp only; omega) W _ (given h _) _ _ _ _ _ _ _ _ q
    rw [← wu_eq h, ← wd_eq h] at r
    exact r

theorem arr10 : (dats m 0 c).arrAt 10 (cfgs 0).N = rl fun i j => dx2 W (T i) j := by
  refine (dats m 0 c).arrAt_eq_of_covers 10 _ (by decide +kernel) fun t _ y => ?_
  blk_simp
  rw [after10, (holds h t.val t.isLt).o10]
  refine Eq.trans (b := rl (fun i j => dx2 W (T i) j) (ix2 ⟨t.val * 256 + (y 0).val, by have := lt_of_lt_of_eq t.isLt (show cfg0.N = 64 from N_0); have : (y 0).val < 256 := (y 0).isLt; omega⟩ (y 1))) rfl ?_
  blk_point [outs t]
theorem arr11 : (dats m 0 c).arrAt 11 (cfgs 0).N = rl fun i j => hdn W (T i) j := by
  refine (dats m 0 c).arrAt_eq_of_covers 11 _ (by decide +kernel) fun t _ y => ?_
  blk_simp
  rw [after11, (holds h t.val t.isLt).o11]
  refine Eq.trans (b := rl (fun i j => hdn W (T i) j) (ix2 ⟨t.val * 256 + (y 0).val, by have := lt_of_lt_of_eq t.isLt (show cfg0.N = 64 from N_0); have : (y 0).val < 256 := (y 0).isLt; omega⟩ (y 1))) rfl ?_
  blk_point [outs t]
theorem arr12 : (dats m 0 c).arrAt 12 (cfgs 0).N = rl fun i j => dup W (T i) j := by
  refine (dats m 0 c).arrAt_eq_of_covers 12 _ (by decide +kernel) fun t _ y => ?_
  blk_simp
  rw [after12, (holds h t.val t.isLt).o12]
  refine Eq.trans (b := rl (fun i j => dup W (T i) j) (ix2 ⟨t.val * 256 + (y 0).val, by have := lt_of_lt_of_eq t.isLt (show cfg0.N = 64 from N_0); have : (y 0).val < 256 := (y 0).isLt; omega⟩ (y 1))) rfl ?_
  blk_point [outs t]
theorem arr13 : (dats m 0 c).arrAt 13 (cfgs 0).N = rl fun i j => hh W (T i) j := by
  refine (dats m 0 c).arrAt_eq_of_covers 13 _ (by decide +kernel) fun t _ y => ?_
  blk_simp
  rw [after13, (holds h t.val t.isLt).o13]
  refine Eq.trans (b := rl (fun i j => hh W (T i) j) (ix2 ⟨t.val * 256 + (y 0).val, by have := lt_of_lt_of_eq t.isLt (show cfg0.N = 64 from N_0); have : (y 0).val < 256 := (y 0).isLt; omega⟩ (y 1))) rfl ?_
  blk_point [outs t]
theorem arr14 : (dats m 0 c).arrAt 14 (cfgs 0).N = rl fun i j => dy W (T i) j := by
  refine (dats m 0 c).arrAt_eq_of_covers 14 _ (by decide +kernel) fun t _ y => ?_
  blk_simp
  rw [after14, (holds h t.val t.isLt).o14]
  refine Eq.trans (b := rl (fun i j => dy W (T i) j) (ix2 ⟨t.val * 256 + (y 0).val, by have := lt_of_lt_of_eq t.isLt (show cfg0.N = 64 from N_0); have : (y 0).val < 256 := (y 0).isLt; omega⟩ (y 1))) rfl ?_
  blk_point [outs t]
theorem arr15 : (dats m 0 c).arrAt 15 (cfgs 0).N = rl fun i j => mix W (T i) j := by
  refine (dats m 0 c).arrAt_eq_of_covers 15 _ (by decide +kernel) fun t _ y => ?_
  blk_simp
  rw [after15, (holds h t.val t.isLt).o15]
  refine Eq.trans (b := rl (fun i j => mix W (T i) j) (ix2 ⟨t.val * 256 + (y 0).val, by have := lt_of_lt_of_eq t.isLt (show cfg0.N = 64 from N_0); have : (y 0).val < 256 := (y 0).isLt; omega⟩ (y 1))) rfl ?_
  blk_point [outs t]
theorem arr16 : (dats m 0 c).arrAt 16 (cfgs 0).N = rl fun i j => z (T i) j := by
  refine (dats m 0 c).arrAt_eq_of_covers 16 _ (by decide +kernel) fun t _ y => ?_
  blk_simp
  rw [after16, (holds h t.val t.isLt).o16]
  refine Eq.trans (b := rl (fun i j => z (T i) j) (ix2 ⟨t.val * 256 + (y 0).val, by have := lt_of_lt_of_eq t.isLt (show cfg0.N = 64 from N_0); have : (y 0).val < 256 := (y 0).isLt; omega⟩ (y 1))) rfl ?_
  blk_point [outs t]
theorem arr17 : (dats m 0 c).arrAt 17 (cfgs 0).N = rl fun i j => dattn W (T i) j := by
  refine (dats m 0 c).arrAt_eq_of_covers 17 _ (by decide +kernel) fun t _ y => ?_
  blk_simp
  rw [after17, (holds h t.val t.isLt).o17]
  refine Eq.trans (b := rl (fun i j => dattn W (T i) j) (ix2 ⟨t.val * 256 + (y 0).val, by have := lt_of_lt_of_eq t.isLt (show cfg0.N = 64 from N_0); have : (y 0).val < 256 := (y 0).isLt; omega⟩ (y 1))) rfl ?_
  blk_point [outs t]
theorem arr18 : (dats m 0 c).arrAt 18 (cfgs 0).N = rl fun i j => dyv W (T i) j := by
  refine (dats m 0 c).arrAt_eq_of_covers 18 _ (by decide +kernel) fun t _ y => ?_
  blk_simp
  rw [after18, (holds h t.val t.isLt).o18]
  refine Eq.trans (b := rl (fun i j => dyv W (T i) j) (ix2 ⟨t.val * 256 + (y 0).val, by have := lt_of_lt_of_eq t.isLt (show cfg0.N = 64 from N_0); have : (y 0).val < 256 := (y 0).isLt; omega⟩ (y 1))) rfl ?_
  blk_point [outs t]
theorem arr19 : (dats m 0 c).arrAt 19 (cfgs 0).N = rl fun i j => dx2 W (T i) j := by
  refine (dats m 0 c).arrAt_eq_of_covers 19 _ (by decide +kernel) fun t _ y => ?_
  blk_simp
  rw [after19, (holds h t.val t.isLt).o19]
  refine Eq.trans (b := rl (fun i j => dx2 W (T i) j) (ix2 ⟨t.val * 256 + (y 0).val, by have := lt_of_lt_of_eq t.isLt (show cfg0.N = 64 from N_0); have : (y 0).val < 256 := (y 0).isLt; omega⟩ (y 1))) rfl ?_
  blk_point [outs t]
theorem arr20 : (dats m 0 c).arrAt 20 (cfgs 0).N = rl fun i j => dgp W (T i) j := by
  refine (dats m 0 c).arrAt_eq_of_covers 20 _ (by decide +kernel) fun t _ y => ?_
  blk_simp
  rw [after20, (holds h t.val t.isLt).o20]
  refine Eq.trans (b := rl (fun i j => dgp W (T i) j) (ix2 ⟨t.val * 256 + (y 0).val, by have := lt_of_lt_of_eq t.isLt (show cfg0.N = 64 from N_0); have : (y 0).val < 256 := (y 0).isLt; omega⟩ (y 1))) rfl ?_
  blk_point [outs t]
theorem arr21 : (dats m 0 c).arrAt 21 (cfgs 0).N = rl fun (_ : Fin 1) j => ∑ i, tg2 W (T i) j := by
  refine (dats m 0 c).arrAt_eq_of_covers 21 _ (by decide +kernel) fun t hf y => ?_
  have ht := last_of t ((flush0_21 t).mp hf)
  blk_simp
  rw [after21, (holds h t.val t.isLt).o21]
  refine Eq.trans (b := rl (fun (_ : Fin 1) j => ∑ i, tg2 W (T i) j) (ix2 0 (y 1))) (congrArg Real.toEReal (upTo_last T _ t ht)) ?_
  blk_point [outs t]
theorem arr22 : (dats m 0 c).arrAt 22 (cfgs 0).N = rl fun (_ : Fin 1) _ => ∑ i, loss W (T i) := by
  refine (dats m 0 c).arrAt_eq_of_covers 22 _ (by decide +kernel) fun t hf y => ?_
  have ht := last_of t ((flush0_22 t).mp hf)
  blk_simp
  rw [after22, (holds h t.val t.isLt).o22]
  refine Eq.trans (b := rl (fun (_ : Fin 1) _ => ∑ i, loss W (T i)) (ix2 0 (y 1))) (congrArg Real.toEReal (upTo_last T _ t ht)) ?_
  blk_point [outs t]
theorem arr23 : (dats m 0 c).arrAt 23 (cfgs 0).N = rl fun (_ : Fin 1) j => ∑ i, tga W (T i) j := by
  refine (dats m 0 c).arrAt_eq_of_covers 23 _ (by decide +kernel) fun t hf y => ?_
  have ht := last_of t ((flush0_23 t).mp hf)
  blk_simp
  rw [after23, (holds h t.val t.isLt).o23]
  refine Eq.trans (b := rl (fun (_ : Fin 1) j => ∑ i, tga W (T i) j) (ix2 0 (y 1))) (congrArg Real.toEReal (upTo_last T _ t ht)) ?_
  blk_point [outs t]
theorem arr24 : (dats m 0 c).arrAt 24 (cfgs 0).N = rl fun (_ : Fin 1) j => ∑ i, tgs W (T i) j := by
  refine (dats m 0 c).arrAt_eq_of_covers 24 _ (by decide +kernel) fun t hf y => ?_
  have ht := last_of t ((flush0_24 t).mp hf)
  blk_simp
  rw [after24, (holds h t.val t.isLt).o24]
  refine Eq.trans (b := rl (fun (_ : Fin 1) j => ∑ i, tgs W (T i) j) (ix2 0 (y 1))) (congrArg Real.toEReal (upTo_last T _ t ht)) ?_
  blk_point [outs t]
theorem arr25 : (dats m 0 c).arrAt 25 (cfgs 0).N = rl fun (_ : Fin 1) j => ∑ i, dgp W (T i) j := by
  refine (dats m 0 c).arrAt_eq_of_covers 25 _ (by decide +kernel) fun t hf y => ?_
  have ht := last_of t ((flush0_25 t).mp hf)
  blk_simp
  rw [after25, (holds h t.val t.isLt).o25]
  refine Eq.trans (b := rl (fun (_ : Fin 1) j => ∑ i, dgp W (T i) j) (ix2 0 (y 1))) (congrArg Real.toEReal (upTo_last T _ t ht)) ?_
  blk_point [outs t]

end Mixer

end
-- ==== Proof.Mixer.Real.lean ====
/-
  Finite arguments are real arrays.
-/
module

public import proofs.«01_k».proof.Defs
public import proofs.«01_k».proof.Proof.Gen.Pre_finite
public import proofs.«01_k».proof.Proof.Mixer.Given

@[expose] public section

set_option maxRecDepth 16384

noncomputable section

namespace Mixer

open Idealize.ShloMosaic Idealize.ShloMosaic.TcCoe Idealize.ShloMosaic.Tactic Idealize.SL.Sem
open Cert.KernelIdeal Cert.KernelIdeal.Gen

variable (m : (ℓ : Loc nD τ sig) → Buf (Elt Ideal) ℓ)

/-- The word the precondition compares with is infinity. -/
theorem lit_inf : Ideal.ofBits .f32 0x7F800000#32 = (⊤ : EReal) := by simp [Ideal.ofBits, Ideal.ieee]

/-- An array whose elements are all smaller than infinity in magnitude is real. -/
theorem real_of {S : Shape} (X : FVec Ideal S .f32) (hb : Cert.Pre_finite.S_.BroadcastsInDim S (![] : Fin 0 → Fin S.rank))
    (h : cmpf .olt (Host.absf X) (broadcastInDim S ![] hb (constant (F := Ideal) Cert.Pre_finite.S_ .f32 0x7F800000#32)) = fun _ => 1#1) :
    ∃ f : S.Idx → ℝ, X = fun i => ((f i : ℝ) : EReal) := by
  refine ⟨fun i => (X i).toReal, funext fun i => ?_⟩
  have e := congrFun h i
  pointwise at e
  rw [show FloatOps.absf (X i) = max (X i) (-X i) from rfl, lit_inf] at e
  have l : max (X i) (-X i) < ⊤ := by
    by_contra n
    rw [decide_eq_false n] at e
    exact absurd e (by decide)
  refine (EReal.coe_toReal (fun t => ?_) fun t => ?_).symm
  · rw [t] at l; simp at l
  · rw [t] at l; simp at l

theorem real2 {a b : ℕ} (X : FVec Ideal ⟨2, ![a, b]⟩ .f32) (hb : Cert.Pre_finite.S_.BroadcastsInDim ⟨2, ![a, b]⟩ (![] : Fin 0 → Fin 2))
    (h : cmpf .olt (Host.absf X) (broadcastInDim ⟨2, ![a, b]⟩ ![] hb (constant (F := Ideal) Cert.Pre_finite.S_ .f32 0x7F800000#32)) = fun _ => 1#1) :
    ∃ f : Fin a → Fin b → ℝ, X = rl f := by
  obtain ⟨f, e⟩ := real_of X hb h
  exact ⟨fun i j => f (ix2 i j), rl_ext fun i j => congrFun e _⟩

theorem real1 {a : ℕ} (X : FVec Ideal ⟨1, ![a]⟩ .f32) (hb : Cert.Pre_finite.S_.BroadcastsInDim ⟨1, ![a]⟩ (![] : Fin 0 → Fin 1))
    (h : cmpf .olt (Host.absf X) (broadcastInDim ⟨1, ![a]⟩ ![] hb (constant (F := Ideal) Cert.Pre_finite.S_ .f32 0x7F800000#32)) = fun _ => 1#1) :
    ∃ f : Fin a → ℝ, X = Mixer.Ref.r1 f := by
  obtain ⟨f, e⟩ := real_of X hb h
  exact ⟨fun i => f (ix1 i), Mixer.Ref.r1_ext fun i => congrFun e _⟩

/-- Where the arguments are finite, the launched arrays are real. -/
theorem launched (m : (ℓ : Loc nD τ sig) → Buf (Elt Ideal) ℓ) (hpre : Cert.Pre_KernelIdeal_finite m) (c : Dev nD) :
    ∃ W T, Launched m c W T := by
  obtain ⟨p0, p1, p2, p3, p4, p5, p6, p7, p8, p9, p10, p11⟩ := hpre c
  obtain ⟨a, ha⟩ := real2 _ _ p0
  obtain ⟨y, hy⟩ := real2 _ _ p1
  obtain ⟨x, hx⟩ := real2 _ _ p2
  obtain ⟨tg, htg⟩ := real2 _ _ p3
  obtain ⟨wg, hwg⟩ := real2 _ _ p4
  obtain ⟨b, hb⟩ := real1 _ _ p5
  obtain ⟨ga, hga⟩ := real1 _ _ p6
  obtain ⟨gs, hgs⟩ := real1 _ _ p7
  obtain ⟨wo, hwo⟩ := real2 _ _ p8
  obtain ⟨g2, hg2⟩ := real1 _ _ p9
  obtain ⟨wu, hwu⟩ := real2 _ _ p10
  obtain ⟨wd, hwd⟩ := real2 _ _ p11
  exact ⟨⟨wg, b, ga, gs, wo, g2, wu, wd⟩, fun i => ⟨a i, y i, x i, tg i⟩, ha, hy, hx, htg, hwg, hb, hga, hgs, hwo, hg2, hwu, hwd⟩

/-- The same, on every device at once. -/
theorem launched_all (m : (ℓ : Loc nD τ sig) → Buf (Elt Ideal) ℓ) (hpre : Cert.Pre_KernelIdeal_finite m) :
    ∃ (W : Dev nD → Weights) (T : Dev nD → Fin 16384 → Token), ∀ c, Launched m c (W c) (T c) := by
  choose W T H using launched m hpre
  exact ⟨W, T, H⟩

end Mixer

end
-- ==== Proof.Mixer.Twin.lean ====
/-
  The printed program and the one that names its constants are one text; where a name stands for its word, they are one program.
-/
module

public import proofs.«01_k».proof.Defs
public import proofs.«01_k».proof.Proof.Gen.Kernel
public import proofs.«01_k».proof.Proof.Gen.KernelIdeal
public import Idealize.ShloMosaic.Lib.Tactic

@[expose] public section

set_option maxRecDepth 16384

noncomputable section

namespace Mixer

open Idealize.ShloMosaic Idealize.ShloMosaic.TcCoe Idealize.SL.Sem

/-- A name stands for its word. -/
@[instance_reducible] def word : Named Bits where
  named _ _ {φ} b := FloatOps.ofBits φ b

/-- The frame of the program with named constants, read where a name stands for its word. -/
def Framed [Named Bits] : Prop :=
  ∀ (m : (ℓ : Loc Cert.KernelIdeal.nD Cert.KernelIdeal.τ Cert.KernelIdeal.sig) → Buf (Elt Bits) ℓ) (g : Dev Cert.KernelIdeal.nD → PrngReg),
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

/-- The frame of the printed program. -/
def Framed' : Prop :=
  ∀ (m : (ℓ : Loc Cert.Kernel.nD Cert.Kernel.τ Cert.Kernel.sig) → Buf (Elt Bits) ℓ) (g : Dev Cert.Kernel.nD → PrngReg),
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

theorem twin : @Framed word = Framed' := by sl_kernel_rfl

end Mixer

end
-- ==== Proof.Proj.Model.lean ====
/-
  The token-wise mathematics of the call `inproj_bwd`, over the real numbers.

  One token of the step is eight rows (the gradients of the four projections, the saved raw queries and keys, the residual
  stream and its gradient); the weights are four arrays. Everything the call leaves behind is a function of one token's rows
  and the weights, or a sum of such functions over the tokens.
-/
module

public import proofs.«01_k».proof.Proof.Mixer.Reference

@[expose] public section

noncomputable section

namespace Proj

open Idealize.ShloMosaic Mixer

/-- The weights and gains of the call, as real arrays. -/
structure Weights where
  wi : Fin 1024 → Fin 2048 → ℝ
  g1 : Fin 1024 → ℝ
  gq : Fin 64 → ℝ
  gk : Fin 64 → ℝ

/-- One token's rows. -/
structure Token where
  dq : Fin 512 → ℝ
  dk : Fin 512 → ℝ
  dv : Fin 512 → ℝ
  du : Fin 512 → ℝ
  q : Fin 512 → ℝ
  k : Fin 512 → ℝ
  x : Fin 1024 → ℝ
  r : Fin 1024 → ℝ

/-- The head of a lane, and its place within the head. -/
def headOf (j : Fin 512) : Fin 8 := ⟨j.val / 64, by omega⟩
def posOf (j : Fin 512) : Fin 64 := ⟨j.val % 64, by omega⟩
/-- The lane of a head's place. -/
def lane (a : Fin 8) (e : Fin 64) : Fin 512 := ⟨64 * a.val + e.val, by omega⟩

theorem lane_of (j : Fin 512) : lane (headOf j) (posOf j) = j := Fin.ext (Nat.div_add_mod j.val 64)
theorem headOf_lane (a : Fin 8) (e : Fin 64) : headOf (lane a e) = a := by
  apply Fin.ext; simp only [headOf, lane]; omega
theorem posOf_lane (a : Fin 8) (e : Fin 64) : posOf (lane a e) = e := by
  apply Fin.ext; simp only [posOf, lane]; omega

/-- A head's lanes of a row. -/
def hd (v : Fin 512 → ℝ) (a : Fin 8) (e : Fin 64) : ℝ := v (lane a e)

/-- The gradient of the rows normed head by head. -/
def headBwd (d v : Fin 512 → ℝ) (g : Fin 64 → ℝ) (j : Fin 512) : ℝ :=
  nrmBwd (hd d (headOf j)) (hd v (headOf j)) g (posOf j)
/-- A lane's share of the gradient of the heads' gain. -/
def headGain (d v : Fin 512 → ℝ) (j : Fin 512) : ℝ := d j * (v j * rms (hd v (headOf j)))

variable (W : Weights) (T : Token)

/-- The gradient of the queries before the scale of the attention. -/
def dqs (j : Fin 512) : ℝ := T.dq j * (1 / 8)
/-- The gradient of the projection: queries, keys, values and the state-space input. -/
def dproj (j : Fin 2048) : ℝ :=
  if h : j.val < 512 then headBwd (dqs T) T.q W.gq ⟨j.val, h⟩
  else if h : j.val < 1024 then headBwd T.dk T.k W.gk ⟨j.val - 512, by omega⟩
  else if h : j.val < 1536 then T.dv ⟨j.val - 1024, by omega⟩
  else T.du ⟨j.val - 1536, by omega⟩
/-- The gradient of the normed residual stream. -/
def dxn (i : Fin 1024) : ℝ := ∑ j, dproj W T j * W.wi i j
/-- The gradient of the residual stream. -/
def dx (i : Fin 1024) : ℝ := T.r i + nrmBwd (dxn W T) T.x W.g1 i
/-- The token's share of the gradient of the norm's gain. -/
def dg1 (i : Fin 1024) : ℝ := dxn W T i * (T.x i * rms T.x)

/-- The literals of this call that the mixer does not use. -/
theorem lit_8th : Ideal.ofBits .f32 0x3E000000#32 = ((1 / 8 : ℝ) : EReal) := by
  simp [Ideal.ofBits, Ideal.ieee, -EReal.coe_mul]; norm_num
theorem lit_64th : Ideal.ofBits .f32 0x3C800000#32 = ((1 / 64 : ℝ) : EReal) := by
  simp [Ideal.ofBits, Ideal.ieee, -EReal.coe_mul]; norm_num
theorem lit_64 : Ideal.ofBits .f32 0x42800000#32 = ((64 : ℝ) : EReal) := by
  simp [Ideal.ofBits, Ideal.ieee, -EReal.coe_mul]; norm_num

theorem div_64 (a : ℝ) : Ideal.div (a : EReal) ((64 : ℝ) : EReal) = ((a / 64 : ℝ) : EReal) := div_real (by norm_num)

/-- These, together with the norm of a head. -/
theorem more :
    (Ideal.ofBits .f32 0x3E000000#32 = ((1 / 8 : ℝ) : EReal)) ∧ (Ideal.ofBits .f32 0x3C800000#32 = ((1 / 64 : ℝ) : EReal))
    ∧ (Ideal.ofBits .f32 0x42800000#32 = ((64 : ℝ) : EReal))
    ∧ (∀ a : ℝ, Ideal.div (a : EReal) ((64 : ℝ) : EReal) = ((a / 64 : ℝ) : EReal))
    ∧ (∀ {n : ℕ} (v : Fin n → ℝ), Ideal.rsqrt ((msq v : ℝ) : EReal) = ((rms v : ℝ) : EReal))
    ∧ (∀ {n : ℕ} (v : Fin n → ℝ), Ideal.div ((rms v : ℝ) : EReal) ((msq v : ℝ) : EReal) = ((rms v / msq v : ℝ) : EReal)) :=
  ⟨lit_8th, lit_64th, lit_64, div_64, rsqrt_msq, fun v => div_real (msq_pos v).ne'⟩

theorem msq_64 (v : Fin 64 → ℝ) : (∑ e, v e * v e) / 64 + eps = msq v := by simp only [msq]; norm_num
theorem msq_1024 (v : Fin 1024 → ℝ) : (∑ e, v e * v e) / 1024 + eps = msq v := by simp only [msq]; norm_num

/-- A rank-three array of extended reals whose elements are real. -/
def r3 {a b c : ℕ} (f : Fin a → Fin b → Fin c → ℝ) : (⟨3, ![a, b, c]⟩ : Shape).Idx → EReal :=
  fun i => ((f (i 0) (i 1) (i 2) : ℝ) : EReal)

theorem r3_ext {a b c : ℕ} {X : (⟨3, ![a, b, c]⟩ : Shape).Idx → EReal} {f : Fin a → Fin b → Fin c → ℝ}
    (h : ∀ i j k, X (ix3 i j k) = ((f i j k : ℝ) : EReal)) : X = r3 f := by
  funext i; rw [eq_ix3 i]; exact h _ _ _

theorem r3_at {a b c : ℕ} (f : Fin a → Fin b → Fin c → ℝ) (i : Fin a) (j : Fin b) (k : Fin c) :
    r3 f (ix3 i j k) = ((f i j k : ℝ) : EReal) := rfl

/-- A sum over 256 lanes that keeps one head's lanes is the sum over that head. -/
theorem sum_head (f : Fin 256 → ℝ) (a : Fin 4) :
    ∑ k : Fin 256, f k * (if k.val / 64 = a.val then 1 else 0) = ∑ e : Fin 64, f ⟨64 * a.val + e.val, by omega⟩ := by
  rw [← (finProdFinEquiv (m := 4) (n := 64)).sum_comp, Fintype.sum_prod_type, Finset.sum_eq_single a]
  · refine Finset.sum_congr rfl fun e _ => ?_
    have h : (finProdFinEquiv (m := 4) (n := 64) (a, e)) = ⟨64 * a.val + e.val, by omega⟩ := by
      apply Fin.ext; simp [finProdFinEquiv]; omega
    rw [h, if_pos (by show (64 * a.val + e.val) / 64 = a.val; omega), mul_one]
  · intro b _ hb
    refine Finset.sum_eq_zero fun e _ => ?_
    have h : (finProdFinEquiv (m := 4) (n := 64) (b, e)).val = 64 * b.val + e.val := by
      simp [finProdFinEquiv]; omega
    have hne : b.val ≠ a.val := fun hh => hb (Fin.ext hh)
    rw [h, if_neg (by omega), mul_zero]
  · intro h; exact absurd (Finset.mem_univ a) h

end Proj

end
-- ==== Proof.Proj.Head.lean ====
/-
  What each step of the kernel's body computes on real arrays: the means over heads and the norms built of them.
-/
module

public import proofs.«01_k».proof.Proof.Proj.Model
public import proofs.«01_k».proof.Proof.Gen.Kernel7Ideal.Skeleton

@[expose] public section

set_option maxRecDepth 16384

noncomputable section

namespace Proj

open Idealize.ShloMosaic Idealize.ShloMosaic.TcCoe Idealize.SL.Sem
open Cert.Kernel7Ideal Cert.Kernel7Ideal.Gen Mixer Mixer.Ref

/-- The matrix that sums each head's lanes. -/
def ones : FVec Ideal S256x256 .bf16 := rl fun k j : Fin 256 => if k.val / 64 = j.val / 64 then 1 else 0

/-- The sums over the heads of half the lanes: the array's upper bits, then what is left of it. -/
def half (o : Fin 2 → ℕ) (hs : S512x512.Slices o S512x256) (bd : FVec Ideal S256x256 .bf16) (X : FVec Ideal S512x512 .f32) : FVec Ideal S512x256 .f32 :=
  addf (matmul dot_S512x256_S256x256_S512x256_1_0_0_1_n_n none (extractStridedSlice S512x256 o (truncf .bf16 X bitsLt_bf16_f32) hs) bd (constant S512x256 .f32 0x00000000#32))
    (matmul dot_S512x256_S256x256_S512x256_1_0_0_1_n_n none (extractStridedSlice S512x256 o (truncf .bf16 (subf X (extf .f32 (truncf .bf16 X bitsLt_bf16_f32) bitsLt_bf16_f32)) bitsLt_bf16_f32) hs) bd (constant S512x256 .f32 0x00000000#32))

/-- The means over the heads. -/
def means (bd : FVec Ideal S256x256 .bf16) (X : FVec Ideal S512x512 .f32) : FVec Ideal S512x512 .f32 :=
  mulf (concatenate S512x512 1 [⟨S512x256, half ![0, 0] slices_S512x512_o0_0_S512x256 bd X⟩, ⟨S512x256, half ![0, 256] slices_S512x512_o0_256_S512x256 bd X⟩] concatenates_S512x256_S512x256_S512x512_d1)
    (broadcast S512x512 (Scalar.ofBits .f32 0x3C800000#32))

theorem half_lo (f : Fin 512 → Fin 512 → ℝ) : half ![0, 0] slices_S512x512_o0_0_S512x256 ones (rl f)
    = rl fun i j => ∑ e, hd (f i) ⟨j.val / 64, by omega⟩ e := by
  refine rl_ext fun i j => ?_
  simp only [half, ones]
  pointwise
  simp only [rl_at, lits, lift, coe_sum, zero_add, sub_self, zero_mul, Finset.sum_const_zero, add_zero]
  rw [sum_head (fun k => f i ⟨k.val, by omega⟩) ⟨j.val / 64, by omega⟩]; rfl

theorem half_hi (f : Fin 512 → Fin 512 → ℝ) : half ![0, 256] slices_S512x512_o0_256_S512x256 ones (rl f)
    = rl fun i j => ∑ e, hd (f i) ⟨j.val / 64 + 4, by omega⟩ e := by
  refine rl_ext fun i j => ?_
  simp only [half, ones]
  pointwise
  simp only [rl_at, lits, lift, coe_sum, zero_add, sub_self, zero_mul, Finset.sum_const_zero, add_zero]
  rw [sum_head (fun k => f i ⟨256 + k.val, by omega⟩) ⟨j.val / 64, by omega⟩]
  refine congrArg _ (Finset.sum_congr rfl fun e _ => congrArg (f i) (Fin.ext ?_))
  simp only [lane]; omega

theorem means_eq (f : Fin 512 → Fin 512 → ℝ) : means ones (rl f)
    = rl fun i j => (∑ e, hd (f i) (headOf j) e) / 64 := by
  refine rl_ext fun i j => ?_
  simp only [means, half_lo, half_hi]
  pointwise
  simp only [rl_at, lits, lift, more, coe_sum, zero_add]
  by_cases hj : j.val < 256
  · rw [dif_pos hj, half_lo, rl_at, lift.1, mul_one_div]; rfl
  · rw [dif_neg hj, half_hi, rl_at, lift.1, mul_one_div]
    refine congrArg _ (congrArg (· / 64) (Finset.sum_congr rfl fun e _ => congrArg (fun h => hd (f i) h e) (Fin.ext ?_)))
    simp only [headOf]; omega

/-- The norm's factor of each head. -/
def factor (bd : FVec Ideal S256x256 .bf16) (V : FVec Ideal S512x512 .f32) : FVec Ideal S512x512 .f32 :=
  rsqrt (addf (means bd (mulf V V)) (broadcast S512x512 (Scalar.ofBits .f32 0x358637BD#32)))

/-- The gradient through the norm of each head. -/
def through (bd : FVec Ideal S256x256 .bf16) (r xh dg : FVec Ideal S512x512 .f32) : FVec Ideal S512x512 .f32 :=
  mulf r (subf dg (mulf xh (means bd (mulf dg xh))))

theorem mul_rl {a b : ℕ} (f g : Fin a → Fin b → ℝ) :
    (mulf (F := Ideal) (φ := .f32) (rl f : FVec Ideal ⟨2, ![a, b]⟩ .f32) (rl g)) = rl fun i j => f i j * g i j := by
  refine rl_ext fun i j => ?_
  pointwise
  simp only [rl_at, lift]

theorem factor_eq (f : Fin 512 → Fin 512 → ℝ) : factor ones (rl f) = rl fun i j => rms (hd (f i) (headOf j)) := by
  refine rl_ext fun i j => ?_
  rw [factor, mul_rl, means_eq]
  pointwise
  simp only [rl_at, lits, lift]
  exact (congrArg Ideal.rsqrt (congrArg _ (msq_64 (hd (f i) (headOf j))))).trans (rsqrt_msq _)

theorem through_eq (d v : Fin 512 → Fin 512 → ℝ) (g : Fin 64 → ℝ) :
    through ones (rl fun i j => rms (hd (v i) (headOf j))) (rl fun i j => v i j * rms (hd (v i) (headOf j))) (rl fun i j => d i j * g (posOf j))
      = rl fun i j => headBwd (d i) (v i) g j := by
  refine rl_ext fun i j => ?_
  rw [through, mul_rl, means_eq]
  pointwise
  simp only [rl_at, lits, lift]
  simp only [hd, headOf_lane, posOf_lane, headBwd, nrmBwd, lane_of]
  norm_num

/-! The body's steps. -/

theorem p9 : k0_pay9 (F := Ideal) ones = ones := by
  refine rl_ext fun i j => ?_
  pointwise [k0_pay9]
  rfl

theorem p10 (d : Fin 512 → Fin 512 → ℝ) : k0_pay10 (F := Ideal) (rl d) = rl fun i j => d i j * (1 / 8) := by
  refine rl_ext fun i j => ?_
  pointwise [k0_pay10]
  simp only [rl_at, more, lift]

theorem p11 (v : Fin 512 → Fin 512 → ℝ) : k0_pay11 (F := Ideal) ones (rl v) = rl fun i j => rms (hd (v i) (headOf j)) := by
  rw [← factor_eq]
  have h : k0_pay11 (F := Ideal) ones (rl v) = factor (k0_pay9 (F := Ideal) ones) (rl v) := rfl
  rw [h, p9]

theorem p12 (v : Fin 512 → Fin 512 → ℝ) : k0_pay12 (F := Ideal) ones (rl v) = rl fun i j => v i j * rms (hd (v i) (headOf j)) := by
  rw [k0_pay12, p11]; exact mul_rl _ _

theorem gain_rl (d : Fin 512 → Fin 512 → ℝ) (g : Fin 512 → ℝ) :
    (mulf (F := Ideal) (φ := .f32) (rl d : FVec Ideal S512x512 .f32) (broadcastTo S512x512 (rl fun (_ : Fin 1) j => g j : FVec Ideal S1x512 .f32) broadcasts_S1x512_S512x512))
      = rl fun i j => d i j * g j := by
  refine rl_ext fun i j => ?_
  pointwise
  simp only [rl_at, lift]

theorem p17 (g : Fin 512 → ℝ) : k0_pay17 (F := Ideal) (rl fun (_ : Fin 1) j => g j) = rl fun (_ : Fin 1) j => g j := by
  refine rl_ext fun i j => ?_
  pointwise [k0_pay17]
  simp only [rl_at]

theorem p13 (d : Fin 512 → Fin 512 → ℝ) (g : Fin 512 → ℝ) :
    k0_pay13 (F := Ideal) (rl d) (rl fun (_ : Fin 1) j => g j) = rl fun i j => d i j * (1 / 8) * g j := by
  have h : k0_pay13 (F := Ideal) (rl d) (rl fun (_ : Fin 1) j => g j) = mulf (k0_pay10 (F := Ideal) (rl d)) (broadcastTo S512x512 (k0_pay17 (F := Ideal) (rl fun (_ : Fin 1) j => g j)) broadcasts_S1x512_S512x512) := rfl
  rw [h, p10, p17, gain_rl]

/-- The queries' part of the gradient of the projection. -/
theorem p16 (d v : Fin 512 → Fin 512 → ℝ) (g : Fin 64 → ℝ) :
    k0_pay16 (F := Ideal) (k0_pay9 (F := Ideal) ones) (k0_pay11 (F := Ideal) ones (rl v)) (k0_pay12 (F := Ideal) ones (rl v)) (k0_pay13 (F := Ideal) (rl d) (rl fun (_ : Fin 1) j => g (posOf j)))
      = rl fun i j => headBwd (fun l => d i l * (1 / 8)) (v i) g j := by
  rw [p9, p11, p12, p13, ← through_eq]; rfl

theorem p24 (v : Fin 512 → Fin 512 → ℝ) : k0_pay24 (F := Ideal) ones (k0_pay21 (F := Ideal) ones (rl v)) (k0_pay22 (F := Ideal) ones (rl v)) (k0_pay23 (F := Ideal) (rl v))
    = rl fun i j => rms (hd (v i) (headOf j)) := by
  rw [← factor_eq]; rfl

theorem p25 (v : Fin 512 → Fin 512 → ℝ) : k0_pay25 (F := Ideal) ones (rl v) (k0_pay21 (F := Ideal) ones (rl v)) (k0_pay22 (F := Ideal) ones (rl v)) (k0_pay23 (F := Ideal) (rl v))
    = rl fun i j => v i j * rms (hd (v i) (headOf j)) := by
  rw [k0_pay25, p24]; exact mul_rl _ _

/-- The keys' part of the gradient of the projection. -/
theorem p28 (d v : Fin 512 → Fin 512 → ℝ) (g : Fin 64 → ℝ) :
    k0_pay28 (F := Ideal) (k0_pay9 (F := Ideal) ones) (rl d) (rl v) (k0_pay17 (F := Ideal) (rl fun (_ : Fin 1) j => g (posOf j))) (k0_pay21 (F := Ideal) (k0_pay9 (F := Ideal) ones) (rl v)) (k0_pay22 (F := Ideal) (k0_pay9 (F := Ideal) ones) (rl v)) (k0_pay23 (F := Ideal) (rl v))
      = rl fun i j => headBwd (d i) (v i) g j := by
  have h : k0_pay28 (F := Ideal) ones (rl d) (rl v) (rl fun (_ : Fin 1) j => g (posOf j)) (k0_pay21 (F := Ideal) ones (rl v)) (k0_pay22 (F := Ideal) ones (rl v)) (k0_pay23 (F := Ideal) (rl v))
    = truncf .bf16 (through ones (k0_pay24 (F := Ideal) ones (k0_pay21 (F := Ideal) ones (rl v)) (k0_pay22 (F := Ideal) ones (rl v)) (k0_pay23 (F := Ideal) (rl v))) (k0_pay25 (F := Ideal) ones (rl v) (k0_pay21 (F := Ideal) ones (rl v)) (k0_pay22 (F := Ideal) ones (rl v)) (k0_pay23 (F := Ideal) (rl v)))
        (mulf (F := Ideal) (φ := .f32) (rl d : FVec Ideal S512x512 .f32) (broadcastTo S512x512 (rl fun (_ : Fin 1) j => g (posOf j) : FVec Ideal S1x512 .f32) broadcasts_S1x512_S512x512))) bitsLt_bf16_f32 := rfl
  rw [p9, p17, h, p24, p25, gain_rl d fun j => g (posOf j), through_eq]; rfl

/-- The columns' sums of a product. -/
theorem colsum (f g : Fin 512 → Fin 512 → ℝ) :
    multiReduction (F := Ideal) .add [0] S512 (mulf (F := Ideal) (φ := .f32) (rl f : FVec Ideal S512x512 .f32) (rl g)) 0x00000000#32 reduces_S512x512_S512 (.inl rfl) rfl
      = r1 fun j => ∑ i, f i j * g i j := by
  refine r1_ext fun j => ?_
  pointwise
  simp only [rl_at, lift, coe_sum]

theorem p15 (acc : FVec Ideal S1x512 .f32) (b : Fin 512 → ℝ) (x : S1x512.Idx) :
    k0_pay15 (F := Ideal) acc (r1 b) x = acc x + ((b (x 1) : ℝ) : EReal) := by
  pointwise [k0_pay15]
  rfl

/-- One step of the running sum of the queries' gain. -/
theorem p15_14 (acc : FVec Ideal S1x512 .f32) (d v : Fin 512 → Fin 512 → ℝ) (x : S1x512.Idx) :
    k0_pay15 (F := Ideal) acc (k0_pay14 (F := Ideal) ones (rl d) (rl v)) x
      = acc x + ((∑ i, headGain (fun l => d i l * (1 / 8)) (v i) (x 1) : ℝ) : EReal) := by
  rw [k0_pay14, p10, p12, colsum, p15]; rfl

/-- One step of the running sum of the keys' gain. -/
theorem p26 (acc : FVec Ideal S1x512 .f32) (d v : Fin 512 → Fin 512 → ℝ) (x : S1x512.Idx) :
    k0_pay26 (F := Ideal) (k0_pay9 (F := Ideal) ones) (rl d) (rl v) (k0_pay21 (F := Ideal) (k0_pay9 (F := Ideal) ones) (rl v)) (k0_pay22 (F := Ideal) (k0_pay9 (F := Ideal) ones) (rl v)) (k0_pay23 (F := Ideal) (rl v)) acc x
      = acc x + ((∑ i, headGain (d i) (v i) (x 1) : ℝ) : EReal) := by
  have h : k0_pay26 (F := Ideal) ones (rl d) (rl v) (k0_pay21 (F := Ideal) ones (rl v)) (k0_pay22 (F := Ideal) ones (rl v)) (k0_pay23 (F := Ideal) (rl v)) acc
    = k0_pay15 (F := Ideal) acc (multiReduction .add [0] S512 (mulf (F := Ideal) (φ := .f32) (rl d : FVec Ideal S512x512 .f32) (k0_pay25 (F := Ideal) ones (rl v) (k0_pay21 (F := Ideal) ones (rl v)) (k0_pay22 (F := Ideal) ones (rl v)) (k0_pay23 (F := Ideal) (rl v)))) 0x00000000#32 reduces_S512x512_S512 (.inl rfl) rfl) := rfl
  rw [p9, h, p25, colsum, p15]; rfl

/-- The sums start at zero. -/
theorem p6 (x : S1x1024.Idx) : k0_pay6 (F := Ideal) x = 0 := by pointwise [k0_pay6]
theorem p7 (x : S1x512.Idx) : k0_pay7 (F := Ideal) x = 0 := by pointwise [k0_pay7]
theorem p8 (x : S1x512.Idx) : k0_pay8 (F := Ideal) x = 0 := by pointwise [k0_pay8]

/-- The roundings to bf16 change nothing. -/
theorem p27 (f : Fin 512 → Fin 512 → ℝ) : k0_pay27 (F := Ideal) (rl f) = rl f := by
  refine rl_ext fun i j => ?_; pointwise [k0_pay27]; rfl
theorem p29 (f : Fin 512 → Fin 512 → ℝ) : k0_pay29 (F := Ideal) (rl f) = rl f := by
  refine rl_ext fun i j => ?_; pointwise [k0_pay29]; rfl
theorem p30 (f : Fin 512 → Fin 512 → ℝ) : k0_pay30 (F := Ideal) (rl f) = rl f := by
  refine rl_ext fun i j => ?_; pointwise [k0_pay30]; rfl

/-- Eight slices of a row add up, head by head. -/
theorem p4 (f : Fin 8 → Fin 64 → ℝ) :
    k0_pay4 (F := Ideal) (rl fun (_ : Fin 1) e => f 0 e) (rl fun (_ : Fin 1) e => f 1 e) (rl fun (_ : Fin 1) e => f 2 e) (rl fun (_ : Fin 1) e => f 3 e)
      (rl fun (_ : Fin 1) e => f 4 e) (rl fun (_ : Fin 1) e => f 5 e) (rl fun (_ : Fin 1) e => f 6 e) (rl fun (_ : Fin 1) e => f 7 e)
      = rl fun (_ : Fin 1) e => ∑ a, f a e := by
  refine rl_ext fun i j => ?_
  pointwise [k0_pay4]
  simp only [rl_at, lift, Fin.sum_univ_eight]
theorem p3_5 (f : Fin 8 → Fin 64 → ℝ) :
    k0_pay3 (F := Ideal) (k0_pay5 (F := Ideal) (rl fun (_ : Fin 1) e => f 0 e) (rl fun (_ : Fin 1) e => f 1 e) (rl fun (_ : Fin 1) e => f 2 e) (rl fun (_ : Fin 1) e => f 3 e)
      (rl fun (_ : Fin 1) e => f 4 e) (rl fun (_ : Fin 1) e => f 5 e)) (rl fun (_ : Fin 1) e => f 6 e) (rl fun (_ : Fin 1) e => f 7 e)
      = rl fun (_ : Fin 1) e => ∑ a, f a e := p4 f

/-! From the gradient of the projection to the gradient of the residual stream. -/

variable (W : Weights) (T : Fin 512 → Token)

theorem p31 : k0_pay31 (F := Ideal) (rl fun i j => dproj W (T i) j) (rl W.wi) = rl fun i j => dxn W (T i) j := by
  refine rl_ext fun i j => ?_
  pointwise [k0_pay31]
  simp only [rl_at, lift, coe_sum, zero_add]
  rfl

theorem p32 : k0_pay32 (F := Ideal) (rl fun i j => (T i).x j) = rl fun i (_ : Fin 1) => rms (T i).x := by
  refine rl_ext fun i j => ?_
  pointwise [k0_pay32]
  simp only [rl_at, lits, lift, coe_sum, zero_add]

theorem p33 : k0_pay33 (F := Ideal) (rl fun i j => (T i).x j) = rl fun i j => (T i).x j * rms (T i).x := by
  refine rl_ext fun i j => ?_
  rw [k0_pay33, p32]
  pointwise
  simp only [rl_at, lift]

theorem p34 : k0_pay34 (F := Ideal) (rl fun i j => dproj W (T i) j) (rl W.wi) (rl fun (_ : Fin 1) j => W.g1 j) = rl fun i j => dxn W (T i) j * W.g1 j := by
  refine rl_ext fun i j => ?_
  rw [k0_pay34, p31]
  pointwise
  simp only [rl_at, lift]

theorem p35 : k0_pay35 (F := Ideal) (rl fun i j => dproj W (T i) j) (rl W.wi) (rl fun i j => (T i).x j) (rl fun (_ : Fin 1) j => W.g1 j)
    = rl fun i (_ : Fin 1024) => (∑ k, dxn W (T i) k * W.g1 k * ((T i).x k * rms (T i).x)) / 1024 := by
  refine rl_ext fun i j => ?_
  rw [k0_pay35, p34, p33]
  pointwise
  simp only [rl_at, lits, lift, coe_sum, zero_add]

/-- The gradient of the residual stream. -/
theorem p1 : k0_pay1 (F := Ideal) (k0_pay32 (F := Ideal) (rl fun i j => (T i).x j)) (k0_pay33 (F := Ideal) (rl fun i j => (T i).x j))
    (k0_pay34 (F := Ideal) (rl fun i j => dproj W (T i) j) (rl W.wi) (rl fun (_ : Fin 1) j => W.g1 j))
    (k0_pay35 (F := Ideal) (rl fun i j => dproj W (T i) j) (rl W.wi) (rl fun i j => (T i).x j) (rl fun (_ : Fin 1) j => W.g1 j))
    (rl fun i j => (T i).r j) = rl fun i j => dx W (T i) j := by
  refine rl_ext fun i j => ?_
  rw [p32, p33, p34, p35]
  pointwise [k0_pay1]
  simp only [rl_at, lift]
  simp only [dx, nrmBwd]
  norm_num

/-- One step of the running sum of the gradient of the norm's gain. -/
theorem p2 (acc : FVec Ideal S1x1024 .f32) (x : S1x1024.Idx) :
    k0_pay2 (F := Ideal) (k0_pay31 (F := Ideal) (rl fun i j => dproj W (T i) j) (rl W.wi)) (k0_pay33 (F := Ideal) (rl fun i j => (T i).x j)) acc x
      = acc x + ((∑ i, dg1 W (T i) (x 1) : ℝ) : EReal) := by
  rw [p31, p33]
  obtain ⟨i, j, rfl⟩ : ∃ (i : Fin 1) (j : Fin 1024), x = ix2 i j := ⟨x 0, x 1, eq_ix2 x⟩
  pointwise [k0_pay2]
  simp only [rl_at, lift, coe_sum, zero_add]
  rfl

end Proj

end
-- ==== Proof.Proj.Given.lean ====
/-
  What the call's blocks hold: at every point the rows of 512 tokens, and the weights, the tiled gains and the matrix that
  sums each head's lanes.
-/
module

public import proofs.«01_k».proof.Proof.Proj.Head
public import proofs.«01_k».proof.Proof.Gen.Kernel7Ideal.Frame.Runs
public import Idealize.ShloMosaic.Lib.Pipeline.ValueKit
public import Idealize.ShloMosaic.Lib.StableHlo.RunRead

@[expose] public section

set_option maxRecDepth 16384

noncomputable section

namespace Proj

open Idealize.ShloMosaic Idealize.ShloMosaic.TcCoe Idealize.ShloMosaic.Tactic Idealize.SL.Sem
open Idealize.ShloMosaic.Pipeline (Dat Cfg Window BodyObligation cellOf)
open Cert.Kernel7Ideal Cert.Kernel7Ideal.Gen Mixer Mixer.Ref

variable (m : (ℓ : Loc nD τ sig) → Buf (Elt Ideal) ℓ)

/-- The launched arrays are real: the weights and the 16384 tokens. -/
structure Launched (c : Dev nD) (W : Weights) (T : Fin 16384 → Token) : Prop where
  dq : m ((c : Thread nD τ).loc main_arg0) = rl fun i j => (T i).dq j
  dk : m ((c : Thread nD τ).loc main_arg1) = rl fun i j => (T i).dk j
  dv : m ((c : Thread nD τ).loc main_arg2) = rl fun i j => (T i).dv j
  du : m ((c : Thread nD τ).loc main_arg3) = rl fun i j => (T i).du j
  q : m ((c : Thread nD τ).loc main_arg4) = rl fun i j => (T i).q j
  k : m ((c : Thread nD τ).loc main_arg5) = rl fun i j => (T i).k j
  x : m ((c : Thread nD τ).loc main_arg6) = rl fun i j => (T i).x j
  r : m ((c : Thread nD τ).loc main_arg7) = rl fun i j => (T i).r j
  wi : m ((c : Thread nD τ).loc main_arg8) = rl W.wi
  g1 : m ((c : Thread nD τ).loc main_arg9) = r1 W.g1
  gq : m ((c : Thread nD τ).loc main_arg10) = r1 W.gq
  gk : m ((c : Thread nD τ).loc main_arg11) = r1 W.gk

/-- The token of a point's row. -/
def tok (t : Fin cfg0.N) (i : Fin 512) : Fin 16384 :=
  ⟨t.val * 512 + i.val, by have := lt_of_lt_of_eq t.isLt (show cfg0.N = 32 from N_0); omega⟩

/-- Where each point's blocks lie. -/
theorem blocks : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![0, 0] ∧ win0_9.index t = ![0, 0] ∧ win0_10.index t = ![0, 0] ∧ win0_11.index t = ![0, 0] ∧ win0_12.index t = ![0, 0] :=
  (by decide +kernel : ∀ t : Fin grid0.N, _)

variable {m} {c : Dev nD} {W : Weights} {T : Fin 16384 → Token} (h : Launched m c W T)
include h

theorem blk_dq (t : Fin cfg0.N) : iblk m c 0 t = rl fun i j => (T (tok t i)).dq j := by
  refine rl_ext (a := 512) (b := 512) fun i j => ?_
  refine Eq.trans ?_ (congrFun h.dq (ix2 (tok t i) j))
  blk_point [iblk, V, blocks t]
  rfl
theorem blk_dk (t : Fin cfg0.N) : iblk m c 1 t = rl fun i j => (T (tok t i)).dk j := by
  refine rl_ext (a := 512) (b := 512) fun i j => ?_
  refine Eq.trans ?_ (congrFun h.dk (ix2 (tok t i) j))
  blk_point [iblk, V, blocks t]
  rfl
theorem blk_dv (t : Fin cfg0.N) : iblk m c 2 t = rl fun i j => (T (tok t i)).dv j := by
  refine rl_ext (a := 512) (b := 512) fun i j => ?_
  refine Eq.trans ?_ (congrFun h.dv (ix2 (tok t i) j))
  blk_point [iblk, V, blocks t]
  rfl
theorem blk_du (t : Fin cfg0.N) : iblk m c 3 t = rl fun i j => (T (tok t i)).du j := by
  refine rl_ext (a := 512) (b := 512) fun i j => ?_
  refine Eq.trans ?_ (congrFun h.du (ix2 (tok t i) j))
  blk_point [iblk, V, blocks t]
  rfl
theorem blk_q (t : Fin cfg0.N) : iblk m c 4 t = rl fun i j => (T (tok t i)).q j := by
  refine rl_ext (a := 512) (b := 512) fun i j => ?_
  refine Eq.trans ?_ (congrFun h.q (ix2 (tok t i) j))
  blk_point [iblk, V, blocks t]
  rfl
theorem blk_k (t : Fin cfg0.N) : iblk m c 5 t = rl fun i j => (T (tok t i)).k j := by
  refine rl_ext (a := 512) (b := 512) fun i j => ?_
  refine Eq.trans ?_ (congrFun h.k (ix2 (tok t i) j))
  blk_point [iblk, V, blocks t]
  rfl
theorem blk_x (t : Fin cfg0.N) : iblk m c 6 t = rl fun i j => (T (tok t i)).x j := by
  refine rl_ext (a := 512) (b := 1024) fun i j => ?_
  refine Eq.trans ?_ (congrFun h.x (ix2 (tok t i) j))
  blk_point [iblk, V, blocks t]
  rfl
theorem blk_r (t : Fin cfg0.N) : iblk m c 7 t = rl fun i j => (T (tok t i)).r j := by
  refine rl_ext (a := 512) (b := 1024) fun i j => ?_
  refine Eq.trans ?_ (congrFun h.r (ix2 (tok t i) j))
  blk_point [iblk, V, blocks t]
  rfl
theorem blk_wi (t : Fin cfg0.N) : iblk m c 8 t = rl W.wi := by
  refine rl_ext (a := 1024) (b := 2048) fun i j => ?_
  refine Eq.trans ?_ (congrFun h.wi (ix2 i j))
  blk_point [iblk, V, blocks t]

omit h in
/-- What the program's own operations leave before the call: the gains laid out in rows, and the matrix of ones within a head. -/
theorem V_g1 : V m c main_v6 = shapeCast S1x1024 (m ((c : Thread nD τ).loc main_arg9)) shapeCasts_S1024_S1x1024 := by
  after_reads_simp
  rfl
omit h in
theorem V_gq : V m c main_v10 = shapeCast S1x512 (broadcastInDim S1x1x8x64 ![0, 1, 2, 3] bcast_S1x1x1x64_S1x1x8x64_0_1_2_3 (shapeCast S1x1x1x64 (shapeCast S1x64 (m ((c : Thread nD τ).loc main_arg10)) shapeCasts_S64_S1x64) shapeCasts_S1x64_S1x1x1x64)) shapeCasts_S1x1x8x64_S1x512 := by
  after_reads_simp
  rfl
omit h in
theorem V_gk : V m c main_v14 = shapeCast S1x512 (broadcastInDim S1x1x8x64 ![0, 1, 2, 3] bcast_S1x1x1x64_S1x1x8x64_0_1_2_3 (shapeCast S1x1x1x64 (shapeCast S1x64 (m ((c : Thread nD τ).loc main_arg11)) shapeCasts_S64_S1x64) shapeCasts_S1x64_S1x1x1x64)) shapeCasts_S1x1x8x64_S1x512 := by
  after_reads_simp
  rfl

/-- A scalar in every place. -/
abbrev every (v : BitVec 32) : IVec S256x256 32 := broadcastInDim S256x256 ![] bcast_S_S256x256 (constantI S_ 32 v)
/-- The program's division by 64, rounded down. -/
def fdiv (x : IVec S256x256 32) : IVec S256x256 32 :=
  select (andi (cmpi .ne (signi x) (broadcastInDim S256x256 ![] bcast_S_S256x256 (signi (constantI S_ 32 64#32)))) (cmpi .ne (Host.remsi x (every 64#32)) (every 0#32)))
    (subi (Host.divsi x (every 64#32)) (every 1#32)) (Host.divsi x (every 64#32))

omit h in
theorem V_bd : V m c main_v5 = uitofp (F := Ideal) .bf16 (cmpi .eq (fdiv (iotaInDim S256x256 32 0)) (fdiv (iotaInDim S256x256 32 1))) := by
  after_reads_simp
  rfl

omit h
/-- The same division on one number. -/
def quot (x : BitVec 32) : BitVec 32 :=
  Scalar.select (IntOp.andi (IntOp.cmpi .ne (if x = 0 then 0 else if x.msb = true then -1 else 1) (if 64#32 = 0 then 0 else if (64#32).msb = true then -1 else (1 : BitVec 32)))
      (IntOp.cmpi .ne (IntOp.remsi .host x 64#32) 0#32))
    (IntOp.subi (IntOp.divsi .host x 64#32) 1#32) (IntOp.divsi .host x 64#32)

theorem quot_eq : ∀ i : Fin 256, quot (BitVec.ofNat 32 i.val) = BitVec.ofNat 32 (i.val / 64) := by decide +kernel

theorem fdiv_0 (i j : Fin 256) : fdiv (iotaInDim S256x256 32 0) (ix2 i j) = BitVec.ofNat 32 (i.val / 64) := by
  pointwise [fdiv]
  exact quot_eq i
theorem fdiv_1 (i j : Fin 256) : fdiv (iotaInDim S256x256 32 1) (ix2 i j) = BitVec.ofNat 32 (j.val / 64) := by
  pointwise [fdiv]
  exact quot_eq j
/-- Whether two numbers of heads are the same, as the program computes it. -/
theorem same_bit (a b : Fin 4) : IntOp.cmpi .eq (BitVec.ofNat 32 a.val) (BitVec.ofNat 32 b.val) = if a.val = b.val then 1#1 else 0#1 := by
  revert a b; decide +kernel
theorem bd_at (i j : Fin 256) : uitofp (F := Ideal) .bf16 (cmpi .eq (fdiv (iotaInDim S256x256 32 0)) (fdiv (iotaInDim S256x256 32 1))) (ix2 i j)
    = (((if i.val / 64 = j.val / 64 then 1 else 0 : ℝ)) : EReal) := by
  have h : cmpi .eq (fdiv (iotaInDim S256x256 32 0)) (fdiv (iotaInDim S256x256 32 1)) (ix2 i j) = if i.val / 64 = j.val / 64 then 1#1 else 0#1 := by
    show IntOp.cmpi .eq (fdiv _ (ix2 i j)) (fdiv _ (ix2 i j)) = _
    rw [fdiv_0, fdiv_1]
    exact same_bit ⟨i.val / 64, by omega⟩ ⟨j.val / 64, by omega⟩
  show FloatOps.uitofp (F := Ideal) FTy.bf16 (cmpi .eq (fdiv (iotaInDim S256x256 32 0)) (fdiv (iotaInDim S256x256 32 1)) (ix2 i j)) = _
  rw [h]
  split
  · show ((((1#1 : BitVec 1).toNat : ℝ)) : EReal) = _
    norm_num
  · show ((((0#1 : BitVec 1).toNat : ℝ)) : EReal) = _
    norm_num

include h
theorem blk_g1 (t : Fin cfg0.N) : iblk m c 9 t = rl fun (_ : Fin 1) j => W.g1 j := by
  refine rl_ext (a := 1) (b := 1024) fun i j => ?_
  refine Eq.trans (b := V m c main_v6 (ix2 i j)) (by blk_point [iblk, blocks t]) ?_
  rw [V_g1, h.g1]
  pointwise
  rfl
theorem blk_gq (t : Fin cfg0.N) : iblk m c 10 t = rl fun (_ : Fin 1) j => W.gq (posOf j) := by
  refine rl_ext (a := 1) (b := 512) fun i j => ?_
  refine Eq.trans (b := V m c main_v10 (ix2 i j)) (by blk_point [iblk, blocks t]) ?_
  rw [V_gq, h.gq]
  pointwise
  rfl
theorem blk_gk (t : Fin cfg0.N) : iblk m c 11 t = rl fun (_ : Fin 1) j => W.gk (posOf j) := by
  refine rl_ext (a := 1) (b := 512) fun i j => ?_
  refine Eq.trans (b := V m c main_v14 (ix2 i j)) (by blk_point [iblk, blocks t]) ?_
  rw [V_gk, h.gk]
  pointwise
  rfl
omit h in
theorem blk_bd (t : Fin cfg0.N) : iblk m c 12 t = ones := by
  refine rl_ext (a := 256) (b := 256) fun i j => ?_
  refine Eq.trans (b := V m c main_v5 (ix2 i j)) (by blk_point [iblk, blocks t]) ?_
  rw [V_bd]
  exact bd_at i j

end Proj

end
-- ==== Proof.Proj.Point.lean ====
/-
  What every point leaves: the two blocks of gradients it computes whole, and the running sums it adds to.
-/
module

public import proofs.«01_k».proof.Proof.Proj.Given
public import proofs.«01_k».proof.Proof.Gen.Kernel7Ideal.Frame
public import Idealize.ShloMosaic.Lib.Pipeline.ReadBack

@[expose] public section

set_option maxRecDepth 16384

noncomputable section

namespace Proj

open Idealize.ShloMosaic Idealize.ShloMosaic.TcCoe Idealize.ShloMosaic.Tactic Idealize.SL.Sem
open Idealize.ShloMosaic.Pipeline (Dat Cfg Window BodyObligation cellOf)
open Cert.Kernel7Ideal Cert.Kernel7Ideal.Gen Mixer Mixer.Ref

/-! The four parts of the gradient of the projection. -/

theorem dproj_q (W : Weights) (T : Token) (j : Fin 512) : dproj W T ⟨j.val, by omega⟩ = headBwd (dqs T) T.q W.gq j := by
  rw [dproj, dif_pos j.isLt]
theorem dproj_k (W : Weights) (T : Token) (j : Fin 512) : dproj W T ⟨512 + j.val, by omega⟩ = headBwd T.dk T.k W.gk j := by
  rw [dproj, dif_neg (by dsimp only; omega), dif_pos (by dsimp only; omega)]
  exact congrArg (headBwd T.dk T.k W.gk) (Fin.ext (Nat.add_sub_cancel_left 512 j.val))
theorem dproj_v (W : Weights) (T : Token) (j : Fin 512) : dproj W T ⟨1024 + j.val, by omega⟩ = T.dv j := by
  rw [dproj, dif_neg (by dsimp only; omega), dif_neg (by dsimp only; omega), dif_pos (by dsimp only; omega)]
  exact congrArg T.dv (Fin.ext (Nat.add_sub_cancel_left 1024 j.val))
theorem dproj_u (W : Weights) (T : Token) (j : Fin 512) : dproj W T ⟨1536 + j.val, by omega⟩ = T.du j := by
  rw [dproj, dif_neg (by dsimp only; omega), dif_neg (by dsimp only; omega), dif_neg (by dsimp only; omega)]
  exact congrArg T.du (Fin.ext (Nat.add_sub_cancel_left 1536 j.val))

/-- The four stores of the block's column runs. -/
abbrev runs4 (X3 X2 X1 X0 : S512x512.Idx → EReal) : List (View.Piece (Elt Ideal) S512x2048 .bf16) :=
  [⟨Rect.unit ![0, 1536] ![512, 512] inb_S512x2048_S512x512_0_1536, X3⟩, ⟨Rect.unit ![0, 1024] ![512, 512] inb_S512x2048_S512x512_0_1024, X2⟩,
    ⟨Rect.unit ![0, 512] ![512, 512] inb_S512x2048_S512x512_0_512, X1⟩, ⟨Rect.unit ![0, 0] ![512, 512] inb_S512x2048_S512x512_0_0, X0⟩]

theorem canon_proj (W : Weights) (T : Fin 512 → Token) :
    View.canon (Val := Elt Ideal) (runs4 (rl fun i j => (T i).du j) (rl fun i j => (T i).dv j) (rl fun i j => headBwd (T i).dk (T i).k W.gk j)
      (rl fun i j => headBwd (dqs (T i)) (T i).q W.gq j)) = rl fun i j => dproj W (T i) j := by
  funext y
  refine View.canon_apply_of_pieces (Val := Elt Ideal) (e := .bf16) (S := S512x2048) (rl fun i j => dproj W (T i) j) (runs4 _ _ _ _) (View.PiecesOf.mem ⟨?_, ?_, ?_, ?_, trivial⟩) y
    (View.cover_of_tiledL _ ![512, 512] (by rfl) y)
  · intro x
    refine congrArg Real.toEReal ((dproj_u W (T (x 0)) (x 1)).symm.trans (congrArg₂ (fun i c => dproj W (T i) c) (Fin.ext ?_) (Fin.ext ?_)))
    · show (x 0).val = 0 + 1 * (x 0).val; rw [one_mul, zero_add]
    · show 1536 + (x 1).val = 1536 + 1 * (x 1).val; rw [one_mul]
  · intro x
    refine congrArg Real.toEReal ((dproj_v W (T (x 0)) (x 1)).symm.trans (congrArg₂ (fun i c => dproj W (T i) c) (Fin.ext ?_) (Fin.ext ?_)))
    · show (x 0).val = 0 + 1 * (x 0).val; rw [one_mul, zero_add]
    · show 1024 + (x 1).val = 1024 + 1 * (x 1).val; rw [one_mul]
  · intro x
    refine congrArg Real.toEReal ((dproj_k W (T (x 0)) (x 1)).symm.trans (congrArg₂ (fun i c => dproj W (T i) c) (Fin.ext ?_) (Fin.ext ?_)))
    · show (x 0).val = 0 + 1 * (x 0).val; rw [one_mul, zero_add]
    · show 512 + (x 1).val = 512 + 1 * (x 1).val; rw [one_mul]
  · intro x
    refine congrArg Real.toEReal ((dproj_q W (T (x 0)) (x 1)).symm.trans (congrArg₂ (fun i c => dproj W (T i) c) (Fin.ext ?_) (Fin.ext ?_)))
    · show (x 0).val = 0 + 1 * (x 0).val; rw [one_mul, zero_add]
    · show (x 1).val = 0 + 1 * (x 1).val; rw [one_mul, zero_add]

/-- A row of 512 stored whole and read back in a run of 64. -/
theorem slice (b : Ref sig .tc) (v : View sig .tc b.space S1x512 .f32) (X : S1x512.Idx → EReal) (f : Fin 512 → ℝ) (hX : X = rl fun (_ : Fin 1) j => f j) (o : ℕ) (a : Fin 8) (ho : o = 64 * a.val)
    (hw : ∀ k, (![0, 0] : Fin 2 → ℕ) k + (![1, 512] : Fin 2 → ℕ) k ≤ S1x512.size k) (h : ∀ k, (![0, o] : Fin 2 → ℕ) k + (![1, 64] : Fin 2 → ℕ) k ≤ S1x512.size k) :
    View.readCov (Val := Elt Ideal) v [⟨Rect.unit (s := S1x512) ![0, 0] ![1, 512] hw, X⟩] (Rect.unit (s := S1x512) ![0, o] ![1, 64] h).toLoadRect = rl fun (_ : Fin 1) e => f (lane a e) := by
  subst ho hX
  rw [View.readCov_eq_canon']
  refine rl_ext (a := 1) (b := 64) fun i e => ?_
  rw [View.canon_cons_unit_lit (Val := Elt Ideal) (e := .f32) (S := S1x512) (off := ![0, 0]) _ (rl fun (_ : Fin 1) j => f j) [] (by decide)]
  refine congrArg Real.toEReal (congrArg f (Fin.ext ?_))
  show 64 * a.val + 1 * e.val = _
  rw [one_mul]; rfl

/-- Eight such runs of a row added up, in the two ways the body adds them. -/
theorem fold4 (f : Fin 512 → ℝ) (X0 X1 X2 X3 X4 X5 X6 X7 : FVec Ideal S1x64 .f32) (h0 : X0 = rl fun (_ : Fin 1) e => f (lane 0 e)) (h1 : X1 = rl fun (_ : Fin 1) e => f (lane 1 e))
    (h2 : X2 = rl fun (_ : Fin 1) e => f (lane 2 e)) (h3 : X3 = rl fun (_ : Fin 1) e => f (lane 3 e)) (h4 : X4 = rl fun (_ : Fin 1) e => f (lane 4 e))
    (h5 : X5 = rl fun (_ : Fin 1) e => f (lane 5 e)) (h6 : X6 = rl fun (_ : Fin 1) e => f (lane 6 e)) (h7 : X7 = rl fun (_ : Fin 1) e => f (lane 7 e)) :
    k0_pay4 (F := Ideal) X0 X1 X2 X3 X4 X5 X6 X7 = rl fun (_ : Fin 1) e => ∑ a, f (lane a e) := by
  rw [h0, h1, h2, h3, h4, h5, h6, h7]
  exact p4 fun a e => f (lane a e)

variable {m : (ℓ : Loc nD τ sig) → Buf (Elt Ideal) ℓ} {c : Dev nD} {W : Weights} {T : Fin 16384 → Token} (h : Launched m c W T)
include h

/-- The block of the gradient of the projection, from the call's blocks. -/
theorem canon_at (t : Fin cfg0.N) : View.canon (Val := Elt Ideal) (runs4 (k0_pay30 (F := Ideal) (iblk m c 3 t)) (k0_pay29 (F := Ideal) (iblk m c 2 t))
      (k0_pay28 (F := Ideal) (k0_pay9 (F := Ideal) (iblk m c 12 t)) (iblk m c 1 t) (iblk m c 5 t) (k0_pay17 (F := Ideal) (iblk m c 11 t)) (k0_pay21 (F := Ideal) (k0_pay9 (F := Ideal) (iblk m c 12 t)) (iblk m c 5 t))
        (k0_pay22 (F := Ideal) (k0_pay9 (F := Ideal) (iblk m c 12 t)) (iblk m c 5 t)) (k0_pay23 (F := Ideal) (iblk m c 5 t)))
      (k0_pay27 (F := Ideal) (k0_pay16 (F := Ideal) (k0_pay9 (F := Ideal) (iblk m c 12 t)) (k0_pay11 (F := Ideal) (iblk m c 12 t) (iblk m c 4 t)) (k0_pay12 (F := Ideal) (iblk m c 12 t) (iblk m c 4 t)) (k0_pay13 (F := Ideal) (iblk m c 0 t) (iblk m c 10 t)))))
      = rl fun i j => dproj W (T (tok t i)) j := by
  rw [blk_bd, blk_dq h, blk_dk h, blk_dv h, blk_du h, blk_q h, blk_k h, blk_gq h, blk_gk h, p30, p29, p28 _ _ W.gk, p16 _ _ W.gq, p27]
  exact canon_proj W fun i => T (tok t i)

theorem back_at (t : Fin cfg0.N) (v : View sig .tc .vmem S512x2048 .bf16) : v.readCov (Val := Elt Ideal) (runs4 (k0_pay30 (F := Ideal) (iblk m c 3 t)) (k0_pay29 (F := Ideal) (iblk m c 2 t))
      (k0_pay28 (F := Ideal) (k0_pay9 (F := Ideal) (iblk m c 12 t)) (iblk m c 1 t) (iblk m c 5 t) (k0_pay17 (F := Ideal) (iblk m c 11 t)) (k0_pay21 (F := Ideal) (k0_pay9 (F := Ideal) (iblk m c 12 t)) (iblk m c 5 t))
        (k0_pay22 (F := Ideal) (k0_pay9 (F := Ideal) (iblk m c 12 t)) (iblk m c 5 t)) (k0_pay23 (F := Ideal) (iblk m c 5 t)))
      (k0_pay27 (F := Ideal) (k0_pay16 (F := Ideal) (k0_pay9 (F := Ideal) (iblk m c 12 t)) (k0_pay11 (F := Ideal) (iblk m c 12 t) (iblk m c 4 t)) (k0_pay12 (F := Ideal) (iblk m c 12 t) (iblk m c 4 t)) (k0_pay13 (F := Ideal) (iblk m c 0 t) (iblk m c 10 t)))))
      (Rect.unit ![0, 0] ![512, 2048] inb_S512x2048_S512x2048_0_0).toLoadRect
      = rl fun i j => dproj W (T (tok t i)) j := by
  rw [View.readCov_eq_canon', canon_at h]
  refine rl_ext (a := 512) (b := 2048) fun i j => congrArg Real.toEReal (congrArg₂ (fun i c => dproj W (T (tok t i)) c) (Fin.ext ?_) (Fin.ext ?_))
  · show 0 + 1 * i.val = _; rw [one_mul, zero_add]
  · show 0 + 1 * j.val = _; rw [one_mul, zero_add]

theorem out_dproj (t : Fin cfg0.N) : (outsAt0 m c t.val t.isLt).2.1 = rl fun i j => dproj W (T (tok t i)) j := by
  by_cases h0 : t.val % 32 = 0
  · rw [outsAt0_A m c t h0 (by omega)]; frame_out; exact canon_at h t
  · by_cases h1 : t.val % 32 = 31
    · rw [outsAt0_C m c t h0 h1]; frame_out; exact canon_at h t
    · rw [outsAt0_B m c t h0 h1]; frame_out; exact canon_at h t

theorem out_dx (t : Fin cfg0.N) : (outsAt0 m c t.val t.isLt).1 = rl fun i j => dx W (T (tok t i)) j := by
  by_cases h0 : t.val % 32 = 0
  · rw [outsAt0_A m c t h0 (by omega)]; frame_out; rw [back_at h, blk_x h, blk_r h, blk_wi h, blk_g1 h]; exact p1 W fun i => T (tok t i)
  · by_cases h1 : t.val % 32 = 31
    · rw [outsAt0_C m c t h0 h1]; frame_out; rw [back_at h, blk_x h, blk_r h, blk_wi h, blk_g1 h]; exact p1 W fun i => T (tok t i)
    · rw [outsAt0_B m c t h0 h1]; frame_out; rw [back_at h, blk_x h, blk_r h, blk_wi h, blk_g1 h]; exact p1 W fun i => T (tok t i)

/-! One point of each running sum. -/

theorem dg1_first (t : Fin cfg0.N) (h0 : t.val % 32 = 0) (x : S1x1024.Idx) :
    (outsAt0 m c t.val t.isLt).2.2.1 x = 0 + ((∑ i, dg1 W (T (tok t i)) (x 1) : ℝ) : EReal) := by
  rw [outsAt0_A m c t h0 (by omega)]; frame_out
  rw [back_at h, blk_x h, blk_wi h]
  exact (p2 W (fun i => T (tok t i)) _ x).trans (congrArg (· + _) (p6 x))
theorem dg1_next (t : Fin cfg0.N) (h0 : ¬t.val % 32 = 0) (x : S1x1024.Idx) :
    (outsAt0 m c t.val t.isLt).2.2.1 x = (outsAt0 m c (t.val - 1) (Nat.lt_of_le_of_lt (Nat.sub_le _ _) t.isLt)).2.2.1 x + ((∑ i, dg1 W (T (tok t i)) (x 1) : ℝ) : EReal) := by
  by_cases h1 : t.val % 32 = 31
  · rw [outsAt0_C m c t h0 h1]; frame_out; rw [back_at h, blk_x h, blk_wi h]; exact p2 W (fun i => T (tok t i)) _ x
  · rw [outsAt0_B m c t h0 h1]; frame_out; rw [back_at h, blk_x h, blk_wi h]; exact p2 W (fun i => T (tok t i)) _ x

theorem dgq_first (t : Fin cfg0.N) (h0 : t.val % 32 = 0) (x : S1x512.Idx) :
    (outsAt0 m c t.val t.isLt).2.2.2.2.2.1 x = 0 + ((∑ i, headGain (dqs (T (tok t i))) (T (tok t i)).q (x 1) : ℝ) : EReal) := by
  rw [outsAt0_A m c t h0 (by omega)]; frame_out
  rw [blk_bd, blk_dq h, blk_q h]
  exact (p15_14 _ _ _ x).trans (congrArg (· + _) (p7 x))
theorem dgq_next (t : Fin cfg0.N) (h0 : ¬t.val % 32 = 0) (x : S1x512.Idx) :
    (outsAt0 m c t.val t.isLt).2.2.2.2.2.1 x = (outsAt0 m c (t.val - 1) (Nat.lt_of_le_of_lt (Nat.sub_le _ _) t.isLt)).2.2.2.2.2.1 x
      + ((∑ i, headGain (dqs (T (tok t i))) (T (tok t i)).q (x 1) : ℝ) : EReal) := by
  by_cases h1 : t.val % 32 = 31
  · rw [outsAt0_C m c t h0 h1]; frame_out; rw [blk_bd, blk_dq h, blk_q h, read_unread_whole]; exact p15_14 _ _ _ x
  · rw [outsAt0_B m c t h0 h1]; frame_out; rw [blk_bd, blk_dq h, blk_q h, read_unread_whole]; exact p15_14 _ _ _ x

theorem dgk_first (t : Fin cfg0.N) (h0 : t.val % 32 = 0) (x : S1x512.Idx) :
    (outsAt0 m c t.val t.isLt).2.2.2.2.2.2 x = 0 + ((∑ i, headGain (T (tok t i)).dk (T (tok t i)).k (x 1) : ℝ) : EReal) := by
  rw [outsAt0_A m c t h0 (by omega)]; frame_out
  rw [blk_bd, blk_dk h, blk_k h]
  exact (p26 _ _ _ x).trans (congrArg (· + _) (p8 x))
theorem dgk_next (t : Fin cfg0.N) (h0 : ¬t.val % 32 = 0) (x : S1x512.Idx) :
    (outsAt0 m c t.val t.isLt).2.2.2.2.2.2 x = (outsAt0 m c (t.val - 1) (Nat.lt_of_le_of_lt (Nat.sub_le _ _) t.isLt)).2.2.2.2.2.2 x
      + ((∑ i, headGain (T (tok t i)).dk (T (tok t i)).k (x 1) : ℝ) : EReal) := by
  by_cases h1 : t.val % 32 = 31
  · rw [outsAt0_C m c t h0 h1]; frame_out; rw [blk_bd, blk_dk h, blk_k h, read_unread_whole]; exact p26 _ _ _ x
  · rw [outsAt0_B m c t h0 h1]; frame_out; rw [blk_bd, blk_dk h, blk_k h, read_unread_whole]; exact p26 _ _ _ x

omit h
/-- At the last point the running sums of the heads' gains are added up, head by head. -/
theorem dgq_out (t : Fin cfg0.N) (h1 : t.val % 32 = 31) (f : Fin 512 → ℝ) (hf : (outsAt0 m c t.val t.isLt).2.2.2.2.2.1 = rl fun (_ : Fin 1) j => f j) :
    (outsAt0 m c t.val t.isLt).2.2.2.1 = rl fun (_ : Fin 1) e => ∑ a, f (lane a e) := by
  have h0 : ¬t.val % 32 = 0 := by omega
  have e : (outsAt0 m c t.val t.isLt).2.2.2.2.2.1 = k0_pay15 (F := Ideal) (outsAt0 m c (t.val - 1) (Nat.lt_of_le_of_lt (Nat.sub_le _ _) t.isLt)).2.2.2.2.2.1
      (k0_pay14 (F := Ideal) (iblk m c 12 t) (iblk m c 0 t) (iblk m c 4 t)) := by
    rw [outsAt0_C m c t h0 h1]; frame_out; rw [read_unread_whole]
  have g := e.symm.trans hf
  rw [outsAt0_C m c t h0 h1]; frame_out
  rw [read_unread_whole]
  exact fold4 f _ _ _ _ _ _ _ _ (slice cc0_scratch0 _ _ f g 0 0 rfl _ _) (slice cc0_scratch0 _ _ f g 64 1 rfl _ _) (slice cc0_scratch0 _ _ f g 128 2 rfl _ _) (slice cc0_scratch0 _ _ f g 192 3 rfl _ _)
    (slice cc0_scratch0 _ _ f g 256 4 rfl _ _) (slice cc0_scratch0 _ _ f g 320 5 rfl _ _) (slice cc0_scratch0 _ _ f g 384 6 rfl _ _) (slice cc0_scratch0 _ _ f g 448 7 rfl _ _)
theorem dgk_out (t : Fin cfg0.N) (h1 : t.val % 32 = 31) (f : Fin 512 → ℝ) (hf : (outsAt0 m c t.val t.isLt).2.2.2.2.2.2 = rl fun (_ : Fin 1) j => f j) :
    (outsAt0 m c t.val t.isLt).2.2.2.2.1 = rl fun (_ : Fin 1) e => ∑ a, f (lane a e) := by
  have h0 : ¬t.val % 32 = 0 := by omega
  have e : (outsAt0 m c t.val t.isLt).2.2.2.2.2.2 = k0_pay26 (F := Ideal) (k0_pay9 (F := Ideal) (iblk m c 12 t)) (iblk m c 1 t) (iblk m c 5 t) (k0_pay21 (F := Ideal) (k0_pay9 (F := Ideal) (iblk m c 12 t)) (iblk m c 5 t))
      (k0_pay22 (F := Ideal) (k0_pay9 (F := Ideal) (iblk m c 12 t)) (iblk m c 5 t)) (k0_pay23 (F := Ideal) (iblk m c 5 t)) (outsAt0 m c (t.val - 1) (Nat.lt_of_le_of_lt (Nat.sub_le _ _) t.isLt)).2.2.2.2.2.2 := by
    rw [outsAt0_C m c t h0 h1]; frame_out; rw [read_unread_whole]
  have g := e.symm.trans hf
  rw [outsAt0_C m c t h0 h1]; frame_out
  rw [read_unread_whole]
  exact fold4 f _ _ _ _ _ _ _ _ (slice cc0_scratch1 _ _ f g 0 0 rfl _ _) (slice cc0_scratch1 _ _ f g 64 1 rfl _ _) (slice cc0_scratch1 _ _ f g 128 2 rfl _ _) (slice cc0_scratch1 _ _ f g 192 3 rfl _ _)
    (slice cc0_scratch1 _ _ f g 256 4 rfl _ _) (slice cc0_scratch1 _ _ f g 320 5 rfl _ _) (slice cc0_scratch1 _ _ f g 384 6 rfl _ _) (slice cc0_scratch1 _ _ f g 448 7 rfl _ _)

end Proj

end
-- ==== Proof.Proj.Final.lean ====
/-
  The result arrays of the call, from real launched arrays: every token's rows, and the sums over all tokens.
-/
module

public import proofs.«01_k».proof.Proof.Proj.Point
public import proofs.«01_k».proof.Proof.Gen.Kernel7Ideal.Value

@[expose] public section

set_option maxRecDepth 16384

noncomputable section

namespace Proj

open Idealize.ShloMosaic Idealize.ShloMosaic.TcCoe Idealize.ShloMosaic.Tactic Idealize.SL.Sem
open Idealize.ShloMosaic.Pipeline (Dat Cfg Window BodyObligation cellOf)
open Cert.Kernel7Ideal Cert.Kernel7Ideal.Gen Mixer Mixer.Ref

/-- A point that ends a run of 32 points is the last. -/
theorem last_of (t : Fin cfg0.N) (h : t.val % 32 = 31) : t.val + 1 = cfg0.N := by
  have hN := lt_of_lt_of_eq t.isLt (show cfg0.N = 32 from N_0)
  exact (show t.val + 1 = 32 by omega).trans (show cfg0.N = 32 from N_0).symm

/-- The points' shares of a sum make up the sum over every token. -/
theorem total (T : Fin 16384 → Token) (f : Token → ℝ) : (0 : EReal) + ∑ p : Fin cfg0.N, ((∑ i, f (T (tok p i)) : ℝ) : EReal) = ((∑ i, f (T i) : ℝ) : EReal) := by
  rw [zero_add, coe_sum]
  exact congrArg Real.toEReal (Fin.sum_mul_add_congr (L := 16384) (S := 32) (n := 512) (F := fun s k => f (T (tok s k))) (f := fun i => f (T i)) fun s k hl => rfl)

/-- Where each point's results lie. -/
theorem outs : ∀ t : Fin cfg0.N, win0_13.index t = ![t.val, 0] ∧ win0_14.index t = ![t.val, 0] ∧ win0_15.index t = ![0, 0] ∧ win0_16.index t = ![0, 0] ∧ win0_17.index t = ![0, 0] :=
  (by decide +kernel : ∀ t : Fin grid0.N, _)

variable {m : (ℓ : Loc nD τ sig) → Buf (Elt Ideal) ℓ} {c : Dev nD} {W : Weights} {T : Fin 16384 → Token} (h : Launched m c W T)
include h

theorem dg1_sum (t : Fin cfg0.N) (ht : t.val + 1 = cfg0.N) : (outsAt0 m c t.val t.isLt).2.2.1 = rl fun (_ : Fin 1) j => ∑ i, dg1 W (T i) j :=
  funext fun x => (Pipeline.eq_sum_fin_of_reset_step_apply_last (N := cfg0.N) (fun n hn => (outsAt0 m c n hn).2.2.1) 32 (fun _ => 0)
    (fun t x => ((∑ i, dg1 W (T (tok t i)) (x 1) : ℝ) : EReal)) (dg1_first h) (dg1_next h) (le_of_eq (show cfg0.N = 32 from N_0)) t ht x).trans
    (total T fun T => dg1 W T (x 1))
theorem dgq_sum (t : Fin cfg0.N) (ht : t.val + 1 = cfg0.N) : (outsAt0 m c t.val t.isLt).2.2.2.2.2.1 = rl fun (_ : Fin 1) j => ∑ i, headGain (dqs (T i)) (T i).q j :=
  funext fun x => (Pipeline.eq_sum_fin_of_reset_step_apply_last (N := cfg0.N) (fun n hn => (outsAt0 m c n hn).2.2.2.2.2.1) 32 (fun _ => 0)
    (fun t x => ((∑ i, headGain (dqs (T (tok t i))) (T (tok t i)).q (x 1) : ℝ) : EReal)) (dgq_first h) (dgq_next h) (le_of_eq (show cfg0.N = 32 from N_0)) t ht x).trans
    (total T fun T => headGain (dqs T) T.q (x 1))
theorem dgk_sum (t : Fin cfg0.N) (ht : t.val + 1 = cfg0.N) : (outsAt0 m c t.val t.isLt).2.2.2.2.2.2 = rl fun (_ : Fin 1) j => ∑ i, headGain (T i).dk (T i).k j :=
  funext fun x => (Pipeline.eq_sum_fin_of_reset_step_apply_last (N := cfg0.N) (fun n hn => (outsAt0 m c n hn).2.2.2.2.2.2) 32 (fun _ => 0)
    (fun t x => ((∑ i, headGain (T (tok t i)).dk (T (tok t i)).k (x 1) : ℝ) : EReal)) (dgk_first h) (dgk_next h) (le_of_eq (show cfg0.N = 32 from N_0)) t ht x).trans
    (total T fun T => headGain T.dk T.k (x 1))

theorem arr13 : (dats m 0 c).arrAt 13 (cfgs 0).N = rl fun i j => dx W (T i) j := by
  refine (dats m 0 c).arrAt_eq_of_covers 13 _ (by decide +kernel) fun t _ y => ?_
  blk_simp
  rw [after0_13, out_dx h t]
  refine Eq.trans (b := rl (fun i j => dx W (T i) j) (ix2 (tok t (y 0)) (y 1))) rfl ?_
  blk_point [outs t]
  rfl
theorem arr14 : (dats m 0 c).arrAt 14 (cfgs 0).N = rl fun i j => dproj W (T i) j := by
  refine (dats m 0 c).arrAt_eq_of_covers 14 _ (by decide +kernel) fun t _ y => ?_
  blk_simp
  rw [after0_14, out_dproj h t]
  refine Eq.trans (b := rl (fun i j => dproj W (T i) j) (ix2 (tok t (y 0)) (y 1))) rfl ?_
  blk_point [outs t]
  rfl
theorem arr15 : (dats m 0 c).arrAt 15 (cfgs 0).N = rl fun (_ : Fin 1) j => ∑ i, dg1 W (T i) j := by
  refine (dats m 0 c).arrAt_eq_of_covers 15 _ (by decide +kernel) fun t hf y => ?_
  have ht := last_of t ((flush0_15 t).mp hf)
  blk_simp
  rw [after0_15, dg1_sum h t ht]
  refine Eq.trans (b := rl (fun (_ : Fin 1) j => ∑ i, dg1 W (T i) j) (ix2 0 (y 1))) rfl ?_
  blk_point [outs t]
theorem arr16 : (dats m 0 c).arrAt 16 (cfgs 0).N = rl fun (_ : Fin 1) e => ∑ a, ∑ i, headGain (dqs (T i)) (T i).q (lane a e) := by
  refine (dats m 0 c).arrAt_eq_of_covers 16 _ (by decide +kernel) fun t hf y => ?_
  have ht := last_of t ((flush0_16 t).mp hf)
  blk_simp
  rw [after0_16, dgq_out t ((flush0_16 t).mp hf) (fun j => ∑ i, headGain (dqs (T i)) (T i).q j) (dgq_sum h t ht)]
  refine Eq.trans (b := rl (fun (_ : Fin 1) e => ∑ a, ∑ i, headGain (dqs (T i)) (T i).q (lane a e)) (ix2 0 (y 1))) rfl ?_
  blk_point [outs t]
theorem arr17 : (dats m 0 c).arrAt 17 (cfgs 0).N = rl fun (_ : Fin 1) e => ∑ a, ∑ i, headGain (T i).dk (T i).k (lane a e) := by
  refine (dats m 0 c).arrAt_eq_of_covers 17 _ (by decide +kernel) fun t hf y => ?_
  have ht := last_of t ((flush0_17 t).mp hf)
  blk_simp
  rw [after0_17, dgk_out t ((flush0_17 t).mp hf) (fun j => ∑ i, headGain (T i).dk (T i).k j) (dgk_sum h t ht)]
  refine Eq.trans (b := rl (fun (_ : Fin 1) e => ∑ a, ∑ i, headGain (T i).dk (T i).k (lane a e)) (ix2 0 (y 1))) rfl ?_
  blk_point [outs t]

end Proj

end
-- ==== Proof.Proj.Real.lean ====
/-
  Finite arguments of the call are real arrays.
-/
module

public import proofs.«01_k».proof.Defs
public import proofs.«01_k».proof.Proof.Gen.Pre_finite7
public import proofs.«01_k».proof.Proof.Proj.Given
public import proofs.«01_k».proof.Proof.Mixer.Real

@[expose] public section

set_option maxRecDepth 16384

noncomputable section

namespace Proj

open Idealize.ShloMosaic Idealize.ShloMosaic.TcCoe Idealize.ShloMosaic.Tactic Idealize.SL.Sem
open Cert.Kernel7Ideal Cert.Kernel7Ideal.Gen Mixer Mixer.Ref

theorem launched (m : (ℓ : Loc nD τ sig) → Buf (Elt Ideal) ℓ) (hpre : Cert.Pre_Kernel7Ideal_finite7 m) (c : Dev nD) :
    ∃ W T, Proj.Launched m c W T := by
  obtain ⟨p0, p1, p2, p3, p4, p5, p6, p7, p8, p9, p10, p11⟩ := hpre c
  obtain ⟨dq, h0⟩ := real2 _ _ p0
  obtain ⟨dk, h1⟩ := real2 _ _ p1
  obtain ⟨dv, h2⟩ := real2 _ _ p2
  obtain ⟨du, h3⟩ := real2 _ _ p3
  obtain ⟨q, h4⟩ := real2 _ _ p4
  obtain ⟨k, h5⟩ := real2 _ _ p5
  obtain ⟨x, h6⟩ := real2 _ _ p6
  obtain ⟨r, h7⟩ := real2 _ _ p7
  obtain ⟨wi, h8⟩ := real2 _ _ p8
  obtain ⟨g1, h9⟩ := real1 _ _ p9
  obtain ⟨gq, h10⟩ := real1 _ _ p10
  obtain ⟨gk, h11⟩ := real1 _ _ p11
  exact ⟨⟨wi, g1, gq, gk⟩, fun i => ⟨dq i, dk i, dv i, du i, q i, k i, x i, r i⟩, h0, h1, h2, h3, h4, h5, h6, h7, h8, h9, h10, h11⟩

/-- The same, on every device at once. -/
theorem launched_all (m : (ℓ : Loc nD τ sig) → Buf (Elt Ideal) ℓ) (hpre : Cert.Pre_Kernel7Ideal_finite7 m) :
    ∃ (W : Dev nD → Weights) (T : Dev nD → Fin 16384 → Token), ∀ c, Proj.Launched m c (W c) (T c) := by
  choose W T H using launched m hpre
  exact ⟨W, T, H⟩

end Proj

end
-- ==== Proof.Proj.Reference.lean ====
/-
  The reference's steps on real arrays, element by element, and that its results are the token-wise mathematics of `Model`.
-/
module

public import proofs.«01_k».proof.Proof.Proj.Model
public import proofs.«01_k».proof.Proof.Gen.Reference7Ideal.Run

@[expose] public section

set_option maxRecDepth 16384

noncomputable section

namespace Proj.Ref

open Idealize.ShloMosaic Idealize.ShloMosaic.TcCoe Idealize.SL.Sem
open Idealize.ShloMosaic.StableHlo
open Cert.Reference7Ideal Cert.Reference7Ideal.Gen Cert.Reference7Ideal.Value Mixer Mixer.Ref

/-! The steps over the heads: `d` is the gradient of the normed rows, `v` the rows, `g` the gain. -/

/-- The rows, head by head. -/
def heads (v : FVec Ideal S16384x512 .f32) : FVec Ideal S16384x8x64 .f32 := shapeCast _ v shapeCasts_S16384x512_S16384x8x64
def hMsq (v : FVec Ideal S16384x512 .f32) : FVec Ideal S16384x8x1 .f32 :=
  addf (Host.divf (broadcastInDim S16384x8x1 ![0, 1] bcast_S16384x8_S16384x8x1_0_1 (Host.reduceAdd (mulf (heads v) (heads v)) (constant S_ .f32 0x00000000#32) reducesTo_S16384x8x64_S16384x8_d2 h_S_)) (broadcastInDim S16384x8x1 ![] bcast_S_S16384x8x1 (constant S_ .f32 0x42800000#32))) (broadcastInDim S16384x8x1 ![] bcast_S_S16384x8x1 (constant S_ .f32 0x358637BD#32))
def hRms (v : FVec Ideal S16384x512 .f32) : FVec Ideal S16384x8x64 .f32 :=
  broadcastInDim S16384x8x64 ![0, 1, 2] bcast_S16384x8x1_S16384x8x64_0_1_2 (Host.rsqrt (hMsq v))
def hGrad (d : FVec Ideal S16384x512 .f32) (g : FVec Ideal S64 .f32) : FVec Ideal S16384x8x64 .f32 :=
  mulf (heads d) (broadcastInDim S16384x8x64 ![0, 1, 2] bcast_S1x1x64_S16384x8x64_0_1_2 (broadcastInDim S1x1x64 ![2] bcast_S64_S1x1x64_2 g))
def hDot (d v : FVec Ideal S16384x512 .f32) (g : FVec Ideal S64 .f32) : FVec Ideal S16384x8x1 .f32 :=
  shapeCast _ (Host.reduceAdd (mulf (heads v) (hGrad d g)) (constant S_ .f32 0x00000000#32) reducesTo_S16384x8x64_S16384x8_d2 h_S_) shapeCasts_S16384x8_S16384x8x1
def hBack (d v : FVec Ideal S16384x512 .f32) (g : FVec Ideal S64 .f32) : FVec Ideal S16384x8x64 .f32 :=
  broadcastInDim S16384x8x64 ![0, 1] bcast_S16384x8_S16384x8x64_0_1 (Host.reduceAdd (Host.divf (mulf (hDot d v g) (mulf (broadcastInDim S16384x8x1 ![] bcast_S_S16384x8x1 (constant S_ .f32 0xBF000000#32)) (Host.divf (Host.rsqrt (hMsq v)) (hMsq v)))) (broadcastInDim S16384x8x1 ![] bcast_S_S16384x8x1 (constant S_ .f32 0x42800000#32))) (constant S_ .f32 0x00000000#32) reducesTo_S16384x8x1_S16384x8_d2 h_S_)
/-- The gradient through the heads' norms. -/
def hBwd (d v : FVec Ideal S16384x512 .f32) (g : FVec Ideal S64 .f32) : FVec Ideal S16384x512 .f32 :=
  shapeCast _ (addf (addf (mulf (hGrad d g) (hRms v)) (mulf (heads v) (hBack d v g))) (mulf (hBack d v g) (heads v))) shapeCasts_S16384x8x64_S16384x512
/-- The gradient of the heads' gain. -/
def hGain (d v : FVec Ideal S16384x512 .f32) : FVec Ideal S1x64 .f32 :=
  shapeCast _ (Host.reduceAdd (shapeCast _ (Host.reduceAdd (mulf (mulf (heads v) (hRms v)) (heads d)) (constant S_ .f32 0x00000000#32) reducesTo_S16384x8x64_S64_d0_1 h_S_) shapeCasts_S64_S1x1x64) (constant S_ .f32 0x00000000#32) reducesTo_S1x1x64_S64_d0_1 h_S_) shapeCasts_S64_S1x64
/-- The queries' gradient with the attention's scale. -/
def scaled (d : FVec Ideal S16384x512 .f32) : FVec Ideal S16384x512 .f32 :=
  mulf d (broadcastInDim S16384x512 ![] bcast_S_S16384x512 (constant S_ .f32 0x3E000000#32))

/-- A sum over the first two axes is a double sum. -/
theorem sum_two {a b c : ℕ} (h : (⟨3, ![a, b, c]⟩ : Shape).ReducesTo [0, 1] (⟨1, ![c]⟩ : Shape)) (x : (⟨3, ![a, b, c]⟩ : Shape).Idx → EReal)
    (z : EReal) (e : Fin c) : Ideal.hostReduceAdd h x z (ix1 e) = z + ∑ i, ∑ j, x (ix3 i j e) := by
  refine congrArg (z + ·) ?_
  rw [← Fintype.sum_prod_type']
  refine Finset.sum_filter_eq_sum_of_fiber _ (fun k : Fin a × Fin b => ix3 k.1 k.2 e) (fun k l he => ?_) (fun i => ⟨fun he => ?_, ?_⟩) x
  · exact Prod.ext (congrFun he 0) (congrFun he 1)
  · refine ⟨(i 0, i 1), ?_⟩
    funext u; apply Fin.ext
    match u with
    | ⟨0, _⟩ => rfl
    | ⟨1, _⟩ => rfl
    | ⟨2, _⟩ => exact (congrArg Fin.val (congrFun he ⟨0, Nat.zero_lt_one⟩)).symm
  · rintro ⟨k, rfl⟩
    funext u; apply Fin.ext
    match u with
    | ⟨0, _⟩ => rfl

variable (d v : Fin 16384 → Fin 512 → ℝ) (g : Fin 64 → ℝ)

theorem heads_eq : heads (rl v) = r3 fun i a e => hd (v i) a e := by
  refine r3_ext fun i a e => ?_
  pointwise [heads]
  rw [rl_at]
  exact congrArg _ (congrArg (v i) (Fin.ext (by simp only [lane]; omega)))

theorem hMsq_eq : hMsq (rl v) = r3 fun i a (_ : Fin 1) => msq (hd (v i) a) := by
  refine r3_ext fun i a e => ?_
  rw [hMsq, heads_eq]
  pointwise
  simp only [r3_at, lits, lift, more, coe_sum, zero_add, msq_64]

theorem hRms_eq : hRms (rl v) = r3 fun i a (_ : Fin 64) => rms (hd (v i) a) := by
  refine r3_ext fun i a e => ?_
  rw [hRms, hMsq_eq]
  pointwise
  simp only [r3_at, more]

theorem hGrad_eq : hGrad (rl d) (r1 g) = r3 fun i a e => hd (d i) a e * g e := by
  refine r3_ext fun i a e => ?_
  rw [hGrad, heads_eq]
  pointwise
  simp only [r3_at, r1_at, lift]

theorem hDot_eq : hDot (rl d) (rl v) (r1 g) = r3 fun i a (_ : Fin 1) => ∑ e, hd (v i) a e * (hd (d i) a e * g e) := by
  refine r3_ext fun i a e => ?_
  rw [hDot, heads_eq, hGrad_eq]
  pointwise
  simp only [r3_at, lits, lift, coe_sum, zero_add]

theorem hBack_eq : hBack (rl d) (rl v) (r1 g) = r3 fun i a (_ : Fin 64) => back (fun e => hd (d i) a e * g e) (hd (v i) a) := by
  refine r3_ext fun i a e => ?_
  rw [hBack, hDot_eq, hMsq_eq]
  pointwise
  simp only [r3_at, lits, lift, more, coe_sum, zero_add]
  simp only [back]
  norm_num

theorem hBwd_eq : hBwd (rl d) (rl v) (r1 g) = rl fun i j => headBwd (d i) (v i) g j := by
  refine rl_ext fun i j => ?_
  rw [hBwd, hGrad_eq, hRms_eq, hBack_eq, heads_eq]
  pointwise
  simp only [headBwd, bwd_eq, r3_at, lift]
  rfl

theorem hGain_eq : hGain (rl d) (rl v) = rl fun (_ : Fin 1) e => ∑ a, ∑ i, headGain (d i) (v i) (lane a e) := by
  refine rl_ext fun u e => ?_
  rw [hGain, hRms_eq, heads_eq, heads_eq]
  pointwise
  rw [sum_two]
  pointwise
  rw [sum_two]
  pointwise
  simp only [r3_at, lits, lift, coe_sum, zero_add, Finset.univ_unique, Finset.sum_singleton]
  rw [Finset.sum_comm]
  simp only [hd, headGain, headOf_lane]
  refine congrArg _ (Finset.sum_congr rfl fun a _ => Finset.sum_congr rfl fun i _ => ?_)
  ring

theorem scaled_eq : scaled (rl d) = rl fun i j => d i j * (1 / 8) := by
  refine rl_ext fun i j => ?_
  pointwise [scaled]
  simp only [rl_at, more, lift]

/-! The steps over the residual stream: `e` is the gradient of the normed row, `x` the row, `g` the gain. -/

def catd (a b c d : FVec Ideal S16384x512 .f32) : FVec Ideal S16384x2048 .f32 :=
  concatenate S16384x2048 1 [⟨S16384x512, a⟩, ⟨S16384x512, b⟩, ⟨S16384x512, c⟩, ⟨S16384x512, d⟩] concatenates_S16384x512_S16384x512_S16384x512_S16384x512_S16384x2048_d1
def prod (p : FVec Ideal S16384x2048 .f32) (w : FVec Ideal S1024x2048 .f32) : FVec Ideal S16384x1024 .f32 :=
  Host.dotGeneral dot_S16384x2048_S1024x2048_S16384x1024_1_1_0_0_n_n none p w
def nMsq (x : FVec Ideal S16384x1024 .f32) : FVec Ideal S16384x1 .f32 :=
  addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32))
def nRms (x : FVec Ideal S16384x1024 .f32) : FVec Ideal S16384x1024 .f32 :=
  broadcastInDim S16384x1024 ![0, 1] bcast_S16384x1_S16384x1024_0_1 (Host.rsqrt (nMsq x))
def nGrad (e : FVec Ideal S16384x1024 .f32) (g : FVec Ideal S1024 .f32) : FVec Ideal S16384x1024 .f32 :=
  mulf e (broadcastInDim S16384x1024 ![0, 1] bcast_S1x1024_S16384x1024_0_1 (broadcastInDim S1x1024 ![1] bcast_S1024_S1x1024_1 g))
def nDot (e x : FVec Ideal S16384x1024 .f32) (g : FVec Ideal S1024 .f32) : FVec Ideal S16384x1 .f32 :=
  shapeCast _ (Host.reduceAdd (mulf x (nGrad e g)) (constant S_ .f32 0x00000000#32) reducesTo_S16384x1024_S16384_d1 h_S_) shapeCasts_S16384_S16384x1
def nBack (e x : FVec Ideal S16384x1024 .f32) (g : FVec Ideal S1024 .f32) : FVec Ideal S16384x1024 .f32 :=
  broadcastInDim S16384x1024 ![0] bcast_S16384_S16384x1024_0 (Host.reduceAdd (Host.divf (mulf (nDot e x g) (mulf (broadcastInDim S16384x1 ![] bcast_S_S16384x1 (constant S_ .f32 0xBF000000#32)) (Host.divf (Host.rsqrt (nMsq x)) (nMsq x)))) (broadcastInDim S16384x1 ![] bcast_S_S16384x1 (constant S_ .f32 0x44800000#32))) (constant S_ .f32 0x00000000#32) reducesTo_S16384x1_S16384_d1 h_S_)
def nBwd (r e x : FVec Ideal S16384x1024 .f32) (g : FVec Ideal S1024 .f32) : FVec Ideal S16384x1024 .f32 :=
  addf r (addf (addf (mulf (nGrad e g) (nRms x)) (mulf x (nBack e x g))) (mulf (nBack e x g) x))
def nGain (e x : FVec Ideal S16384x1024 .f32) : FVec Ideal S1x1024 .f32 :=
  shapeCast _ (Host.reduceAdd (shapeCast _ (Host.reduceAdd (mulf (mulf x (nRms x)) e) (constant S_ .f32 0x00000000#32) reducesTo_S16384x1024_S1024_d0 h_S_) shapeCasts_S1024_S1x1024) (constant S_ .f32 0x00000000#32) reducesTo_S1x1024_S1024_d0 h_S_) shapeCasts_S1024_S1x1024

variable (e x r : Fin 16384 → Fin 1024 → ℝ) (g1 : Fin 1024 → ℝ)

theorem nMsq_eq : nMsq (rl x) = rl fun i (_ : Fin 1) => msq (x i) := by
  refine rl_ext fun i j => ?_
  pointwise [nMsq]
  simp only [rl_at, lits, lift, coe_sum, zero_add, msq_1024]

theorem nRms_eq : nRms (rl x) = rl fun i (_ : Fin 1024) => rms (x i) := by
  refine rl_ext fun i j => ?_
  rw [nRms, nMsq_eq]
  pointwise
  simp only [rl_at, more]

theorem nGrad_eq : nGrad (rl e) (r1 g1) = rl fun i j => e i j * g1 j := by
  refine rl_ext fun i j => ?_
  pointwise [nGrad]
  simp only [rl_at, r1_at, lift]

theorem nDot_eq : nDot (rl e) (rl x) (r1 g1) = rl fun i (_ : Fin 1) => ∑ k, x i k * (e i k * g1 k) := by
  refine rl_ext fun i j => ?_
  rw [nDot, nGrad_eq]
  pointwise
  simp only [rl_at, lits, lift, coe_sum, zero_add]

theorem nBack_eq : nBack (rl e) (rl x) (r1 g1) = rl fun i (_ : Fin 1024) => back (fun k => e i k * g1 k) (x i) := by
  refine rl_ext fun i j => ?_
  rw [nBack, nDot_eq, nMsq_eq]
  pointwise
  simp only [rl_at, lits, lift, more, coe_sum, zero_add]
  simp only [back]
  norm_num

theorem nBwd_eq : nBwd (rl r) (rl e) (rl x) (r1 g1) = rl fun i j => r i j + nrmBwd (e i) (x i) g1 j := by
  refine rl_ext fun i j => ?_
  rw [nBwd, nGrad_eq, nRms_eq, nBack_eq]
  pointwise
  simp only [rl_at, lift, bwd_eq]

theorem nGain_eq : nGain (rl e) (rl x) = rl fun (_ : Fin 1) j => ∑ i, e i j * (x i j * rms (x i)) := by
  refine rl_ext fun u j => ?_
  rw [nGain, nRms_eq]
  pointwise
  simp only [rl_at, lits, lift, coe_sum, zero_add, Finset.univ_unique, Finset.sum_singleton]
  exact congrArg _ (Finset.sum_congr rfl fun i _ => mul_comm _ _)

variable (W : Weights) (T : Fin 16384 → Token)

theorem catd_eq : catd (rl fun i j => headBwd (dqs (T i)) (T i).q W.gq j) (rl fun i j => headBwd (T i).dk (T i).k W.gk j) (rl fun i j => (T i).dv j) (rl fun i j => (T i).du j)
    = rl fun i j => dproj W (T i) j := by
  refine rl_ext fun i j => ?_
  pointwise [catd]
  simp only [rl_at, dproj]
  by_cases h0 : j.val < 512
  · rw [dif_pos h0, dif_pos h0]
  rw [dif_neg h0, dif_neg h0]
  by_cases h1 : j.val < 1024
  · rw [dif_pos (show j.val - 512 < 512 by omega), dif_pos h1]
  rw [dif_neg (show ¬j.val - 512 < 512 by omega), dif_neg h1]
  by_cases h2 : j.val < 1536
  · rw [dif_pos (show j.val - 512 - 512 < 512 by omega), dif_pos h2]
    exact congrArg _ (congrArg (T i).dv (Fin.ext (Nat.sub_sub _ 512 512)))
  rw [dif_neg (show ¬j.val - 512 - 512 < 512 by omega), dif_neg h2]
  exact congrArg _ (congrArg (T i).du (Fin.ext (by show j.val - 512 - 512 - 512 = j.val - 1536; omega)))

theorem prod_eq : prod (rl fun i j => dproj W (T i) j) (rl W.wi) = rl fun i j => dxn W (T i) j := by
  refine rl_ext fun i j => ?_
  pointwise [prod]
  simp only [rl_at, lift, coe_sum, zero_add]
  rfl

/-- The arguments are these real arrays. -/
structure Inputs (m : (ℓ : Loc nD τ sig) → Buf (Elt Ideal) ℓ) (c : Dev nD) : Prop where
  dq : m ((c.tc : Thread nD τ).loc main_arg0) = rl fun i j => (T i).dq j
  dk : m ((c.tc : Thread nD τ).loc main_arg1) = rl fun i j => (T i).dk j
  dv : m ((c.tc : Thread nD τ).loc main_arg2) = rl fun i j => (T i).dv j
  du : m ((c.tc : Thread nD τ).loc main_arg3) = rl fun i j => (T i).du j
  q : m ((c.tc : Thread nD τ).loc main_arg4) = rl fun i j => (T i).q j
  k : m ((c.tc : Thread nD τ).loc main_arg5) = rl fun i j => (T i).k j
  x : m ((c.tc : Thread nD τ).loc main_arg6) = rl fun i j => (T i).x j
  r : m ((c.tc : Thread nD τ).loc main_arg7) = rl fun i j => (T i).r j
  wi : m ((c.tc : Thread nD τ).loc main_arg8) = rl W.wi
  g1 : m ((c.tc : Thread nD τ).loc main_arg9) = r1 W.g1
  gq : m ((c.tc : Thread nD τ).loc main_arg10) = r1 W.gq
  gk : m ((c.tc : Thread nD τ).loc main_arg11) = r1 W.gk

variable {W T} {m : (ℓ : Loc nD τ sig) → Buf (Elt Ideal) ℓ} {c : Dev nD} (H : Inputs W T m c)
include H

theorem cat_of : catd (hBwd (scaled (m ((c.tc : Thread nD τ).loc main_arg0))) (m ((c.tc : Thread nD τ).loc main_arg4)) (m ((c.tc : Thread nD τ).loc main_arg10)))
    (hBwd (m ((c.tc : Thread nD τ).loc main_arg1)) (m ((c.tc : Thread nD τ).loc main_arg5)) (m ((c.tc : Thread nD τ).loc main_arg11)))
    (m ((c.tc : Thread nD τ).loc main_arg2)) (m ((c.tc : Thread nD τ).loc main_arg3)) = rl fun i j => dproj W (T i) j := by
  rw [H.dq, H.q, H.gq, H.dk, H.k, H.gk, H.dv, H.du, scaled_eq, hBwd_eq, hBwd_eq, ← catd_eq]
  rfl

theorem ref_dproj : res_main_v124 m c = rl fun i j => dproj W (T i) j := by
  rw [← cat_of H]; rfl

theorem ref_dx : res_main_v123 m c = rl fun i j => dx W (T i) j := by
  have h : res_main_v123 m c = nBwd (m ((c.tc : Thread nD τ).loc main_arg7)) (prod (catd (hBwd (scaled (m ((c.tc : Thread nD τ).loc main_arg0))) (m ((c.tc : Thread nD τ).loc main_arg4)) (m ((c.tc : Thread nD τ).loc main_arg10)))
    (hBwd (m ((c.tc : Thread nD τ).loc main_arg1)) (m ((c.tc : Thread nD τ).loc main_arg5)) (m ((c.tc : Thread nD τ).loc main_arg11)))
    (m ((c.tc : Thread nD τ).loc main_arg2)) (m ((c.tc : Thread nD τ).loc main_arg3))) (m ((c.tc : Thread nD τ).loc main_arg8)))
    (m ((c.tc : Thread nD τ).loc main_arg6)) (m ((c.tc : Thread nD τ).loc main_arg9)) := rfl
  rw [h, cat_of H, H.wi, prod_eq, H.r, H.x, H.g1, nBwd_eq]; rfl

theorem ref_dg1 : res_main_v125 m c = rl fun (_ : Fin 1) j => ∑ i, dg1 W (T i) j := by
  have h : res_main_v125 m c = nGain (prod (catd (hBwd (scaled (m ((c.tc : Thread nD τ).loc main_arg0))) (m ((c.tc : Thread nD τ).loc main_arg4)) (m ((c.tc : Thread nD τ).loc main_arg10)))
    (hBwd (m ((c.tc : Thread nD τ).loc main_arg1)) (m ((c.tc : Thread nD τ).loc main_arg5)) (m ((c.tc : Thread nD τ).loc main_arg11)))
    (m ((c.tc : Thread nD τ).loc main_arg2)) (m ((c.tc : Thread nD τ).loc main_arg3))) (m ((c.tc : Thread nD τ).loc main_arg8)))
    (m ((c.tc : Thread nD τ).loc main_arg6)) := rfl
  rw [h, cat_of H, H.wi, prod_eq, H.x, nGain_eq]; rfl

theorem ref_dgq : hGain (scaled (m ((c.tc : Thread nD τ).loc main_arg0))) (m ((c.tc : Thread nD τ).loc main_arg4))
    = rl fun (_ : Fin 1) e => ∑ a, ∑ i, headGain (dqs (T i)) (T i).q (lane a e) := by
  rw [H.dq, H.q, scaled_eq, hGain_eq]; rfl

theorem ref_dgk : hGain (m ((c.tc : Thread nD τ).loc main_arg1)) (m ((c.tc : Thread nD τ).loc main_arg5))
    = rl fun (_ : Fin 1) e => ∑ a, ∑ i, headGain (T i).dk (T i).k (lane a e) := by
  rw [H.dk, H.k, hGain_eq]

end Proj.Ref

end
-- ==== Proof.lean ====
/- The claims: each program's frame, the runs of kernel and reference ending with equal results, and what idealizing changed. -/
module

public import proofs.«01_k».proof.Defs
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Pre_finite7
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Proof.Gen.Kernel5Ideal.Value
public import proofs.«01_k».proof.Proof.Gen.Reference5Ideal.Run
public import proofs.«01_k».proof.Proof.Gen.Kernel6Ideal.Value
public import proofs.«01_k».proof.Proof.Gen.Reference6Ideal.Run
public import Idealize.ShloMosaic.Adequacy
public import Idealize.ShloMosaic.Init
public import proofs.«01_k».proof.Proof.Products.G2
public import proofs.«01_k».proof.Proof.Products.G3
public import proofs.«01_k».proof.Proof.Products.G4
public import proofs.«01_k».proof.Proof.Products.G5
public import proofs.«01_k».proof.Proof.Products.G6
public import Idealize.ShloMosaic.Lib.Claim
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.ReferenceIdeal.Run
public import proofs.«01_k».proof.Proof.Mixer.Final
public import proofs.«01_k».proof.Proof.Mixer.Real
public import proofs.«01_k».proof.Proof.Mixer.Twin
public import proofs.«01_k».proof.Proof.Proj.Final
public import proofs.«01_k».proof.Proof.Proj.Real
public import proofs.«01_k».proof.Proof.Proj.Reference

@[expose] public section

set_option maxRecDepth 16384

noncomputable section

namespace Cert.Proof

open Idealize.ShloMosaic Idealize.SL.Sem

/-- The printed program's frame: its text with the constants named, read where a name stands for its word. -/
theorem printed_frame : Mixer.Framed' :=
  Mixer.twin ▸ fun m g => @Mixer.frame Bits _ Mixer.word m g

set_option maxHeartbeats 4000000 in
open Mixer in
/-- From real arrays the fused call ends with the functions of the model. -/
theorem mixer_run (m : (ℓ : Loc Cert.KernelIdeal.nD Cert.KernelIdeal.τ Cert.KernelIdeal.sig) → Buf (Elt Ideal) ℓ) (g : Dev Cert.KernelIdeal.nD → PrngReg)
    (W : Dev Cert.KernelIdeal.nD → Weights) (T : Dev Cert.KernelIdeal.nD → Fin 16384 → Token) (H : ∀ c, Launched m c (W c) (T c)) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v8_0) = (rl fun i j => dx2 (W c) (T c i) j)
      ∧ r.2.mem ((c.tc : Thread Cert.KernelIdeal.nD Cert.KernelIdeal.τ).loc Cert.KernelIdeal.main_v8_1) = (rl fun i j => hdn (W c) (T c i) j)
      ∧ r.2.mem ((c.tc : Thread Cert.KernelIdeal.nD Cert.KernelIdeal.τ).loc Cert.KernelIdeal.main_v8_2) = (rl fun i j => dup (W c) (T c i) j)
      ∧ r.2.mem ((c.tc : Thread Cert.KernelIdeal.nD Cert.KernelIdeal.τ).loc Cert.KernelIdeal.main_v8_3) = (rl fun i j => hh (W c) (T c i) j)
      ∧ r.2.mem ((c.tc : Thread Cert.KernelIdeal.nD Cert.KernelIdeal.τ).loc Cert.KernelIdeal.main_v8_4) = (rl fun i j => dy (W c) (T c i) j)
      ∧ r.2.mem ((c.tc : Thread Cert.KernelIdeal.nD Cert.KernelIdeal.τ).loc Cert.KernelIdeal.main_v8_5) = (rl fun i j => mix (W c) (T c i) j)
      ∧ r.2.mem ((c.tc : Thread Cert.KernelIdeal.nD Cert.KernelIdeal.τ).loc Cert.KernelIdeal.main_v8_6) = (rl fun i j => z (T c i) j)
      ∧ r.2.mem ((c.tc : Thread Cert.KernelIdeal.nD Cert.KernelIdeal.τ).loc Cert.KernelIdeal.main_v8_7) = (rl fun i j => dattn (W c) (T c i) j)
      ∧ r.2.mem ((c.tc : Thread Cert.KernelIdeal.nD Cert.KernelIdeal.τ).loc Cert.KernelIdeal.main_v8_8) = (rl fun i j => dyv (W c) (T c i) j)
      ∧ r.2.mem ((c.tc : Thread Cert.KernelIdeal.nD Cert.KernelIdeal.τ).loc Cert.KernelIdeal.main_v8_9) = (rl fun i j => dx2 (W c) (T c i) j)
      ∧ r.2.mem ((c.tc : Thread Cert.KernelIdeal.nD Cert.KernelIdeal.τ).loc Cert.KernelIdeal.main_v8_10) = (rl fun i j => dgp (W c) (T c i) j)
      ∧ r.2.mem ((c.tc : Thread Cert.KernelIdeal.nD Cert.KernelIdeal.τ).loc Cert.KernelIdeal.main_v8_11) = (rl fun (_ : Fin 1) j => ∑ i, tg2 (W c) (T c i) j)
      ∧ r.2.mem ((c.tc : Thread Cert.KernelIdeal.nD Cert.KernelIdeal.τ).loc Cert.KernelIdeal.main_v8_12) = (rl fun (_ : Fin 1) j => ∑ i, loss (W c) (T c i))
      ∧ r.2.mem ((c.tc : Thread Cert.KernelIdeal.nD Cert.KernelIdeal.τ).loc Cert.KernelIdeal.main_v8_13) = (rl fun (_ : Fin 1) j => ∑ i, tga (W c) (T c i) j)
      ∧ r.2.mem ((c.tc : Thread Cert.KernelIdeal.nD Cert.KernelIdeal.τ).loc Cert.KernelIdeal.main_v8_14) = (rl fun (_ : Fin 1) j => ∑ i, tgs (W c) (T c i) j)
      ∧ r.2.mem ((c.tc : Thread Cert.KernelIdeal.nD Cert.KernelIdeal.τ).loc Cert.KernelIdeal.main_v8_15) = (rl fun (_ : Fin 1) j => ∑ i, dgp (W c) (T c i) j)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)) := by
  refine θ_run_mono (θ_run_and (Mixer.run_main m g) (Mixer.unchanged m g)) fun r h c => ?_
  exact ⟨((h.1 c).1 10).trans (arr10 (H c)), ((h.1 c).1 11).trans (arr11 (H c)), ((h.1 c).1 12).trans (arr12 (H c)), ((h.1 c).1 13).trans (arr13 (H c)), ((h.1 c).1 14).trans (arr14 (H c)), ((h.1 c).1 15).trans (arr15 (H c)), ((h.1 c).1 16).trans (arr16 (H c)), ((h.1 c).1 17).trans (arr17 (H c)), ((h.1 c).1 18).trans (arr18 (H c)), ((h.1 c).1 19).trans (arr19 (H c)), ((h.1 c).1 20).trans (arr20 (H c)), ((h.1 c).1 21).trans (arr21 (H c)), ((h.1 c).1 22).trans (arr22 (H c)), ((h.1 c).1 23).trans (arr23 (H c)), ((h.1 c).1 24).trans (arr24 (H c)), ((h.1 c).1 25).trans (arr25 (H c)), h.2 c⟩

/-- The fused call and its reference. -/
theorem mixer : Cert.algebraic_KernelIdeal_ReferenceIdeal_pre_finite := by
  intro m g m' g' hpre hagree
  obtain ⟨W, T, H⟩ := Mixer.launched_all m hpre
  have R := Mixer.Ref.run m' g' W T fun c => by
    obtain ⟨e0, e1, e2, e3, e4, e5, e6, e7, e8, e9, e10, e11⟩ := hagree c
    exact ⟨e0.trans (H c).a, e1.trans (H c).y, e2.trans (H c).x, e3.trans (H c).tg, e4.trans (H c).wg, e5.trans (H c).b,
      e6.trans (H c).ga, e7.trans (H c).gs, e8.trans (H c).wo, e9.trans (H c).g2, e10.trans (H c).wu, e11.trans (H c).wd⟩
  refine ⟨_, _, _, _, _, _, _, _, _, _, _, _, _, _, _, _, mixer_run m g W T H, ?_⟩
  refine θ_run_mono (θ_run_and R (Cert.ReferenceIdeal.Value.run m' g')) fun r h c => ?_
  obtain ⟨r0, r1, r2, r3, r4, r5, r6, r7, r8, r9, r10, r11, r12, r13, r14, r15⟩ := h.1 c
  exact ⟨r0, r1, r2, r3, r4, r5, r6, r7, r8, r9, r10, r11, r12, r13, r14, r15, (h.2 c).2.2.2.2.2.2.2.2.2.2.2.2.2.2.2.2⟩

set_option maxHeartbeats 4000000 in
open Mixer Proj in
/-- From real arrays the input projection's backward call ends with the functions of the model. -/
theorem proj_run (m : (ℓ : Loc Cert.Kernel7Ideal.nD Cert.Kernel7Ideal.τ Cert.Kernel7Ideal.sig) → Buf (Elt Ideal) ℓ) (g : Dev Cert.Kernel7Ideal.nD → PrngReg)
    (W : Dev Cert.Kernel7Ideal.nD → Proj.Weights) (T : Dev Cert.Kernel7Ideal.nD → Fin 16384 → Proj.Token) (H : ∀ c, Proj.Launched m c (W c) (T c)) :
    θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
      r.2.mem ((c.tc : Thread Cert.Kernel7Ideal.nD Cert.Kernel7Ideal.τ).loc Cert.Kernel7Ideal.main_v16_0) = (rl fun i j => dx (W c) (T c i) j)
      ∧ r.2.mem ((c.tc : Thread Cert.Kernel7Ideal.nD Cert.Kernel7Ideal.τ).loc Cert.Kernel7Ideal.main_v16_1) = (rl fun i j => dproj (W c) (T c i) j)
      ∧ r.2.mem ((c.tc : Thread Cert.Kernel7Ideal.nD Cert.Kernel7Ideal.τ).loc Cert.Kernel7Ideal.main_v16_2) = (rl fun (_ : Fin 1) j => ∑ i, dg1 (W c) (T c i) j)
      ∧ r.2.mem ((c.tc : Thread Cert.Kernel7Ideal.nD Cert.Kernel7Ideal.τ).loc Cert.Kernel7Ideal.main_v16_3) = (rl fun (_ : Fin 1) e => ∑ a, ∑ i, headGain (dqs (T c i)) (T c i).q (lane a e))
      ∧ r.2.mem ((c.tc : Thread Cert.Kernel7Ideal.nD Cert.Kernel7Ideal.τ).loc Cert.Kernel7Ideal.main_v16_4) = (rl fun (_ : Fin 1) e => ∑ a, ∑ i, headGain (T c i).dk (T c i).k (lane a e))
      ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)) := by
  refine θ_run_mono (Cert.Kernel7Ideal.Value.run_blocks m g) fun r h c => ?_
  obtain ⟨r0, r1, r2, r3, r4, rest⟩ := h c
  exact ⟨r0.trans (Proj.arr13 (H c)), r1.trans (Proj.arr14 (H c)), r2.trans (Proj.arr15 (H c)), r3.trans (Proj.arr16 (H c)), r4.trans (Proj.arr17 (H c)), rest⟩

set_option maxHeartbeats 4000000 in
/-- The input projection's backward call and its reference. -/
theorem proj : Cert.algebraic_Kernel7Ideal_Reference7Ideal_pre_finite7 := by
  intro m g m' g' hpre hagree
  obtain ⟨W, T, H⟩ := Proj.launched_all m hpre
  have R : ∀ c, Proj.Ref.Inputs (W c) (T c) m' c := fun c => by
    obtain ⟨e0, e1, e2, e3, e4, e5, e6, e7, e8, e9, e10, e11⟩ := hagree c
    exact ⟨e0.trans (H c).dq, e1.trans (H c).dk, e2.trans (H c).dv, e3.trans (H c).du, e4.trans (H c).q, e5.trans (H c).k,
      e6.trans (H c).x, e7.trans (H c).r, e8.trans (H c).wi, e9.trans (H c).g1, e10.trans (H c).gq, e11.trans (H c).gk⟩
  refine ⟨_, _, _, _, _, proj_run m g W T H, ?_⟩
  refine θ_run_mono (Cert.Reference7Ideal.Value.run m' g') fun r h c => ?_
  obtain ⟨r0, r1, r2, r3, r4, rest⟩ := h c
  exact ⟨r0.trans (Proj.Ref.ref_dx (R c)), r1.trans (Proj.Ref.ref_dproj (R c)), r2.trans (Proj.Ref.ref_dg1 (R c)), r3.trans (Proj.Ref.ref_dgq (R c)),
    r4.trans (Proj.Ref.ref_dgk (R c)), rest⟩

theorem product2 : Cert.algebraic_Kernel2Ideal_Reference2Ideal := by
  pair_intro
  · run_from Cert.Kernel2Ideal.Gen.run_main m g
  · hlo_run
    exact (Products.G2.final m c).symm

theorem product3 : Cert.algebraic_Kernel3Ideal_Reference3Ideal := by
  pair_intro
  · run_from Cert.Kernel3Ideal.Gen.run_main m g
  · hlo_run
    exact (Products.G3.final m c).symm

theorem product4 : Cert.algebraic_Kernel4Ideal_Reference4Ideal := by
  pair_intro
  · run_from Cert.Kernel4Ideal.Gen.run_main m g
  · hlo_run
    exact (Products.G4.final m c).symm

theorem product5 : Cert.algebraic_Kernel5Ideal_Reference5Ideal := by
  pair_intro
  · run_from Cert.Kernel5Ideal.Gen.run_main m g
  · hlo_run
    exact (Products.G5.final m c).symm

theorem product6 : Cert.algebraic_Kernel6Ideal_Reference6Ideal := by
  pair_intro
  · run_from Cert.Kernel6Ideal.Gen.run_main m g
  · hlo_run
    exact (Products.G6.final m c).symm

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Pre_finite.Gen.facts, Cert.Pre_finite7.Gen.facts,
  fun m ρ _ => printed_frame m ρ,
  fun m ρ _ => Mixer.frame m ρ,
  fun m ρ _ => Mixer.frame m ρ,
  fun m ρ _ => (θ_run Cert.ReferenceIdeal.defs _ _).mono (fun r h => ⟨fun c => (h c).2.2.2.2.2.2.2.2.2.2.2.2.2.2.2.2, sem_eq_zero_of_no_sems (by decide) r.2⟩) (Cert.ReferenceIdeal.Value.run m ρ),
  fun m ρ _ => (θ_run Cert.ReferenceIdeal.defs _ _).mono (fun r h => ⟨fun c => (h c).2.2.2.2.2.2.2.2.2.2.2.2.2.2.2.2, sem_eq_zero_of_no_sems (by decide) r.2⟩) (Cert.ReferenceIdeal.Value.run m ρ),
  fun m ρ _ => Cert.Kernel2.Gen.frame m ρ,
  fun m ρ _ => Cert.Kernel2Ideal.Gen.frame m ρ,
  fun m ρ _ => (θ_run Cert.Reference2Ideal.defs _ _).mono (fun r h => ⟨fun c => (h c).2, sem_eq_zero_of_no_sems (by decide) r.2⟩) (Cert.Reference2Ideal.Value.run m ρ),
  fun m ρ _ => Cert.Kernel3.Gen.frame m ρ,
  fun m ρ _ => Cert.Kernel3Ideal.Gen.frame m ρ,
  fun m ρ _ => (θ_run Cert.Reference3Ideal.defs _ _).mono (fun r h => ⟨fun c => (h c).2, sem_eq_zero_of_no_sems (by decide) r.2⟩) (Cert.Reference3Ideal.Value.run m ρ),
  fun m ρ _ => Cert.Kernel4.Gen.frame m ρ,
  fun m ρ _ => Cert.Kernel4Ideal.Gen.frame m ρ,
  fun m ρ _ => (θ_run Cert.Reference4Ideal.defs _ _).mono (fun r h => ⟨fun c => (h c).2, sem_eq_zero_of_no_sems (by decide) r.2⟩) (Cert.Reference4Ideal.Value.run m ρ),
  fun m ρ _ => Cert.Kernel5.Gen.frame m ρ,
  fun m ρ _ => Cert.Kernel5Ideal.Gen.frame m ρ,
  fun m ρ _ => (θ_run Cert.Reference5Ideal.defs _ _).mono (fun r h => ⟨fun c => (h c).2, sem_eq_zero_of_no_sems (by decide) r.2⟩) (Cert.Reference5Ideal.Value.run m ρ),
  fun m ρ _ => Cert.Kernel6.Gen.frame m ρ,
  fun m ρ _ => Cert.Kernel6Ideal.Gen.frame m ρ,
  fun m ρ _ => (θ_run Cert.Reference6Ideal.defs _ _).mono (fun r h => ⟨fun c => (h c).2, sem_eq_zero_of_no_sems (by decide) r.2⟩) (Cert.Reference6Ideal.Value.run m ρ),
  fun m ρ _ => Cert.Kernel7.Gen.frame m ρ,
  fun m ρ _ => Cert.Kernel7Ideal.Gen.frame m ρ,
  fun m ρ _ => Cert.Kernel7Ideal.Gen.frame m ρ,
  fun m ρ _ => (θ_run Cert.Reference7Ideal.defs _ _).mono (fun r h => ⟨fun c => (h c).2.2.2.2.2, sem_eq_zero_of_no_sems (by decide) r.2⟩) (Cert.Reference7Ideal.Value.run m ρ),
  fun m ρ _ => (θ_run Cert.Reference7Ideal.defs _ _).mono (fun r h => ⟨fun c => (h c).2.2.2.2.2, sem_eq_zero_of_no_sems (by decide) r.2⟩) (Cert.Reference7Ideal.Value.run m ρ),
  ⟨IdealRules.named_const.statement _ _ _ _ _ rfl, IdealRules.named_const.statement _ _ _ _ _ rfl⟩,
  mixer,
  trivial,
  product2,
  trivial,
  product3,
  trivial,
  product4,
  trivial,
  product5,
  trivial,
  product6,
  trivial,
  proj⟩

end Cert.Proof

end
